-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_inputs [hPre_attn_inputs : Cert.Pre_attn_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_attn_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_attn_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_inputs [hPre_attn_inputs : Cert.Pre_attn_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_attn_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_inputs [hPre_proj_inputs : Cert.Pre_proj_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).1 = (fun _ => 1#1)
    ∧ (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6))).2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_inputs [hPre_proj_inputs : Cert.Pre_proj_inputs.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))).1 = (fun _ => 1#1)
    ∧ (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6))).2 = (fun _ => 1#1)

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleIdeal_proj_sample_inputs [hPre_proj_sample_inputs : Cert.Pre_proj_sample_inputs.Facts] (m : (ℓ : Loc Cert.ProjSampleIdeal.nD Cert.ProjSampleIdeal.τ Cert.ProjSampleIdeal.sig) → Buf (Elt Ideal) ℓ) : Prop :=
  ∀ c : Dev Cert.ProjSampleIdeal.nD,
    (Cert.Pre_proj_sample_inputs.fn (F := Ideal) (m ((c.tc : Thread Cert.ProjSampleIdeal.nD Cert.ProjSampleIdeal.τ).loc Cert.ProjSampleIdeal.main_arg0)) (m ((c.tc : Thread Cert.ProjSampleIdeal.nD Cert.ProjSampleIdeal.τ).loc Cert.ProjSampleIdeal.main_arg1)) (m ((c.tc : Thread Cert.ProjSampleIdeal.nD Cert.ProjSampleIdeal.τ).loc Cert.ProjSampleIdeal.main_arg2)) (m ((c.tc : Thread Cert.ProjSampleIdeal.nD Cert.ProjSampleIdeal.τ).loc Cert.ProjSampleIdeal.main_arg3)) (m ((c.tc : Thread Cert.ProjSampleIdeal.nD Cert.ProjSampleIdeal.τ).loc Cert.ProjSampleIdeal.main_arg4)) (m ((c.tc : Thread Cert.ProjSampleIdeal.nD Cert.ProjSampleIdeal.τ).loc Cert.ProjSampleIdeal.main_arg5)) (m ((c.tc : Thread Cert.ProjSampleIdeal.nD Cert.ProjSampleIdeal.τ).loc Cert.ProjSampleIdeal.main_arg6))).1 = (fun _ => 1#1)
    ∧ (Cert.Pre_proj_sample_inputs.fn (F := Ideal) (m ((c.tc : Thread Cert.ProjSampleIdeal.nD Cert.ProjSampleIdeal.τ).loc Cert.ProjSampleIdeal.main_arg0)) (m ((c.tc : Thread Cert.ProjSampleIdeal.nD Cert.ProjSampleIdeal.τ).loc Cert.ProjSampleIdeal.main_arg1)) (m ((c.tc : Thread Cert.ProjSampleIdeal.nD Cert.ProjSampleIdeal.τ).loc Cert.ProjSampleIdeal.main_arg2)) (m ((c.tc : Thread Cert.ProjSampleIdeal.nD Cert.ProjSampleIdeal.τ).loc Cert.ProjSampleIdeal.main_arg3)) (m ((c.tc : Thread Cert.ProjSampleIdeal.nD Cert.ProjSampleIdeal.τ).loc Cert.ProjSampleIdeal.main_arg4)) (m ((c.tc : Thread Cert.ProjSampleIdeal.nD Cert.ProjSampleIdeal.τ).loc Cert.ProjSampleIdeal.main_arg5)) (m ((c.tc : Thread Cert.ProjSampleIdeal.nD Cert.ProjSampleIdeal.τ).loc Cert.ProjSampleIdeal.main_arg6))).2 = (fun _ => 1#1)

def Pre_ProjSampleRefIdeal (m : (ℓ : Loc Cert.ProjSampleRefIdeal.nD Cert.ProjSampleRefIdeal.τ Cert.ProjSampleRefIdeal.sig) → Buf (Elt Ideal) ℓ) : Prop :=
  True

def Pre_ProjSampleRefIdeal_proj_sample_inputs [hPre_proj_sample_inputs : Cert.Pre_proj_sample_inputs.Facts] (m : (ℓ : Loc Cert.ProjSampleRefIdeal.nD Cert.ProjSampleRefIdeal.τ Cert.ProjSampleRefIdeal.sig) → Buf (Elt Ideal) ℓ) : Prop :=
  ∀ c : Dev Cert.ProjSampleRefIdeal.nD,
    (Cert.Pre_proj_sample_inputs.fn (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2)) (m ((c.tc : Thread Cert.ProjSampleRefIdeal.nD Cert.ProjSampleRefIdeal.τ).loc Cert.ProjSampleRefIdeal.main_arg3)) (m ((c.tc : Thread Cert.ProjSampleRefIdeal.nD Cert.ProjSampleRefIdeal.τ).loc Cert.ProjSampleRefIdeal.main_arg4)) (m ((c.tc : Thread Cert.ProjSampleRefIdeal.nD Cert.ProjSampleRefIdeal.τ).loc Cert.ProjSampleRefIdeal.main_arg5)) (m ((c.tc : Thread Cert.ProjSampleRefIdeal.nD Cert.ProjSampleRefIdeal.τ).loc Cert.ProjSampleRefIdeal.main_arg6))).1 = (fun _ => 1#1)
    ∧ (Cert.Pre_proj_sample_inputs.fn (F := Ideal) (m ((c.tc : Thread Cert.ProjSampleRefIdeal.nD Cert.ProjSampleRefIdeal.τ).loc Cert.ProjSampleRefIdeal.main_arg0)) (m ((c.tc : Thread Cert.ProjSampleRefIdeal.nD Cert.ProjSampleRefIdeal.τ).loc Cert.ProjSampleRefIdeal.main_arg1)) (m ((c.tc : Thread Cert.ProjSampleRefIdeal.nD Cert.ProjSampleRefIdeal.τ).loc Cert.ProjSampleRefIdeal.main_arg2)) (m ((c.tc : Thread Cert.ProjSampleRefIdeal.nD Cert.ProjSampleRefIdeal.τ).loc Cert.ProjSampleRefIdeal.main_arg3)) (m ((c.tc : Thread Cert.ProjSampleRefIdeal.nD Cert.ProjSampleRefIdeal.τ).loc Cert.ProjSampleRefIdeal.main_arg4)) (m ((c.tc : Thread Cert.ProjSampleRefIdeal.nD Cert.ProjSampleRefIdeal.τ).loc Cert.ProjSampleRefIdeal.main_arg5)) (m ((c.tc : Thread Cert.ProjSampleRefIdeal.nD Cert.ProjSampleRefIdeal.τ).loc Cert.ProjSampleRefIdeal.main_arg6))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_inputs [hAttnIdeal : Cert.AttnIdeal.Facts] [hPre_attn_inputs : Cert.Pre_attn_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_inputs [hAttnRefIdeal : Cert.AttnRefIdeal.Facts] [hPre_attn_inputs : Cert.Pre_attn_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjIdeal_pre_proj_inputs [hProjIdeal : Cert.ProjIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjRefIdeal_pre_proj_inputs [hProjRefIdeal : Cert.ProjRefIdeal.Facts] [hPre_proj_inputs : Cert.Pre_proj_inputs.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_inputs m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4)
      ∧ r.2.mem ((c.tc : Thread Cert.ProjSample.nD Cert.ProjSample.τ).loc Cert.ProjSample.main_arg5) = m ((c.tc : Thread Cert.ProjSample.nD Cert.ProjSample.τ).loc Cert.ProjSample.main_arg5)
      ∧ r.2.mem ((c.tc : Thread Cert.ProjSample.nD Cert.ProjSample.τ).loc Cert.ProjSample.main_arg6) = m ((c.tc : Thread Cert.ProjSample.nD Cert.ProjSample.τ).loc Cert.ProjSample.main_arg6))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6))
      ∧ r.2.sem = fun _ => 0)

def quiescent_ProjSampleIdeal_pre_proj_sample_inputs [hProjSampleIdeal : Cert.ProjSampleIdeal.Facts] [hPre_proj_sample_inputs : Cert.Pre_proj_sample_inputs.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal_proj_sample_inputs m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
      ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
      ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3)
      ∧ r.2.mem ((c.tc : Thread Cert.ProjSampleRefIdeal.nD Cert.ProjSampleRefIdeal.τ).loc Cert.ProjSampleRefIdeal.main_arg4) = m ((c.tc : Thread Cert.ProjSampleRefIdeal.nD Cert.ProjSampleRefIdeal.τ).loc Cert.ProjSampleRefIdeal.main_arg4)
      ∧ r.2.mem ((c.tc : Thread Cert.ProjSampleRefIdeal.nD Cert.ProjSampleRefIdeal.τ).loc Cert.ProjSampleRefIdeal.main_arg5) = m ((c.tc : Thread Cert.ProjSampleRefIdeal.nD Cert.ProjSampleRefIdeal.τ).loc Cert.ProjSampleRefIdeal.main_arg5)
      ∧ r.2.mem ((c.tc : Thread Cert.ProjSampleRefIdeal.nD Cert.ProjSampleRefIdeal.τ).loc Cert.ProjSampleRefIdeal.main_arg6) = m ((c.tc : Thread Cert.ProjSampleRefIdeal.nD Cert.ProjSampleRefIdeal.τ).loc Cert.ProjSampleRefIdeal.main_arg6))
      ∧ r.2.sem = fun _ => 0)

def quiescent_ProjSampleRefIdeal_pre_proj_sample_inputs [hProjSampleRefIdeal : Cert.ProjSampleRefIdeal.Facts] [hPre_proj_sample_inputs : Cert.Pre_proj_sample_inputs.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal_proj_sample_inputs m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3)
      ∧ r.2.mem ((c.tc : Thread Cert.ProjSampleRefIdeal.nD Cert.ProjSampleRefIdeal.τ).loc Cert.ProjSampleRefIdeal.main_arg4) = m ((c.tc : Thread Cert.ProjSampleRefIdeal.nD Cert.ProjSampleRefIdeal.τ).loc Cert.ProjSampleRefIdeal.main_arg4)
      ∧ r.2.mem ((c.tc : Thread Cert.ProjSampleRefIdeal.nD Cert.ProjSampleRefIdeal.τ).loc Cert.ProjSampleRefIdeal.main_arg5) = m ((c.tc : Thread Cert.ProjSampleRefIdeal.nD Cert.ProjSampleRefIdeal.τ).loc Cert.ProjSampleRefIdeal.main_arg5)
      ∧ r.2.mem ((c.tc : Thread Cert.ProjSampleRefIdeal.nD Cert.ProjSampleRefIdeal.τ).loc Cert.ProjSampleRefIdeal.main_arg6) = m ((c.tc : Thread Cert.ProjSampleRefIdeal.nD Cert.ProjSampleRefIdeal.τ).loc Cert.ProjSampleRefIdeal.main_arg6))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_inputs [hAttnIdeal : Cert.AttnIdeal.Facts] [hAttnRefIdeal : Cert.AttnRefIdeal.Facts] [hPre_attn_inputs : Cert.Pre_attn_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v40) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)) →
    ∃ (v0 : (c : Dev Cert.PostIdeal.nD) → Buf (Elt Ideal) ((c.tc : Thread Cert.PostIdeal.nD Cert.PostIdeal.τ).loc Cert.PostIdeal.main_v9)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v9) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v46) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8))

def preserves_Proj_ProjIdeal : Prop :=
  True

def algebraic_ProjIdeal_ProjRefIdeal_pre_proj_inputs [hProjIdeal : Cert.ProjIdeal.Facts] [hProjRefIdeal : Cert.ProjRefIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_inputs m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v72_1)) (v1 : (c : Dev Cert.ProjIdeal.nD) → Buf (Elt Ideal) ((c.tc : Thread Cert.ProjIdeal.nD Cert.ProjIdeal.τ).loc Cert.ProjIdeal.main_v72_2)) (v2 : (c : Dev Cert.ProjIdeal.nD) → Buf (Elt Ideal) ((c.tc : Thread Cert.ProjIdeal.nD Cert.ProjIdeal.τ).loc Cert.ProjIdeal.main_v72_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v72_1) = v0 c
          ∧ r.2.mem ((c.tc : Thread Cert.ProjIdeal.nD Cert.ProjIdeal.τ).loc Cert.ProjIdeal.main_v72_2) = v1 c
          ∧ r.2.mem ((c.tc : Thread Cert.ProjIdeal.nD Cert.ProjIdeal.τ).loc Cert.ProjIdeal.main_v72_3) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v30) = v0 c
          ∧ r.2.mem ((c.tc : Thread Cert.ProjRefIdeal.nD Cert.ProjRefIdeal.τ).loc Cert.ProjRefIdeal.main_v64) = v1 c
          ∧ r.2.mem ((c.tc : Thread Cert.ProjRefIdeal.nD Cert.ProjRefIdeal.τ).loc Cert.ProjRefIdeal.main_v17) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_ProjSample_ProjSampleIdeal : Prop :=
  True

def algebraic_ProjSampleIdeal_ProjSampleRefIdeal_pre_proj_sample_inputs [hProjSampleIdeal : Cert.ProjSampleIdeal.Facts] [hProjSampleRefIdeal : Cert.ProjSampleRefIdeal.Facts] [hPre_proj_sample_inputs : Cert.Pre_proj_sample_inputs.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal_proj_sample_inputs m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)
      ∧ m' ((c.tc : Thread Cert.ProjSampleRefIdeal.nD Cert.ProjSampleRefIdeal.τ).loc Cert.ProjSampleRefIdeal.main_arg5) = m ((c.tc : Thread Cert.ProjSampleIdeal.nD Cert.ProjSampleIdeal.τ).loc Cert.ProjSampleIdeal.main_arg5)
      ∧ m' ((c.tc : Thread Cert.ProjSampleRefIdeal.nD Cert.ProjSampleRefIdeal.τ).loc Cert.ProjSampleRefIdeal.main_arg6) = m ((c.tc : Thread Cert.ProjSampleIdeal.nD Cert.ProjSampleIdeal.τ).loc Cert.ProjSampleIdeal.main_arg6)) →
    ∃ (v0 : (c : Dev Cert.ProjSampleIdeal.nD) → Buf (Elt Ideal) ((c.tc : Thread Cert.ProjSampleIdeal.nD Cert.ProjSampleIdeal.τ).loc Cert.ProjSampleIdeal.main_v89_1)) (v1 : (c : Dev Cert.ProjSampleIdeal.nD) → Buf (Elt Ideal) ((c.tc : Thread Cert.ProjSampleIdeal.nD Cert.ProjSampleIdeal.τ).loc Cert.ProjSampleIdeal.main_v89_2)) (v2 : (c : Dev Cert.ProjSampleIdeal.nD) → Buf (Elt Ideal) ((c.tc : Thread Cert.ProjSampleIdeal.nD Cert.ProjSampleIdeal.τ).loc Cert.ProjSampleIdeal.main_v89_3)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v89_1) = v0 c
          ∧ r.2.mem ((c.tc : Thread Cert.ProjSampleIdeal.nD Cert.ProjSampleIdeal.τ).loc Cert.ProjSampleIdeal.main_v89_2) = v1 c
          ∧ r.2.mem ((c.tc : Thread Cert.ProjSampleIdeal.nD Cert.ProjSampleIdeal.τ).loc Cert.ProjSampleIdeal.main_v89_3) = v2 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4)
          ∧ r.2.mem ((c.tc : Thread Cert.ProjSampleIdeal.nD Cert.ProjSampleIdeal.τ).loc Cert.ProjSampleIdeal.main_arg5) = m ((c.tc : Thread Cert.ProjSampleIdeal.nD Cert.ProjSampleIdeal.τ).loc Cert.ProjSampleIdeal.main_arg5)
          ∧ r.2.mem ((c.tc : Thread Cert.ProjSampleIdeal.nD Cert.ProjSampleIdeal.τ).loc Cert.ProjSampleIdeal.main_arg6) = m ((c.tc : Thread Cert.ProjSampleIdeal.nD Cert.ProjSampleIdeal.τ).loc Cert.ProjSampleIdeal.main_arg6))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v30) = v0 c
          ∧ r.2.mem ((c.tc : Thread Cert.ProjSampleRefIdeal.nD Cert.ProjSampleRefIdeal.τ).loc Cert.ProjSampleRefIdeal.main_v66) = v1 c
          ∧ r.2.mem ((c.tc : Thread Cert.ProjSampleRefIdeal.nD Cert.ProjSampleRefIdeal.τ).loc Cert.ProjSampleRefIdeal.main_v17) = v2 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3)
          ∧ r.2.mem ((c.tc : Thread Cert.ProjSampleRefIdeal.nD Cert.ProjSampleRefIdeal.τ).loc Cert.ProjSampleRefIdeal.main_arg4) = m' ((c.tc : Thread Cert.ProjSampleRefIdeal.nD Cert.ProjSampleRefIdeal.τ).loc Cert.ProjSampleRefIdeal.main_arg4)
          ∧ r.2.mem ((c.tc : Thread Cert.ProjSampleRefIdeal.nD Cert.ProjSampleRefIdeal.τ).loc Cert.ProjSampleRefIdeal.main_arg5) = m' ((c.tc : Thread Cert.ProjSampleRefIdeal.nD Cert.ProjSampleRefIdeal.τ).loc Cert.ProjSampleRefIdeal.main_arg5)
          ∧ r.2.mem ((c.tc : Thread Cert.ProjSampleRefIdeal.nD Cert.ProjSampleRefIdeal.τ).loc Cert.ProjSampleRefIdeal.main_arg6) = m' ((c.tc : Thread Cert.ProjSampleRefIdeal.nD Cert.ProjSampleRefIdeal.τ).loc Cert.ProjSampleRefIdeal.main_arg6))

def Claim : Prop :=
  ∃ (hAttn : Cert.Attn.Facts) (hAttnIdeal : Cert.AttnIdeal.Facts) (hAttnRefIdeal : Cert.AttnRefIdeal.Facts) (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hProjSample : Cert.ProjSample.Facts) (hProjSampleIdeal : Cert.ProjSampleIdeal.Facts) (hProjSampleRefIdeal : Cert.ProjSampleRefIdeal.Facts) (hPre_attn_inputs : Cert.Pre_attn_inputs.Facts) (hPre_proj_inputs : Cert.Pre_proj_inputs.Facts) (hPre_proj_sample_inputs : Cert.Pre_proj_sample_inputs.Facts),
    quiescent_Attn (hAttn := hAttn)
    ∧ quiescent_AttnIdeal (hAttnIdeal := hAttnIdeal)
    ∧ quiescent_AttnIdeal_pre_attn_inputs (hAttnIdeal := hAttnIdeal) (hPre_attn_inputs := hPre_attn_inputs)
    ∧ quiescent_AttnRefIdeal (hAttnRefIdeal := hAttnRefIdeal)
    ∧ quiescent_AttnRefIdeal_pre_attn_inputs (hAttnRefIdeal := hAttnRefIdeal) (hPre_attn_inputs := hPre_attn_inputs)
    ∧ quiescent_Post (hPost := hPost)
    ∧ quiescent_PostIdeal (hPostIdeal := hPostIdeal)
    ∧ quiescent_PostRefIdeal (hPostRefIdeal := hPostRefIdeal)
    ∧ quiescent_Proj (hProj := hProj)
    ∧ quiescent_ProjIdeal (hProjIdeal := hProjIdeal)
    ∧ quiescent_ProjIdeal_pre_proj_inputs (hProjIdeal := hProjIdeal) (hPre_proj_inputs := hPre_proj_inputs)
    ∧ quiescent_ProjRefIdeal (hProjRefIdeal := hProjRefIdeal)
    ∧ quiescent_ProjRefIdeal_pre_proj_inputs (hProjRefIdeal := hProjRefIdeal) (hPre_proj_inputs := hPre_proj_inputs)
    ∧ quiescent_ProjSample (hProjSample := hProjSample)
    ∧ quiescent_ProjSampleIdeal (hProjSampleIdeal := hProjSampleIdeal)
    ∧ quiescent_ProjSampleIdeal_pre_proj_sample_inputs (hProjSampleIdeal := hProjSampleIdeal) (hPre_proj_sample_inputs := hPre_proj_sample_inputs)
    ∧ quiescent_ProjSampleRefIdeal (hProjSampleRefIdeal := hProjSampleRefIdeal)
    ∧ quiescent_ProjSampleRefIdeal_pre_proj_sample_inputs (hProjSampleRefIdeal := hProjSampleRefIdeal) (hPre_proj_sample_inputs := hPre_proj_sample_inputs)
    ∧ preserves_Attn_AttnIdeal
    ∧ algebraic_AttnIdeal_AttnRefIdeal_pre_attn_inputs (hAttnIdeal := hAttnIdeal) (hAttnRefIdeal := hAttnRefIdeal) (hPre_attn_inputs := hPre_attn_inputs)
    ∧ preserves_Post_PostIdeal
    ∧ algebraic_PostIdeal_PostRefIdeal (hPostIdeal := hPostIdeal) (hPostRefIdeal := hPostRefIdeal)
    ∧ preserves_Proj_ProjIdeal
    ∧ algebraic_ProjIdeal_ProjRefIdeal_pre_proj_inputs (hProjIdeal := hProjIdeal) (hProjRefIdeal := hProjRefIdeal) (hPre_proj_inputs := hPre_proj_inputs)
    ∧ preserves_ProjSample_ProjSampleIdeal
    ∧ algebraic_ProjSampleIdeal_ProjSampleRefIdeal_pre_proj_sample_inputs (hProjSampleIdeal := hProjSampleIdeal) (hProjSampleRefIdeal := hProjSampleRefIdeal) (hPre_proj_sample_inputs := hPre_proj_sample_inputs)
-- ==== Pre_attn_inputs.lean ====
abbrev S8x4x8192x256 : Shape := ⟨4, ![8, 4, 8192, 256]⟩
abbrev S8x16x1024x512 : Shape := ⟨4, ![8, 16, 1024, 512]⟩
abbrev S_ : Shape := ⟨0, ![]⟩
abbrev S8x16x8x128x512 : Shape := ⟨5, ![8, 16, 8, 128, 512]⟩
abbrev S8x16x8x1x512 : Shape := ⟨5, ![8, 16, 8, 1, 512]⟩
abbrev S8x16x8x512 : Shape := ⟨4, ![8, 16, 8, 512]⟩

class Facts : Prop where
  bitsLt_bf16_f32 : FTy.bits .bf16 < FTy.bits .f32
  bcast_S_S8x4x8192x256 : S_.BroadcastsInDim S8x4x8192x256 (![] : Fin 0 → Fin S8x4x8192x256.rank)
  shapeCasts_S8x16x1024x512_S8x16x8x128x512 : S8x16x1024x512.ShapeCasts S8x16x8x128x512
  slices_S8x16x8x128x512_S8x16x8x1x512_0_0_0_64_0 : S8x16x8x128x512.Slices ![0, 0, 0, 64, 0] S8x16x8x1x512
  shapeCasts_S8x16x8x1x512_S8x16x8x512 : S8x16x8x1x512.ShapeCasts S8x16x8x512
  bcast_S_S8x16x8x512 : S_.BroadcastsInDim S8x16x8x512 (![] : Fin 0 → Fin S8x16x8x512.rank)

variable [Facts]

def fn {F : FTy → Type} [FloatOps F] (main_arg0 : FVec F S8x4x8192x256 .bf16) (main_arg1 : FVec F S8x4x8192x256 .bf16) (main_arg2 : FVec F S8x16x1024x512 .bf16) : IVec S8x4x8192x256 1 × IVec S8x4x8192x256 1 × IVec S8x16x8x512 1 :=
  let main_v0 : FVec F S8x4x8192x256 .f32 := (extf .f32 · bitsLt_bf16_f32) main_arg0
  let main_v1 : FVec F S8x4x8192x256 .f32 := Host.absf main_v0
  let main_cst : FVec F S_ .f32 := constant S_ .f32 0x7F800000#32
  let main_v2 : FVec F S8x4x8192x256 .f32 := broadcastInDim S8x4x8192x256 ![] bcast_S_S8x4x8192x256 main_cst
  let main_v3 : IVec S8x4x8192x256 1 := cmpf .olt main_v1 main_v2
  let main_v4 : FVec F S8x4x8192x256 .f32 := (extf .f32 · bitsLt_bf16_f32) main_arg1
  let main_v5 : FVec F S8x4x8192x256 .f32 := Host.absf main_v4
  let main_cst_0 : FVec F S_ .f32 := constant S_ .f32 0x7F800000#32
  let main_v6 : FVec F S8x4x8192x256 .f32 := broadcastInDim S8x4x8192x256 ![] bcast_S_S8x4x8192x256 main_cst_0
  let main_v7 : IVec S8x4x8192x256 1 := cmpf .olt main_v5 main_v6
  let main_v8 : FVec F S8x16x1024x512 .f32 := (extf .f32 · bitsLt_bf16_f32) main_arg2
  let main_v9 : FVec F S8x16x8x128x512 .f32 := shapeCast S8x16x8x128x512 main_v8 shapeCasts_S8x16x1024x512_S8x16x8x128x512
  let main_v10 : FVec F S8x16x8x1x512 .f32 := (extractStridedSlice S8x16x8x1x512 ![0, 0, 0, 64, 0] · slices_S8x16x8x128x512_S8x16x8x1x512_0_0_0_64_0) main_v9
  let main_v11 : FVec F S8x16x8x512 .f32 := shapeCast S8x16x8x512 main_v10 shapeCasts_S8x16x8x1x512_S8x16x8x512
  let main_cst_1 : FVec F S_ .f32 := constant S_ .f32 0x3F800000#32
  let main_v12 : FVec F S8x16x8x512 .f32 := broadcastInDim S8x16x8x512 ![] bcast_S_S8x16x8x512 main_cst_1
  let main_v13 : IVec S8x16x8x512 1 := cmpf .oeq main_v11 main_v12
  (main_v3, main_v7, main_v13)
-- ==== Pre_proj_inputs.lean ====
abbrev S65536x1024 : Shape := ⟨2, ![65536, 1024]⟩
abbrev S1024 : Shape := ⟨1, ![1024]⟩
abbrev S1024x1568 : Shape := ⟨2, ![1024, 1568]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S1024x16 : Shape := ⟨2, ![1024, 16]⟩
abbrev S_ : Shape := ⟨0, ![]⟩

class Facts : Prop where
  slices_S1024x1568_S1024x16_0_1040 : S1024x1568.Slices ![0, 1040] S1024x16
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S65536x1024 .f32) (main_arg1 : FVec F S1024 .f32) (main_arg2 : FVec F S1024x1568 .f32) (main_arg3 : FVec F S768 .f32) (main_arg4 : FVec F S768x768 .f32) (main_arg5 : FVec F S256 .f32) (main_arg6 : FVec F S256x1024 .f32) : IVec S1024 1 × IVec S1024x16 1 :=
  let main_v0 : FVec F S1024x16 .f32 := (extractStridedSlice S1024x16 ![0, 1040] · slices_S1024x1568_S1024x16_0_1040) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x16 .f32 := Host.absf main_v0
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  (main_v3, main_v6)
-- ==== Pre_proj_sample_inputs.lean ====
abbrev S2048x1024 : Shape := ⟨2, ![2048, 1024]⟩
abbrev S1024 : Shape := ⟨1, ![1024]⟩
abbrev S1024x1568 : Shape := ⟨2, ![1024, 1568]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S1024x16 : Shape := ⟨2, ![1024, 16]⟩
abbrev S_ : Shape := ⟨0, ![]⟩

class Facts : Prop where
  slices_S1024x1568_S1024x16_0_1040 : S1024x1568.Slices ![0, 1040] S1024x16
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S2048x1024 .f32) (main_arg1 : FVec F S1024 .f32) (main_arg2 : FVec F S1024x1568 .f32) (main_arg3 : FVec F S768 .f32) (main_arg4 : FVec F S768x768 .f32) (main_arg5 : FVec F S256 .f32) (main_arg6 : FVec F S256x1024 .f32) : IVec S1024 1 × IVec S1024x16 1 :=
  let main_v0 : FVec F S1024x16 .f32 := (extractStridedSlice S1024x16 ![0, 1040] · slices_S1024x1568_S1024x16_0_1040) main_arg2
  let main_v1 : FVec F S1024 .f32 := Host.absf main_arg1
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x16 .f32 := Host.absf main_v0
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  (main_v3, main_v6)
-- ==== Attn.lean ====
abbrev S8x4x8192x256 : Shape := ⟨4, ![8, 4, 8192, 256]⟩
abbrev S8x16x1024x512 : Shape := ⟨4, ![8, 16, 1024, 512]⟩
abbrev S8x8192x512 : Shape := ⟨3, ![8, 8192, 512]⟩
abbrev S1x1x512x256 : Shape := ⟨4, ![1, 1, 512, 256]⟩
abbrev S1x1x8192x256 : Shape := ⟨4, ![1, 1, 8192, 256]⟩
abbrev S1x16x256x512 : Shape := ⟨4, ![1, 16, 256, 512]⟩
abbrev S1x512x128 : Shape := ⟨3, ![1, 512, 128]⟩
abbrev S512x512 : Shape := ⟨2, ![512, 512]⟩
abbrev S2x2x2x1x512 : Shape := ⟨5, ![2, 2, 2, 1, 512]⟩
abbrev S1x512 : Shape := ⟨2, ![1, 512]⟩
abbrev S128x512 : Shape := ⟨2, ![128, 512]⟩
abbrev S1x1x512x128 : Shape := ⟨4, ![1, 1, 512, 128]⟩
abbrev S512x128 : Shape := ⟨2, ![512, 128]⟩
abbrev S256x512 : Shape := ⟨2, ![256, 512]⟩
abbrev S512 : Shape := ⟨1, ![512]⟩
abbrev S1x1x1x1x512 : Shape := ⟨5, ![1, 1, 1, 1, 512]⟩
abbrev S1x1x128x256 : Shape := ⟨4, ![1, 1, 128, 256]⟩
abbrev S128x256 : Shape := ⟨2, ![128, 256]⟩
abbrev S256x256 : Shape := ⟨2, ![256, 256]⟩
abbrev S1x256 : Shape := ⟨2, ![1, 256]⟩
abbrev S256 : Shape := ⟨1, ![256]⟩
abbrev S64x512 : Shape := ⟨2, ![64, 512]⟩

abbrev nBuf : Space → Nat
  | .hbm => 4
  | .vmem => 13
  | .smem => 0
  | _ => 0

abbrev bufTy : (tb : Table) → Fin (tcTables nBuf tb) → BufTy
  | .hbm, ⟨0, _⟩ => ⟨S8x4x8192x256, .bf16⟩
  | .hbm, ⟨1, _⟩ => ⟨S8x4x8192x256, .bf16⟩
  | .hbm, ⟨2, _⟩ => ⟨S8x16x1024x512, .bf16⟩
  | .hbm, ⟨3, _⟩ => ⟨S8x8192x512, .f32⟩
  | .local _ .vmem, ⟨0, _⟩ => ⟨S1x1x512x256, .bf16⟩
  | .local _ .vmem, ⟨1, _⟩ => ⟨S1x1x512x256, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x16x256x512, .bf16⟩
  | .local _ .vmem, ⟨5, _⟩ => ⟨S1x16x256x512, .bf16⟩
  | .local _ .vmem, ⟨6, _⟩ => ⟨S1x512x128, .f32⟩
  | .local _ .vmem, ⟨7, _⟩ => ⟨S1x512x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S2x2x2x1x512, .f32⟩
  | _, _ => ⟨S8x4x8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

def k0_mult1 : BitVec 32 :=
  let c0_i32_14 : BitVec 32 := 0#32
  c0_i32_14
@[reducible] def k0_t1_loop (i : grid0.Coords) : Scf.Loop 32 :=
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_64 : BitVec 32 := 1#32
  ⟨c0_i32_62, v119, c1_i32_64⟩
def k0_mult2 (i : grid0.Coords) (k0_t1 : Fin (k0_t1_loop i).trips) : BitVec 32 :=
  let c2_i32_77 : BitVec 32 := 2#32
  let c0_i32_62 : BitVec 32 := 0#32
  let c1_i32_64 : BitVec 32 := 1#32
  let arg12 : BitVec 32 := Scf.iv c0_i32_62 c1_i32_64 k0_t1
  let v149 : BitVec 32 := Scalar.muli c2_i32_77 arg12
  let c1_i32_78 : BitVec 32 := 1#32
  let v150 : BitVec 32 := Scalar.addi v149 c1_i32_78
  let c512_i32 : BitVec 32 := 512#32
  let v151 : BitVec 32 := Scalar.muli v150 c512_i32
  v151
def k0_off1 (i : grid0.Coords) (k0_t1 : Fin (k0_t1_loop i).trips) (c1_i32_78 : BitVec 32) : Fin 4 → Nat :=
  let c0_79 : Index := 0#32
  let c0_80 : Index := 0#32
  let c2_i32_77 : BitVec 32 := 2#32
  let c0_i32_62 : BitVec 32 := 0#32
  let c1_i32_64 : BitVec 32 := 1#32
  let arg12 : BitVec 32 := Scf.iv c0_i32_62 c1_i32_64 k0_t1
  let v149 : BitVec 32 := Scalar.muli c2_i32_77 arg12
  let v150 : BitVec 32 := Scalar.addi v149 c1_i32_78
  let c512_i32 : BitVec 32 := 512#32
  let v151 : BitVec 32 := Scalar.muli v150 c512_i32
  let v152 : BitVec 32 := v151
  let v153 : Index := Scalar.indexCast v152
  let c0_81 : Index := 0#32
  ![0, 0, v153.toNat, 0]
def k0_off2 (i : grid0.Coords) (k0_t1 : Fin (k0_t1_loop i).trips) (c1_i32_78 : BitVec 32) : Fin 4 → Nat :=
  let c0_101 : Index := 0#32
  let c0_102 : Index := 0#32
  let c2_i32_77 : BitVec 32 := 2#32
  let c0_i32_62 : BitVec 32 := 0#32
  let c1_i32_64 : BitVec 32 := 1#32
  let arg12 : BitVec 32 := Scf.iv c0_i32_62 c1_i32_64 k0_t1
  let v149 : BitVec 32 := Scalar.muli c2_i32_77 arg12
  let v150 : BitVec 32 := Scalar.addi v149 c1_i32_78
  let c512_i32 : BitVec 32 := 512#32
  let v151 : BitVec 32 := Scalar.muli v150 c512_i32
  let v152 : BitVec 32 := v151
  let v174 : Index := Scalar.indexCast v152
  let c128_103 : Index := 128#32
  ![0, 0, v174.toNat, 128]
def k0_off3 (i : grid0.Coords) (k0_t1 : Fin (k0_t1_loop i).trips) : Fin 4 → Nat :=
  let c0_131 : Index := 0#32
  let c2_i32_123 : BitVec 32 := 2#32
  let c0_i32_62 : BitVec 32 := 0#32
  let c1_i32_64 : BitVec 32 := 1#32
  let arg12 : BitVec 32 := Scf.iv c0_i32_62 c1_i32_64 k0_t1
  let v195 : BitVec 32 := Scalar.muli c2_i32_123 arg12
  let v208 : Index := Scalar.indexCast v195
  let c0_132 : Index := 0#32
  let c0_133 : Index := 0#32
  ![0, v208.toNat, 0, 0]
def k0_off4 (i : grid0.Coords) (k0_t1 : Fin (k0_t1_loop i).trips) : Fin 4 → Nat :=
  let c0_142 : Index := 0#32
  let c2_i32_123 : BitVec 32 := 2#32
  let c0_i32_62 : BitVec 32 := 0#32
  let c1_i32_64 : BitVec 32 := 1#32
  let arg12 : BitVec 32 := Scf.iv c0_i32_62 c1_i32_64 k0_t1
  let v195 : BitVec 32 := Scalar.muli c2_i32_123 arg12
  let v225 : Index := Scalar.indexCast v195
  let c128_143 : Index := 128#32
  let c0_144 : Index := 0#32
  ![0, v225.toNat, 128, 0]
def k0_off5 (i : grid0.Coords) (k0_t1 : Fin (k0_t1_loop i).trips) : Fin 4 → Nat :=
  let c0_152 : Index := 0#32
  let c2_i32_123 : BitVec 32 := 2#32
  let c0_i32_62 : BitVec 32 := 0#32
  let c1_i32_64 : BitVec 32 := 1#32
  let arg12 : BitVec 32 := Scf.iv c0_i32_62 c1_i32_64 k0_t1
  let v195 : BitVec 32 := Scalar.muli c2_i32_123 arg12
  let v242 : Index := Scalar.indexCast v195
  let c0_153 : Index := 0#32
  let c256_154 : Index := 256#32
  ![0, v242.toNat, 0, 256]
def k0_off6 (i : grid0.Coords) (k0_t1 : Fin (k0_t1_loop i).trips) : Fin 4 → Nat :=
  let c0_163 : Index := 0#32
  let c2_i32_123 : BitVec 32 := 2#32
  let c0_i32_62 : BitVec 32 := 0#32
  let c1_i32_64 : BitVec 32 := 1#32
  let arg12 : BitVec 32 := Scf.iv c0_i32_62 c1_i32_64 k0_t1
  let v195 : BitVec 32 := Scalar.muli c2_i32_123 arg12
  let v259 : Index := Scalar.indexCast v195
  let c128_164 : Index := 128#32
  let c256_165 : Index := 256#32
  ![0, v259.toNat, 128, 256]
def k0_mult3 (i : grid0.Coords) (k0_t1 : Fin (k0_t1_loop i).trips) : BitVec 32 :=
  let c2_i32_167 : BitVec 32 := 2#32
  let c0_i32_62 : BitVec 32 := 0#32
  let c1_i32_64 : BitVec 32 := 1#32
  let arg12 : BitVec 32 := Scf.iv c0_i32_62 c1_i32_64 k0_t1
  let v264 : BitVec 32 := Scalar.muli c2_i32_167 arg12
  let c2_i32_168 : BitVec 32 := 2#32
  let v265 : BitVec 32 := Scalar.addi v264 c2_i32_168
  let c512_i32_169 : BitVec 32 := 512#32
  let v266 : BitVec 32 := Scalar.muli v265 c512_i32_169
  v266
def k0_off7 (i : grid0.Coords) (k0_t1 : Fin (k0_t1_loop i).trips) : Fin 4 → Nat :=
  let c0_223 : Index := 0#32
  let c2_i32_214 : BitVec 32 := 2#32
  let c0_i32_62 : BitVec 32 := 0#32
  let c1_i32_64 : BitVec 32 := 1#32
  let arg12 : BitVec 32 := Scf.iv c0_i32_62 c1_i32_64 k0_t1
  let v310 : BitVec 32 := Scalar.muli c2_i32_214 arg12
  let c1_i32_215 : BitVec 32 := 1#32
  let v311 : BitVec 32 := Scalar.addi v310 c1_i32_215
  let v324 : Index := Scalar.indexCast v311
  let c0_224 : Index := 0#32
  let c0_225 : Index := 0#32
  ![0, v324.toNat, 0, 0]
def k0_off8 (i : grid0.Coords) (k0_t1 : Fin (k0_t1_loop i).trips) : Fin 4 → Nat :=
  let c0_234 : Index := 0#32
  let c2_i32_214 : BitVec 32 := 2#32
  let c0_i32_62 : BitVec 32 := 0#32
  let c1_i32_64 : BitVec 32 := 1#32
  let arg12 : BitVec 32 := Scf.iv c0_i32_62 c1_i32_64 k0_t1
  let v310 : BitVec 32 := Scalar.muli c2_i32_214 arg12
  let c1_i32_215 : BitVec 32 := 1#32
  let v311 : BitVec 32 := Scalar.addi v310 c1_i32_215
  let v341 : Index := Scalar.indexCast v311
  let c128_235 : Index := 128#32
  let c0_236 : Index := 0#32
  ![0, v341.toNat, 128, 0]
def k0_off9 (i : grid0.Coords) (k0_t1 : Fin (k0_t1_loop i).trips) : Fin 4 → Nat :=
  let c0_245 : Index := 0#32
  let c2_i32_214 : BitVec 32 := 2#32
  let c0_i32_62 : BitVec 32 := 0#32
  let c1_i32_64 : BitVec 32 := 1#32
  let arg12 : BitVec 32 := Scf.iv c0_i32_62 c1_i32_64 k0_t1
  let v310 : BitVec 32 := Scalar.muli c2_i32_214 arg12
  let c1_i32_215 : BitVec 32 := 1#32
  let v311 : BitVec 32 := Scalar.addi v310 c1_i32_215
  let v358 : Index := Scalar.indexCast v311
  let c0_246 : Index := 0#32
  let c256_247 : Index := 256#32
  ![0, v358.toNat, 0, 256]
def k0_off10 (i : grid0.Coords) (k0_t1 : Fin (k0_t1_loop i).trips) : Fin 4 → Nat :=
  let c0_256 : Index := 0#32
  let c2_i32_214 : BitVec 32 := 2#32
  let c0_i32_62 : BitVec 32 := 0#32
  let c1_i32_64 : BitVec 32 := 1#32
  let arg12 : BitVec 32 := Scf.iv c0_i32_62 c1_i32_64 k0_t1
  let v310 : BitVec 32 := Scalar.muli c2_i32_214 arg12
  let c1_i32_215 : BitVec 32 := 1#32
  let v311 : BitVec 32 := Scalar.addi v310 c1_i32_215
  let v375 : Index := Scalar.indexCast v311
  let c128_257 : Index := 128#32
  let c256_258 : Index := 256#32
  ![0, v375.toNat, 128, 256]
@[reducible] def k0_t2_loop (i : grid0.Coords) : Scf.Loop 32 :=
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let v116 : BitVec 32 := Scalar.addi c0_i32_62 v115
  let c1_i32_65 : BitVec 32 := 1#32
  ⟨v119, v116, c1_i32_65⟩
def k0_mult4 (i : grid0.Coords) (k0_t2 : Fin (k0_t2_loop i).trips) : BitVec 32 :=
  let c2_i32_77 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v149 : BitVec 32 := Scalar.muli c2_i32_77 arg12
  let c1_i32_78 : BitVec 32 := 1#32
  let v150 : BitVec 32 := Scalar.addi v149 c1_i32_78
  let c512_i32 : BitVec 32 := 512#32
  let v151 : BitVec 32 := Scalar.muli v150 c512_i32
  v151
def k0_off11 (i : grid0.Coords) (k0_t2 : Fin (k0_t2_loop i).trips) (c1_i32_78 : BitVec 32) : Fin 4 → Nat :=
  let c0_79 : Index := 0#32
  let c0_80 : Index := 0#32
  let c2_i32_77 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v149 : BitVec 32 := Scalar.muli c2_i32_77 arg12
  let v150 : BitVec 32 := Scalar.addi v149 c1_i32_78
  let c512_i32 : BitVec 32 := 512#32
  let v151 : BitVec 32 := Scalar.muli v150 c512_i32
  let v152 : BitVec 32 := v151
  let v153 : Index := Scalar.indexCast v152
  let c0_81 : Index := 0#32
  ![0, 0, v153.toNat, 0]
def k0_off12 (i : grid0.Coords) (k0_t2 : Fin (k0_t2_loop i).trips) (c1_i32_78 : BitVec 32) : Fin 4 → Nat :=
  let c0_101 : Index := 0#32
  let c0_102 : Index := 0#32
  let c2_i32_77 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v149 : BitVec 32 := Scalar.muli c2_i32_77 arg12
  let v150 : BitVec 32 := Scalar.addi v149 c1_i32_78
  let c512_i32 : BitVec 32 := 512#32
  let v151 : BitVec 32 := Scalar.muli v150 c512_i32
  let v152 : BitVec 32 := v151
  let v174 : Index := Scalar.indexCast v152
  let c128_103 : Index := 128#32
  ![0, 0, v174.toNat, 128]
def k0_off13 (i : grid0.Coords) (k0_t2 : Fin (k0_t2_loop i).trips) : Fin 4 → Nat :=
  let c0_131 : Index := 0#32
  let c2_i32_123 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v195 : BitVec 32 := Scalar.muli c2_i32_123 arg12
  let v208 : Index := Scalar.indexCast v195
  let c0_132 : Index := 0#32
  let c0_133 : Index := 0#32
  ![0, v208.toNat, 0, 0]
def k0_off14 (i : grid0.Coords) (k0_t2 : Fin (k0_t2_loop i).trips) : Fin 4 → Nat :=
  let c0_142 : Index := 0#32
  let c2_i32_123 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v195 : BitVec 32 := Scalar.muli c2_i32_123 arg12
  let v225 : Index := Scalar.indexCast v195
  let c128_143 : Index := 128#32
  let c0_144 : Index := 0#32
  ![0, v225.toNat, 128, 0]
def k0_off15 (i : grid0.Coords) (k0_t2 : Fin (k0_t2_loop i).trips) : Fin 4 → Nat :=
  let c0_152 : Index := 0#32
  let c2_i32_123 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v195 : BitVec 32 := Scalar.muli c2_i32_123 arg12
  let v242 : Index := Scalar.indexCast v195
  let c0_153 : Index := 0#32
  let c256_154 : Index := 256#32
  ![0, v242.toNat, 0, 256]
def k0_off16 (i : grid0.Coords) (k0_t2 : Fin (k0_t2_loop i).trips) : Fin 4 → Nat :=
  let c0_163 : Index := 0#32
  let c2_i32_123 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v195 : BitVec 32 := Scalar.muli c2_i32_123 arg12
  let v259 : Index := Scalar.indexCast v195
  let c128_164 : Index := 128#32
  let c256_165 : Index := 256#32
  ![0, v259.toNat, 128, 256]
def k0_mult5 (i : grid0.Coords) (k0_t2 : Fin (k0_t2_loop i).trips) : BitVec 32 :=
  let c2_i32_167 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v264 : BitVec 32 := Scalar.muli c2_i32_167 arg12
  let c2_i32_168 : BitVec 32 := 2#32
  let v265 : BitVec 32 := Scalar.addi v264 c2_i32_168
  let c512_i32_169 : BitVec 32 := 512#32
  let v266 : BitVec 32 := Scalar.muli v265 c512_i32_169
  v266
def k0_off17 (i : grid0.Coords) (k0_t2 : Fin (k0_t2_loop i).trips) : Fin 4 → Nat :=
  let c0_223 : Index := 0#32
  let c2_i32_214 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v310 : BitVec 32 := Scalar.muli c2_i32_214 arg12
  let c1_i32_215 : BitVec 32 := 1#32
  let v311 : BitVec 32 := Scalar.addi v310 c1_i32_215
  let v324 : Index := Scalar.indexCast v311
  let c0_224 : Index := 0#32
  let c0_225 : Index := 0#32
  ![0, v324.toNat, 0, 0]
def k0_off18 (i : grid0.Coords) (k0_t2 : Fin (k0_t2_loop i).trips) : Fin 4 → Nat :=
  let c0_234 : Index := 0#32
  let c2_i32_214 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v310 : BitVec 32 := Scalar.muli c2_i32_214 arg12
  let c1_i32_215 : BitVec 32 := 1#32
  let v311 : BitVec 32 := Scalar.addi v310 c1_i32_215
  let v341 : Index := Scalar.indexCast v311
  let c128_235 : Index := 128#32
  let c0_236 : Index := 0#32
  ![0, v341.toNat, 128, 0]
def k0_off19 (i : grid0.Coords) (k0_t2 : Fin (k0_t2_loop i).trips) : Fin 4 → Nat :=
  let c0_245 : Index := 0#32
  let c2_i32_214 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v310 : BitVec 32 := Scalar.muli c2_i32_214 arg12
  let c1_i32_215 : BitVec 32 := 1#32
  let v311 : BitVec 32 := Scalar.addi v310 c1_i32_215
  let v358 : Index := Scalar.indexCast v311
  let c0_246 : Index := 0#32
  let c256_247 : Index := 256#32
  ![0, v358.toNat, 0, 256]
def k0_off20 (i : grid0.Coords) (k0_t2 : Fin (k0_t2_loop i).trips) : Fin 4 → Nat :=
  let c0_256 : Index := 0#32
  let c2_i32_214 : BitVec 32 := 2#32
  let c0_i32_62 : BitVec 32 := 0#32
  let arg2 : BitVec 32 := BitVec.ofNat 32 (i 2).val
  let c0_i32_56 : BitVec 32 := 0#32
  let v99 : BitVec 1 := Scalar.cmpi .sgt arg2 c0_i32_56
  let v100 : BitVec 32 := Scalar.extui v99
  let c0_i32_57 : BitVec 32 := 0#32
  let v101 : BitVec 1 := Scalar.cmpi .slt arg2 c0_i32_57
  let v102 : BitVec 32 := Scalar.extui v101
  let v103 : BitVec 32 := Scalar.subi v100 v102
  let c2_i32 : BitVec 32 := 2#32
  let c0_i32_58 : BitVec 32 := 0#32
  let v104 : BitVec 1 := Scalar.cmpi .sgt c2_i32 c0_i32_58
  let v105 : BitVec 32 := Scalar.extui v104
  let c0_i32_59 : BitVec 32 := 0#32
  let v106 : BitVec 1 := Scalar.cmpi .slt c2_i32 c0_i32_59
  let v107 : BitVec 32 := Scalar.extui v106
  let v108 : BitVec 32 := Scalar.subi v105 v107
  let v109 : BitVec 1 := Scalar.cmpi .ne v103 v108
  let v110 : BitVec 32 := Scalar.remsi arg2 c2_i32
  let c0_i32_60 : BitVec 32 := 0#32
  let v111 : BitVec 1 := Scalar.cmpi .ne v110 c0_i32_60
  let v112 : BitVec 1 := Scalar.andi v109 v111
  let v98 : BitVec 32 := Scalar.divsi arg2 c2_i32
  let c1_i32_61 : BitVec 32 := 1#32
  let v113 : BitVec 32 := Scalar.subi v98 c1_i32_61
  let v114 : BitVec 32 := Scalar.select v112 v113 v98
  let v115 : BitVec 32 := Scalar.subi v114 c0_i32_62
  let c1_i32_63 : BitVec 32 := 1#32
  let v117 : BitVec 32 := Scalar.divsi v115 c1_i32_63
  let v118 : BitVec 32 := Scalar.muli v117 c1_i32_63
  let v119 : BitVec 32 := Scalar.addi c0_i32_62 v118
  let c1_i32_65 : BitVec 32 := 1#32
  let arg12 : BitVec 32 := Scf.iv v119 c1_i32_65 k0_t2
  let v310 : BitVec 32 := Scalar.muli c2_i32_214 arg12
  let c1_i32_215 : BitVec 32 := 1#32
  let v311 : BitVec 32 := Scalar.addi v310 c1_i32_215
  let v375 : Index := Scalar.indexCast v311
  let c128_257 : Index := 128#32
  let c256_258 : Index := 256#32
  ![0, v375.toNat, 128, 256]
def k0_cond1 (i : grid0.Coords) : BitVec 1 :=
  let arg2 : BitVec 32 := BitVec.ofNat 32 (i 2).val
  let c2_i32_66 : BitVec 32 := 2#32
  let c0_i32_67 : BitVec 32 := 0#32
  let v122 : BitVec 1 := Scalar.cmpi .eq c2_i32_66 c0_i32_67
  let c1_i32_68 : BitVec 32 := 1#32
  let v123 : BitVec 32 := Scalar.select v122 c1_i32_68 c2_i32_66
  let v124 : BitVec 32 := Scalar.remsi arg2 v123
  let c0_i32_70 : BitVec 32 := 0#32
  let v126 : BitVec 1 := Scalar.cmpi .slt v124 c0_i32_70
  let c0_i32_71 : BitVec 32 := 0#32
  let v127 : BitVec 1 := Scalar.cmpi .slt v123 c0_i32_71
  let v128 : BitVec 1 := Scalar.xori v126 v127
  let c0_i32_69 : BitVec 32 := 0#32
  let v125 : BitVec 1 := Scalar.cmpi .ne v124 c0_i32_69
  let v129 : BitVec 1 := Scalar.andi v128 v125
  let v130 : BitVec 32 := Scalar.addi v124 v123
  let v131 : BitVec 32 := Scalar.select v129 v130 v124
  let c0_i32_72 : BitVec 32 := 0#32
  let v132 : BitVec 1 := Scalar.cmpi .eq v131 c0_i32_72
  let v133 : BitVec 32 := Scalar.extui v132
  let c0_i32_73 : BitVec 32 := 0#32
  let v134 : BitVec 1 := Scalar.cmpi .ne v133 c0_i32_73
  v134

def k0_off21 (i : grid0.Coords) : Fin 4 → Nat :=
  let c0_81 : Index := 0#32
  let arg2 : BitVec 32 := BitVec.ofNat 32 (i 2).val
  let v164 : Index := Scalar.indexCast arg2
  let c0_82 : Index := 0#32
  let c0_83 : Index := 0#32
  ![0, v164.toNat, 0, 0]
def k0_off22 (i : grid0.Coords) : Fin 4 → Nat :=
  let c0_89 : Index := 0#32
  let arg2 : BitVec 32 := BitVec.ofNat 32 (i 2).val
  let v184 : Index := Scalar.indexCast arg2
  let c128_90 : Index := 128#32
  let c0_91 : Index := 0#32
  ![0, v184.toNat, 128, 0]
def k0_off23 (i : grid0.Coords) : Fin 4 → Nat :=
  let c0_96 : Index := 0#32
  let arg2 : BitVec 32 := BitVec.ofNat 32 (i 2).val
  let v207 : Index := Scalar.indexCast arg2
  let c0_97 : Index := 0#32
  let c256_98 : Index := 256#32
  ![0, v207.toNat, 0, 256]
def k0_off24 (i : grid0.Coords) : Fin 4 → Nat :=
  let c0_104 : Index := 0#32
  let arg2 : BitVec 32 := BitVec.ofNat 32 (i 2).val
  let v232 : Index := Scalar.indexCast arg2
  let c128_105 : Index := 128#32
  let c256_106 : Index := 256#32
  ![0, v232.toNat, 128, 256]
def k0_mult6 (i : grid0.Coords) : BitVec 32 :=
  let arg2 : BitVec 32 := BitVec.ofNat 32 (i 2).val
  let c512_i32 : BitVec 32 := 512#32
  let v149 : BitVec 32 := Scalar.muli arg2 c512_i32
  v149
def k0_off25 (i : grid0.Coords) : Fin 4 → Nat :=
  let c0_77 : Index := 0#32
  let c0_78 : Index := 0#32
  let arg2 : BitVec 32 := BitVec.ofNat 32 (i 2).val
  let c512_i32 : BitVec 32 := 512#32
  let v149 : BitVec 32 := Scalar.muli arg2 c512_i32
  let v150 : BitVec 32 := v149
  let v151 : Index := Scalar.indexCast v150
  let c0_79 : Index := 0#32
  ![0, 0, v151.toNat, 0]
def k0_off26 (i : grid0.Coords) : Fin 4 → Nat :=
  let c0_99 : Index := 0#32
  let c0_100 : Index := 0#32
  let arg2 : BitVec 32 := BitVec.ofNat 32 (i 2).val
  let c512_i32 : BitVec 32 := 512#32
  let v149 : BitVec 32 := Scalar.muli arg2 c512_i32
  let v150 : BitVec 32 := v149
  let v172 : Index := Scalar.indexCast v150
  let c128_101 : Index := 128#32
  ![0, 0, v172.toNat, 128]
def k0_off27 (i : grid0.Coords) : Fin 4 → Nat :=
  let c0_129 : Index := 0#32
  let arg2 : BitVec 32 := BitVec.ofNat 32 (i 2).val
  let c1_i32_121 : BitVec 32 := 1#32
  let v193 : BitVec 32 := Scalar.subi arg2 c1_i32_121
  let v206 : Index := Scalar.indexCast v193
  let c0_130 : Index := 0#32
  let c0_131 : Index := 0#32
  ![0, v206.toNat, 0, 0]
def k0_off28 (i : grid0.Coords) : Fin 4 → Nat :=
  let c0_140 : Index := 0#32
  let arg2 : BitVec 32 := BitVec.ofNat 32 (i 2).val
  let c1_i32_121 : BitVec 32 := 1#32
  let v193 : BitVec 32 := Scalar.subi arg2 c1_i32_121
  let v223 : Index := Scalar.indexCast v193
  let c128_141 : Index := 128#32
  let c0_142 : Index := 0#32
  ![0, v223.toNat, 128, 0]
def k0_off29 (i : grid0.Coords) : Fin 4 → Nat :=
  let c0_150 : Index := 0#32
  let arg2 : BitVec 32 := BitVec.ofNat 32 (i 2).val
  let c1_i32_121 : BitVec 32 := 1#32
  let v193 : BitVec 32 := Scalar.subi arg2 c1_i32_121
  let v240 : Index := Scalar.indexCast v193
  let c0_151 : Index := 0#32
  let c256_152 : Index := 256#32
  ![0, v240.toNat, 0, 256]
def k0_off30 (i : grid0.Coords) : Fin 4 → Nat :=
  let c0_161 : Index := 0#32
  let arg2 : BitVec 32 := BitVec.ofNat 32 (i 2).val
  let c1_i32_121 : BitVec 32 := 1#32
  let v193 : BitVec 32 := Scalar.subi arg2 c1_i32_121
  let v257 : Index := Scalar.indexCast v193
  let c128_162 : Index := 128#32
  let c256_163 : Index := 256#32
  ![0, v257.toNat, 128, 256]
def k0_off31 (i : grid0.Coords) : Fin 4 → Nat :=
  let c0_169 : Index := 0#32
  let arg2 : BitVec 32 := BitVec.ofNat 32 (i 2).val
  let v277 : Index := Scalar.indexCast arg2
  let c0_170 : Index := 0#32
  let c0_171 : Index := 0#32
  ![0, v277.toNat, 0, 0]
def k0_off32 (i : grid0.Coords) : Fin 4 → Nat :=
  let c0_177 : Index := 0#32
  let arg2 : BitVec 32 := BitVec.ofNat 32 (i 2).val
  let v297 : Index := Scalar.indexCast arg2
  let c128_178 : Index := 128#32
  let c0_179 : Index := 0#32
  ![0, v297.toNat, 128, 0]
def k0_off33 (i : grid0.Coords) : Fin 4 → Nat :=
  let c0_185 : Index := 0#32
  let arg2 : BitVec 32 := BitVec.ofNat 32 (i 2).val
  let v320 : Index := Scalar.indexCast arg2
  let c0_186 : Index := 0#32
  let c256_187 : Index := 256#32
  ![0, v320.toNat, 0, 256]
def k0_off34 (i : grid0.Coords) : Fin 4 → Nat :=
  let c0_193 : Index := 0#32
  let arg2 : BitVec 32 := BitVec.ofNat 32 (i 2).val
  let v345 : Index := Scalar.indexCast arg2
  let c128_194 : Index := 128#32
  let c256_195 : Index := 256#32
  ![0, v345.toNat, 128, 256]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S8x4x8192x256 : Shape := ⟨4, ![8, 4, 8192, 256]⟩
abbrev S8x16x1024x512 : Shape := ⟨4, ![8, 16, 1024, 512]⟩
abbrev S8x4x8192x2x128 : Shape := ⟨5, ![8, 4, 8192, 2, 128]⟩
abbrev S8x4x2x8192x128 : Shape := ⟨5, ![8, 4, 2, 8192, 128]⟩
abbrev S8x8x8192x128 : Shape := ⟨4, ![8, 8, 8192, 128]⟩
abbrev S8x16x8x128x512 : Shape := ⟨5, ![8, 16, 8, 128, 512]⟩
abbrev S8x16x8x64x512 : Shape := ⟨5, ![8, 16, 8, 64, 512]⟩
abbrev S8x8x16x512x64 : Shape := ⟨5, ![8, 8, 16, 512, 64]⟩
abbrev S8x8x8192x64 : Shape := ⟨4, ![8, 8, 8192, 64]⟩
abbrev S8192 : Shape := ⟨1, ![8192]⟩
abbrev S8x8x8192x8192 : Shape := ⟨4, ![8, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S8x8x8192 : Shape := ⟨3, ![8, 8, 8192]⟩
abbrev S8x8x8192x1 : Shape := ⟨4, ![8, 8, 8192, 1]⟩
abbrev S8x8192x8x64 : Shape := ⟨4, ![8, 8192, 8, 64]⟩
abbrev S8x8192x512 : Shape := ⟨3, ![8, 8192, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x4x8192x256, .bf16⟩
  | .hbm, ⟨1, _⟩ => ⟨S8x4x8192x256, .bf16⟩
  | .hbm, ⟨2, _⟩ => ⟨S8x16x1024x512, .bf16⟩
  | .hbm, ⟨3, _⟩ => ⟨S8x4x8192x256, .f32⟩
  | .hbm, ⟨4, _⟩ => ⟨S8x4x8192x2x128, .f32⟩
  | .hbm, ⟨5, _⟩ => ⟨S8x4x2x8192x128, .f32⟩
  | .hbm, ⟨6, _⟩ => ⟨S8x8x8192x128, .f32⟩
  | .hbm, ⟨7, _⟩ => ⟨S8x4x8192x256, .f32⟩
  | .hbm, ⟨8, _⟩ => ⟨S8x4x8192x2x128, .f32⟩
  | .hbm, ⟨9, _⟩ => ⟨S8x4x2x8192x128, .f32⟩
  | .hbm, ⟨10, _⟩ => ⟨S8x8x8192x128, .f32⟩
  | .hbm, ⟨11, _⟩ => ⟨S8x16x1024x512, .f32⟩
  | .hbm, ⟨12, _⟩ => ⟨S8x16x8x128x512, .f32⟩
  | .hbm, ⟨13, _⟩ => ⟨S8x16x8x64x512, .f32⟩
  | .hbm, ⟨14, _⟩ => ⟨S8x8x16x512x64, .f32⟩
  | .hbm, ⟨15, _⟩ => ⟨S8x8x8192x64, .f32⟩
  | .hbm, ⟨16, _⟩ => ⟨S8192, .i32⟩
  | .hbm, ⟨17, _⟩ => ⟨S8x8x8192x8192, .f32⟩
  | .hbm, ⟨18, _⟩ => ⟨S_, .f32⟩
  | .hbm, ⟨19, _⟩ => ⟨S_, .f32⟩
  | .hbm, ⟨20, _⟩ => ⟨S8x8x8192x8192, .f32⟩
  | .hbm, ⟨21, _⟩ => ⟨S8x8x8192x8192, .f32⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S1x1x8192x8192, .i1⟩
  | .hbm, ⟨31, _⟩ => ⟨S_, .f32⟩
  | .hbm, ⟨32, _⟩ => ⟨S_, .f32⟩
  | .hbm, ⟨33, _⟩ => ⟨S8x8x8192x8192, .i1⟩
  | .hbm, ⟨34, _⟩ => ⟨S8x8x8192x8192, .f32⟩
  | .hbm, ⟨35, _⟩ => ⟨S8x8x8192x8192, .f32⟩
  | .hbm, ⟨36, _⟩ => ⟨S_, .f32⟩
  | .hbm, ⟨37, _⟩ => ⟨S8x8x8192, .f32⟩
  | .hbm, ⟨38, _⟩ => ⟨S_, .f32⟩
  | .hbm, ⟨39, _⟩ => ⟨S8x8x8192, .f32⟩
  | .hbm, ⟨40, _⟩ => ⟨S8x8x8192, .f32⟩
  | .hbm, ⟨41, _⟩ => ⟨S8x8x8192x1, .f32⟩
  | .hbm, ⟨42, _⟩ => ⟨S8x8x8192x8192, .f32⟩
  | .hbm, ⟨43, _⟩ => ⟨S8x8x8192x8192, .f32⟩
  | .hbm, ⟨44, _⟩ => ⟨S8x8x8192x8192, .f32⟩
  | .hbm, ⟨45, _⟩ => ⟨S_, .f32⟩
  | .hbm, ⟨46, _⟩ => ⟨S8x8x8192, .f32⟩
  | .hbm, ⟨47, _⟩ => ⟨S8x8x8192x1, .f32⟩
  | .hbm, ⟨48, _⟩ => ⟨S8x8x8192x8192, .f32⟩
  | .hbm, ⟨49, _⟩ => ⟨S8x8x8192x8192, .f32⟩
  | .hbm, ⟨50, _⟩ => ⟨S8x8x8192x64, .f32⟩
  | .hbm, ⟨51, _⟩ => ⟨S8x8192x8x64, .f32⟩
  | .hbm, ⟨52, _⟩ => ⟨S8x8192x512, .f32⟩
  | _, _ => ⟨S8x4x8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Post.lean ====
abbrev S65536x1024 : Shape := ⟨2, ![65536, 1024]⟩
abbrev S65536x512 : Shape := ⟨2, ![65536, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S512x1024 : Shape := ⟨2, ![512, 1024]⟩
abbrev S1x1024 : Shape := ⟨2, ![1, 1024]⟩
abbrev S512x512 : Shape := ⟨2, ![512, 512]⟩
abbrev S512x1 : Shape := ⟨2, ![512, 1]⟩

abbrev nBuf : Space → Nat
  | .hbm => 19
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S1x512, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1024x4096, .bf16⟩
  | .hbm, ⟨16, _⟩ => ⟨S4096x1024, .bf16⟩
  | .hbm, ⟨17, _⟩ => ⟨S1x1024, .f32⟩
  | .hbm, ⟨18, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1024x4096, .bf16⟩
  | .local _ .vmem, ⟨11, _⟩ => ⟨S4096x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== PostRefIdeal.lean ====
abbrev S65536x1024 : Shape := ⟨2, ![65536, 1024]⟩
abbrev S65536x512 : Shape := ⟨2, ![65536, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S1x1024 : Shape := ⟨2, ![1, 1024]⟩
abbrev S65536x4096 : Shape := ⟨2, ![65536, 4096]⟩

abbrev nBuf : Space → Nat
  | .hbm => 67
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S65536x512, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x512, .f32⟩
  | .hbm, ⟨21, _⟩ => ⟨S65536x512, .f32⟩
  | .hbm, ⟨22, _⟩ => ⟨S1x512, .f32⟩
  | .hbm, ⟨23, _⟩ => ⟨S65536x512, .f32⟩
  | .hbm, ⟨24, _⟩ => ⟨S65536x512, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x1024, .f32⟩
  | .hbm, ⟨40, _⟩ => ⟨S65536x1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x4096, .f32⟩
  | .hbm, ⟨45, _⟩ => ⟨S_, .f32⟩
  | .hbm, ⟨46, _⟩ => ⟨S65536x4096, .f32⟩
  | .hbm, ⟨47, _⟩ => ⟨S65536x4096, .f32⟩
  | .hbm, ⟨48, _⟩ => ⟨S65536x4096, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1, .f32⟩
  | .hbm, ⟨62, _⟩ => ⟨S65536x1024, .f32⟩
  | .hbm, ⟨63, _⟩ => ⟨S65536x1024, .f32⟩
  | .hbm, ⟨64, _⟩ => ⟨S1x1024, .f32⟩
  | .hbm, ⟨65, _⟩ => ⟨S65536x1024, .f32⟩
  | .hbm, ⟨66, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Proj.lean ====
abbrev S65536x1024 : Shape := ⟨2, ![65536, 1024]⟩
abbrev S1024 : Shape := ⟨1, ![1024]⟩
abbrev S1024x1568 : Shape := ⟨2, ![1024, 1568]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S1x1024 : Shape := ⟨2, ![1, 1024]⟩
abbrev S1024x768 : Shape := ⟨2, ![1024, 768]⟩
abbrev S1024x256 : Shape := ⟨2, ![1024, 256]⟩
abbrev S1024x32 : Shape := ⟨2, ![1024, 32]⟩
abbrev S1024x512 : Shape := ⟨2, ![1024, 512]⟩
abbrev S1024x16 : Shape := ⟨2, ![1024, 16]⟩
abbrev S_ : Shape := ⟨0, ![]⟩
abbrev S1024x96 : Shape := ⟨2, ![1024, 96]⟩
abbrev S1024x1792 : Shape := ⟨2, ![1024, 1792]⟩
abbrev S1x768 : Shape := ⟨2, ![1, 768]⟩
abbrev S768x8x96 : Shape := ⟨3, ![768, 8, 96]⟩
abbrev S768x8x64 : Shape := ⟨3, ![768, 8, 64]⟩
abbrev S768x8x16 : Shape := ⟨3, ![768, 8, 16]⟩
abbrev S768x8x32 : Shape := ⟨3, ![768, 8, 32]⟩
abbrev S768x8x128 : Shape := ⟨3, ![768, 8, 128]⟩
abbrev S768x1024 : Shape := ⟨2, ![768, 1024]⟩
abbrev S1x256 : Shape := ⟨2, ![1, 256]⟩
abbrev S256x8x128 : Shape := ⟨3, ![256, 8, 128]⟩
abbrev S256x8x64 : Shape := ⟨3, ![256, 8, 64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S1x8192x2x16 : Shape := ⟨4, ![1, 8192, 2, 16]⟩
abbrev S8192x32 : Shape := ⟨2, ![8192, 32]⟩
abbrev S8192x64 : Shape := ⟨2, ![8192, 64]⟩
abbrev S8192x128 : Shape := ⟨2, ![8192, 128]⟩
abbrev S8192x96 : Shape := ⟨2, ![8192, 96]⟩
abbrev S8x4x8192x256 : Shape := ⟨4, ![8, 4, 8192, 256]⟩
abbrev S65536x256 : Shape := ⟨2, ![65536, 256]⟩
abbrev S65536x32 : Shape := ⟨2, ![65536, 32]⟩
abbrev S65536x512 : Shape := ⟨2, ![65536, 512]⟩
abbrev S8x16x1024x512 : Shape := ⟨4, ![8, 16, 1024, 512]⟩
abbrev S1024x1024 : Shape := ⟨2, ![1024, 1024]⟩
abbrev S1024x128 : Shape := ⟨2, ![1024, 128]⟩
abbrev S1x4x1024x256 : Shape := ⟨4, ![1, 4, 1024, 256]⟩
abbrev S1x2x1024x512 : Shape := ⟨4, ![1, 2, 1024, 512]⟩
abbrev S1024x1 : Shape := ⟨2, ![1024, 1]⟩
abbrev S1x1x1024x128 : Shape := ⟨4, ![1, 1, 1024, 128]⟩
abbrev S1x1x1024x512 : Shape := ⟨4, ![1, 1, 1024, 512]⟩

abbrev nBuf : Space → Nat
  | .hbm => 99
  | .vmem => 31
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1568, .f32⟩
  | .hbm, ⟨3, _⟩ => ⟨S768, .f32⟩
  | .hbm, ⟨4, _⟩ => ⟨S768x768, .f32⟩
  | .hbm, ⟨5, _⟩ => ⟨S256, .f32⟩
  | .hbm, ⟨6, _⟩ => ⟨S256x1024, .f32⟩
  | .hbm, ⟨7, _⟩ => ⟨S1x1024, .f32⟩
  | .hbm, ⟨8, _⟩ => ⟨S1024x768, .f32⟩
  | .hbm, ⟨9, _⟩ => ⟨S1024x256, .f32⟩
  | .hbm, ⟨10, _⟩ => ⟨S1024x32, .f32⟩
  | .hbm, ⟨11, _⟩ => ⟨S1024x512, .f32⟩
  | .hbm, ⟨12, _⟩ => ⟨S1024x16, .f32⟩
  | .hbm, ⟨13, _⟩ => ⟨S1024x16, .f32⟩
  | .hbm, ⟨14, _⟩ => ⟨S1024x16, .f32⟩
  | .hbm, ⟨15, _⟩ => ⟨S_, .f32⟩
  | .hbm, ⟨16, _⟩ => ⟨S1024x96, .f32⟩
  | .hbm, ⟨17, _⟩ => ⟨S1024x1792, .f32⟩
  | .hbm, ⟨18, _⟩ => ⟨S1024x1792, .bf16⟩
  | .hbm, ⟨19, _⟩ => ⟨S1x768, .f32⟩
  | .hbm, ⟨20, _⟩ => ⟨S768x8x96, .f32⟩
  | .hbm, ⟨21, _⟩ => ⟨S768x8x64, .f32⟩
  | .hbm, ⟨22, _⟩ => ⟨S768x8x16, .f32⟩
  | .hbm, ⟨23, _⟩ => ⟨S768x8x16, .f32⟩
  | .hbm, ⟨24, _⟩ => ⟨S_, .f32⟩
  | .hbm, ⟨25, _⟩ => ⟨S768x8x32, .f32⟩
  | .hbm, ⟨26, _⟩ => ⟨S768x8x128, .f32⟩
  | .hbm, ⟨27, _⟩ => ⟨S768x1024, .f32⟩
  | .hbm, ⟨28, _⟩ => ⟨S768x1024, .bf16⟩
  | .hbm, ⟨29, _⟩ => ⟨S1x256, .f32⟩
  | .hbm, ⟨30, _⟩ => ⟨S256x8x128, .f32⟩
  | .hbm, ⟨31, _⟩ => ⟨S_, .f32⟩
  | .hbm, ⟨32, _⟩ => ⟨S256x8x64, .f32⟩
  | .hbm, ⟨33, _⟩ => ⟨S256x8x64, .f32⟩
  | .hbm, ⟨34, _⟩ => ⟨S256x8x128, .f32⟩
  | .hbm, ⟨35, _⟩ => ⟨S256x1024, .f32⟩
  | .hbm, ⟨36, _⟩ => ⟨S256x8x64, .f32⟩
  | .hbm, ⟨37, _⟩ => ⟨S256x8x128, .f32⟩
  | .hbm, ⟨38, _⟩ => ⟨S256x1024, .f32⟩
  | .hbm, ⟨39, _⟩ => ⟨S256x1024, .bf16⟩
  | .hbm, ⟨40, _⟩ => ⟨S1024x256, .f32⟩
  | .hbm, ⟨41, _⟩ => ⟨S1024x256, .bf16⟩
  | .hbm, ⟨42, _⟩ => ⟨S8192, .i32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S8192, .f32⟩
  | .hbm, ⟨55, _⟩ => ⟨S8192x1, .f32⟩
  | .hbm, ⟨56, _⟩ => ⟨S1x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S1x8192x1x16, .f32⟩
  | .hbm, ⟨62, _⟩ => ⟨S1x8192x2x16, .f32⟩
  | .hbm, ⟨63, _⟩ => ⟨S8192x32, .f32⟩
  | .hbm, ⟨64, _⟩ => ⟨S8192x16, .f32⟩
  | .hbm, ⟨65, _⟩ => ⟨S1x8192x1x16, .f32⟩
  | .hbm, ⟨66, _⟩ => ⟨S1x8192x2x16, .f32⟩
  | .hbm, ⟨67, _⟩ => ⟨S8192x32, .f32⟩
  | .hbm, ⟨68, _⟩ => ⟨S_, .f32⟩
  | .hbm, ⟨69, _⟩ => ⟨S8192x32, .f32⟩
  | .hbm, ⟨70, _⟩ => ⟨S_, .f32⟩
  | .hbm, ⟨71, _⟩ => ⟨S8192x64, .f32⟩
  | .hbm, ⟨72, _⟩ => ⟨S_, .f32⟩
  | .hbm, ⟨73, _⟩ => ⟨S8192x32, .f32⟩
  | .hbm, ⟨74, _⟩ => ⟨S8192x32, .f32⟩
  | .hbm, ⟨75, _⟩ => ⟨S8192x128, .f32⟩
  | .hbm, ⟨76, _⟩ => ⟨S_, .f32⟩
  | .hbm, ⟨77, _⟩ => ⟨S8192x16, .f32⟩
  | .hbm, ⟨78, _⟩ => ⟨S8192x16, .f32⟩
  | .hbm, ⟨79, _⟩ => ⟨S_, .f32⟩
  | .hbm, ⟨80, _⟩ => ⟨S8192x16, .f32⟩
  | .hbm, ⟨81, _⟩ => ⟨S8192x16, .f32⟩
  | .hbm, ⟨82, _⟩ => ⟨S_, .f32⟩
  | .hbm, ⟨83, _⟩ => ⟨S8192x64, .f32⟩
  | .hbm, ⟨84, _⟩ => ⟨S8192x128, .f32⟩
  | .hbm, ⟨85, _⟩ => ⟨S_, .f32⟩
  | .hbm, ⟨86, _⟩ => ⟨S8192x64, .f32⟩
  | .hbm, ⟨87, _⟩ => ⟨S8192x16, .f32⟩
  | .hbm, ⟨88, _⟩ => ⟨S8192x128, .f32⟩
  | .hbm, ⟨89, _⟩ => ⟨S_, .f32⟩
  | .hbm, ⟨90, _⟩ => ⟨S8192x96, .f32⟩
  | .hbm, ⟨91, _⟩ => ⟨S8192x128, .f32⟩
  | .hbm, ⟨92, _⟩ => ⟨S8192x128, .f32⟩
  | .hbm, ⟨93, _⟩ => ⟨S8x4x8192x256, .bf16⟩
  | .hbm, ⟨94, _⟩ => ⟨S65536x256, .f32⟩
  | .hbm, ⟨95, _⟩ => ⟨S65536x32, .f32⟩
  | .hbm, ⟨96, _⟩ => ⟨S65536x512, .f32⟩
  | .hbm, ⟨97, _⟩ => ⟨S8x4x8192x256, .bf16⟩
  | .hbm, ⟨98, _⟩ => ⟨S8x16x1024x512, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1024, .f32⟩
  | .local _ .vmem, ⟨13, _⟩ => ⟨S1024x1792, .bf16⟩
  | .local _ .vmem, ⟨14, _⟩ => ⟨S1x768, .f32⟩
  | .local _ .vmem, ⟨15, _⟩ => ⟨S768x1024, .bf16⟩
  | .local _ .vmem, ⟨16, _⟩ => ⟨S1x256, .f32⟩
  | .local _ .vmem, ⟨17, _⟩ => ⟨S256x1024, .bf16⟩
  | .local _ .vmem, ⟨18, _⟩ => ⟨S1024x256, .bf16⟩
  | .local _ .vmem, ⟨19, _⟩ => ⟨S1x4x1024x256, .bf16⟩
  | .local _ .vmem, ⟨20, _⟩ => ⟨S1x4x1024x256, .bf16⟩
  | .local _ .vmem, ⟨21, _⟩ => ⟨S1024x256, .f32⟩
  | .local _ .vmem, ⟨22, _⟩ => ⟨S1024x256, .f32⟩
  | .local _ .vmem, ⟨23, _⟩ => ⟨S1024x32, .f32⟩
  | .local _ .vmem, ⟨24, _⟩ => ⟨S1024x32, .f32⟩
  | .local _ .vmem, ⟨25, _⟩ => ⟨S1024x512, .f32⟩
  | .local _ .vmem, ⟨26, _⟩ => ⟨S1024x512, .f32⟩
  | .local _ .vmem, ⟨27, _⟩ => ⟨S1x4x1024x256, .bf16⟩
  | .local _ .vmem, ⟨28, _⟩ => ⟨S1x4x1024x256, .bf16⟩
  | .local _ .vmem, ⟨29, _⟩ => ⟨S1x2x1024x512, .bf16⟩
  | .local _ .vmem, ⟨30, _⟩ => ⟨S1x2x1024x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72_0 : Ref sig .tc := ⟨.hbm, 93, rfl⟩
abbrev main_v72_1 : Ref sig .tc := ⟨.hbm, 94, rfl⟩
abbrev main_v72_2 : Ref sig .tc := ⟨.hbm, 95, rfl⟩
abbrev main_v72_3 : Ref sig .tc := ⟨.hbm, 96, rfl⟩
abbrev main_v72_4 : Ref sig .tc := ⟨.hbm, 97, rfl⟩
abbrev main_v72_5 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_18 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x4x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x1024x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ProjRefIdeal.lean ====
abbrev S65536x1024 : Shape := ⟨2, ![65536, 1024]⟩
abbrev S1024 : Shape := ⟨1, ![1024]⟩
abbrev S1024x1568 : Shape := ⟨2, ![1024, 1568]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1568 : Shape := ⟨2, ![65536, 1568]⟩
abbrev S65536x768 : Shape := ⟨2, ![65536, 768]⟩
abbrev S65536x256 : Shape := ⟨2, ![65536, 256]⟩
abbrev S65536x32 : Shape := ⟨2, ![65536, 32]⟩
abbrev S65536x512 : Shape := ⟨2, ![65536, 512]⟩
abbrev S1x256 : Shape := ⟨2, ![1, 256]⟩
abbrev S8x8192x32 : Shape := ⟨3, ![8, 8192, 32]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S1x8192x16 : Shape := ⟨3, ![1, 8192, 16]⟩
abbrev S8x8192x16 : Shape := ⟨3, ![8, 8192, 16]⟩

abbrev nBuf : Space → Nat
  | .hbm => 81
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1568, .f32⟩
  | .hbm, ⟨3, _⟩ => ⟨S768, .f32⟩
  | .hbm, ⟨4, _⟩ => ⟨S768x768, .f32⟩
  | .hbm, ⟨5, _⟩ => ⟨S256, .f32⟩
  | .hbm, ⟨6, _⟩ => ⟨S256x1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1568, .f32⟩
  | .hbm, ⟨24, _⟩ => ⟨S65536x768, .f32⟩
  | .hbm, ⟨25, _⟩ => ⟨S65536x256, .f32⟩
  | .hbm, ⟨26, _⟩ => ⟨S65536x32, .f32⟩
  | .hbm, ⟨27, _⟩ => ⟨S65536x512, .f32⟩
  | .hbm, ⟨28, _⟩ => ⟨S65536x256, .f32⟩
  | .hbm, ⟨29, _⟩ => ⟨S_, .f32⟩
  | .hbm, ⟨30, _⟩ => ⟨S65536, .f32⟩
  | .hbm, ⟨31, _⟩ => ⟨S65536x1, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1, .f32⟩
  | .hbm, ⟨39, _⟩ => ⟨S65536x256, .f32⟩
  | .hbm, ⟨40, _⟩ => ⟨S65536x256, .f32⟩
  | .hbm, ⟨41, _⟩ => ⟨S1x256, .f32⟩
  | .hbm, ⟨42, _⟩ => ⟨S65536x256, .f32⟩
  | .hbm, ⟨43, _⟩ => ⟨S65536x256, .f32⟩
  | .hbm, ⟨44, _⟩ => ⟨S8x8192x32, .f32⟩
  | .hbm, ⟨45, _⟩ => ⟨S8192, .i32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S8192, .f32⟩
  | .hbm, ⟨58, _⟩ => ⟨S8192x1, .f32⟩
  | .hbm, ⟨59, _⟩ => ⟨S1x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S1x8192x16, .f32⟩
  | .hbm, ⟨65, _⟩ => ⟨S8192x16, .f32⟩
  | .hbm, ⟨66, _⟩ => ⟨S1x8192x16, .f32⟩
  | .hbm, ⟨67, _⟩ => ⟨S8x8192x16, .f32⟩
  | .hbm, ⟨68, _⟩ => ⟨S8x8192x16, .f32⟩
  | .hbm, ⟨69, _⟩ => ⟨S8x8192x16, .f32⟩
  | .hbm, ⟨70, _⟩ => ⟨S8x8192x16, .f32⟩
  | .hbm, ⟨71, _⟩ => ⟨S8x8192x16, .f32⟩
  | .hbm, ⟨72, _⟩ => ⟨S8x8192x16, .f32⟩
  | .hbm, ⟨73, _⟩ => ⟨S8x8192x16, .f32⟩
  | .hbm, ⟨74, _⟩ => ⟨S8x8192x16, .f32⟩
  | .hbm, ⟨75, _⟩ => ⟨S8x8192x16, .f32⟩
  | .hbm, ⟨76, _⟩ => ⟨S8x8192x16, .f32⟩
  | .hbm, ⟨77, _⟩ => ⟨S8x8192x16, .f32⟩
  | .hbm, ⟨78, _⟩ => ⟨S8x8192x16, .f32⟩
  | .hbm, ⟨79, _⟩ => ⟨S8x8192x32, .f32⟩
  | .hbm, ⟨80, _⟩ => ⟨S65536x32, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]
-- ==== ProjSample.lean ====
abbrev S2048x1024 : Shape := ⟨2, ![2048, 1024]⟩
abbrev S1024 : Shape := ⟨1, ![1024]⟩
abbrev S1024x1568 : Shape := ⟨2, ![1024, 1568]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S1x1024 : Shape := ⟨2, ![1, 1024]⟩
abbrev S1024x768 : Shape := ⟨2, ![1024, 768]⟩
abbrev S1024x256 : Shape := ⟨2, ![1024, 256]⟩
abbrev S1024x32 : Shape := ⟨2, ![1024, 32]⟩
abbrev S1024x512 : Shape := ⟨2, ![1024, 512]⟩
abbrev S1024x16 : Shape := ⟨2, ![1024, 16]⟩
abbrev S_ : Shape := ⟨0, ![]⟩
abbrev S1024x96 : Shape := ⟨2, ![1024, 96]⟩
abbrev S1024x1792 : Shape := ⟨2, ![1024, 1792]⟩
abbrev S1x768 : Shape := ⟨2, ![1, 768]⟩
abbrev S768x8x96 : Shape := ⟨3, ![768, 8, 96]⟩
abbrev S768x8x64 : Shape := ⟨3, ![768, 8, 64]⟩
abbrev S768x8x16 : Shape := ⟨3, ![768, 8, 16]⟩
abbrev S768x8x32 : Shape := ⟨3, ![768, 8, 32]⟩
abbrev S768x8x128 : Shape := ⟨3, ![768, 8, 128]⟩
abbrev S768x1024 : Shape := ⟨2, ![768, 1024]⟩
abbrev S1x256 : Shape := ⟨2, ![1, 256]⟩
abbrev S256x8x128 : Shape := ⟨3, ![256, 8, 128]⟩
abbrev S256x8x64 : Shape := ⟨3, ![256, 8, 64]⟩
abbrev S64 : Shape := ⟨1, ![64]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S1x64x1x16 : Shape := ⟨4, ![1, 64, 1, 16]⟩
abbrev S1x64x2x16 : Shape := ⟨4, ![1, 64, 2, 16]⟩
abbrev S64x32 : Shape := ⟨2, ![64, 32]⟩
abbrev S64x64 : Shape := ⟨2, ![64, 64]⟩
abbrev S64x128 : Shape := ⟨2, ![64, 128]⟩
abbrev S64x96 : Shape := ⟨2, ![64, 96]⟩
abbrev S1x64x1x128 : Shape := ⟨4, ![1, 64, 1, 128]⟩
abbrev S16x64x1x128 : Shape := ⟨4, ![16, 64, 1, 128]⟩
abbrev S1024x128 : Shape := ⟨2, ![1024, 128]⟩
abbrev S2048x256 : Shape := ⟨2, ![2048, 256]⟩
abbrev S2048x32 : Shape := ⟨2, ![2048, 32]⟩
abbrev S2048x512 : Shape := ⟨2, ![2048, 512]⟩
abbrev S1024x1024 : Shape := ⟨2, ![1024, 1024]⟩
abbrev S1024x1 : Shape := ⟨2, ![1024, 1]⟩

abbrev nBuf : Space → Nat
  | .hbm => 115
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1568, .f32⟩
  | .hbm, ⟨3, _⟩ => ⟨S768, .f32⟩
  | .hbm, ⟨4, _⟩ => ⟨S768x768, .f32⟩
  | .hbm, ⟨5, _⟩ => ⟨S256, .f32⟩
  | .hbm, ⟨6, _⟩ => ⟨S256x1024, .f32⟩
  | .hbm, ⟨7, _⟩ => ⟨S1x1024, .f32⟩
  | .hbm, ⟨8, _⟩ => ⟨S1024x768, .f32⟩
  | .hbm, ⟨9, _⟩ => ⟨S1024x256, .f32⟩
  | .hbm, ⟨10, _⟩ => ⟨S1024x32, .f32⟩
  | .hbm, ⟨11, _⟩ => ⟨S1024x512, .f32⟩
  | .hbm, ⟨12, _⟩ => ⟨S1024x16, .f32⟩
  | .hbm, ⟨13, _⟩ => ⟨S1024x16, .f32⟩
  | .hbm, ⟨14, _⟩ => ⟨S1024x16, .f32⟩
  | .hbm, ⟨15, _⟩ => ⟨S_, .f32⟩
  | .hbm, ⟨16, _⟩ => ⟨S1024x96, .f32⟩
  | .hbm, ⟨17, _⟩ => ⟨S1024x1792, .f32⟩
  | .hbm, ⟨18, _⟩ => ⟨S1024x1792, .bf16⟩
  | .hbm, ⟨19, _⟩ => ⟨S1x768, .f32⟩
  | .hbm, ⟨20, _⟩ => ⟨S768x8x96, .f32⟩
  | .hbm, ⟨21, _⟩ => ⟨S768x8x64, .f32⟩
  | .hbm, ⟨22, _⟩ => ⟨S768x8x16, .f32⟩
  | .hbm, ⟨23, _⟩ => ⟨S768x8x16, .f32⟩
  | .hbm, ⟨24, _⟩ => ⟨S_, .f32⟩
  | .hbm, ⟨25, _⟩ => ⟨S768x8x32, .f32⟩
  | .hbm, ⟨26, _⟩ => ⟨S768x8x128, .f32⟩
  | .hbm, ⟨27, _⟩ => ⟨S768x1024, .f32⟩
  | .hbm, ⟨28, _⟩ => ⟨S768x1024, .bf16⟩
  | .hbm, ⟨29, _⟩ => ⟨S1x256, .f32⟩
  | .hbm, ⟨30, _⟩ => ⟨S256x8x128, .f32⟩
  | .hbm, ⟨31, _⟩ => ⟨S_, .f32⟩
  | .hbm, ⟨32, _⟩ => ⟨S256x8x64, .f32⟩
  | .hbm, ⟨33, _⟩ => ⟨S256x8x64, .f32⟩
  | .hbm, ⟨34, _⟩ => ⟨S256x8x128, .f32⟩
  | .hbm, ⟨35, _⟩ => ⟨S256x1024, .f32⟩
  | .hbm, ⟨36, _⟩ => ⟨S256x8x64, .f32⟩
  | .hbm, ⟨37, _⟩ => ⟨S256x8x128, .f32⟩
  | .hbm, ⟨38, _⟩ => ⟨S256x1024, .f32⟩
  | .hbm, ⟨39, _⟩ => ⟨S256x1024, .bf16⟩
  | .hbm, ⟨40, _⟩ => ⟨S1024x256, .f32⟩
  | .hbm, ⟨41, _⟩ => ⟨S1024x256, .bf16⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S64, .f32⟩
  | .hbm, ⟨58, _⟩ => ⟨S64x1, .f32⟩
  | .hbm, ⟨59, _⟩ => ⟨S1x16, .f32⟩
  | .hbm, ⟨60, _⟩ => ⟨S64x16, .f32⟩
  | .hbm, ⟨61, _⟩ => ⟨S64x16, .f32⟩
  | .hbm, ⟨62, _⟩ => ⟨S64x16, .f32⟩
  | .hbm, ⟨63, _⟩ => ⟨S64x16, .f32⟩
  | .hbm, ⟨64, _⟩ => ⟨S1x64x1x16, .f32⟩
  | .hbm, ⟨65, _⟩ => ⟨S1x64x2x16, .f32⟩
  | .hbm, ⟨66, _⟩ => ⟨S64x32, .f32⟩
  | .hbm, ⟨67, _⟩ => ⟨S64x16, .f32⟩
  | .hbm, ⟨68, _⟩ => ⟨S1x64x1x16, .f32⟩
  | .hbm, ⟨69, _⟩ => ⟨S1x64x2x16, .f32⟩
  | .hbm, ⟨70, _⟩ => ⟨S64x32, .f32⟩
  | .hbm, ⟨71, _⟩ => ⟨S_, .f32⟩
  | .hbm, ⟨72, _⟩ => ⟨S64x32, .f32⟩
  | .hbm, ⟨73, _⟩ => ⟨S_, .f32⟩
  | .hbm, ⟨74, _⟩ => ⟨S64x64, .f32⟩
  | .hbm, ⟨75, _⟩ => ⟨S_, .f32⟩
  | .hbm, ⟨76, _⟩ => ⟨S64x32, .f32⟩
  | .hbm, ⟨77, _⟩ => ⟨S64x32, .f32⟩
  | .hbm, ⟨78, _⟩ => ⟨S64x128, .f32⟩
  | .hbm, ⟨79, _⟩ => ⟨S_, .f32⟩
  | .hbm, ⟨80, _⟩ => ⟨S64x16, .f32⟩
  | .hbm, ⟨81, _⟩ => ⟨S64x16, .f32⟩
  | .hbm, ⟨82, _⟩ => ⟨S_, .f32⟩
  | .hbm, ⟨83, _⟩ => ⟨S64x16, .f32⟩
  | .hbm, ⟨84, _⟩ => ⟨S64x16, .f32⟩
  | .hbm, ⟨85, _⟩ => ⟨S_, .f32⟩
  | .hbm, ⟨86, _⟩ => ⟨S64x64, .f32⟩
  | .hbm, ⟨87, _⟩ => ⟨S64x128, .f32⟩
  | .hbm, ⟨88, _⟩ => ⟨S_, .f32⟩
  | .hbm, ⟨89, _⟩ => ⟨S64x64, .f32⟩
  | .hbm, ⟨90, _⟩ => ⟨S64x16, .f32⟩
  | .hbm, ⟨91, _⟩ => ⟨S64x128, .f32⟩
  | .hbm, ⟨92, _⟩ => ⟨S_, .f32⟩
  | .hbm, ⟨93, _⟩ => ⟨S64x96, .f32⟩
  | .hbm, ⟨94, _⟩ => ⟨S64x128, .f32⟩
  | .hbm, ⟨95, _⟩ => ⟨S64x128, .f32⟩
  | .hbm, ⟨96, _⟩ => ⟨S1x64x1x128, .f32⟩
  | .hbm, ⟨97, _⟩ => ⟨S16x64x1x128, .f32⟩
  | .hbm, ⟨98, _⟩ => ⟨S1024x128, .f32⟩
  | .hbm, ⟨99, _⟩ => ⟨S1x64x1x128, .f32⟩
  | .hbm, ⟨100, _⟩ => ⟨S16x64x1x128, .f32⟩
  | .hbm, ⟨101, _⟩ => ⟨S1024x128, .f32⟩
  | .hbm, ⟨102, _⟩ => ⟨S1x64x1x128, .f32⟩
  | .hbm, ⟨103, _⟩ => ⟨S16x64x1x128, .f32⟩
  | .hbm, ⟨104, _⟩ => ⟨S1024x128, .f32⟩
  | .hbm, ⟨105, _⟩ => ⟨S1x64x1x128, .f32⟩
  | .hbm, ⟨106, _⟩ => ⟨S16x64x1x128, .f32⟩
  | .hbm, ⟨107, _⟩ => ⟨S1024x128, .f32⟩
  | .hbm, ⟨108, _⟩ => ⟨S1x64x1x128, .f32⟩
  | .hbm, ⟨109, _⟩ => ⟨S16x64x1x128, .f32⟩
  | .hbm, ⟨110, _⟩ => ⟨S1024x128, .f32⟩
  | .hbm, ⟨111, _⟩ => ⟨S2048x1024, .bf16⟩
  | .hbm, ⟨112, _⟩ => ⟨S2048x256, .f32⟩
  | .hbm, ⟨113, _⟩ => ⟨S2048x32, .f32⟩
  | .hbm, ⟨114, _⟩ => ⟨S2048x512, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1x1024, .f32⟩
  | .local _ .vmem, ⟨8, _⟩ => ⟨S1024x1792, .bf16⟩
  | .local _ .vmem, ⟨9, _⟩ => ⟨S1x768, .f32⟩
  | .local _ .vmem, ⟨10, _⟩ => ⟨S768x1024, .bf16⟩
  | .local _ .vmem, ⟨11, _⟩ => ⟨S1x256, .f32⟩
  | .local _ .vmem, ⟨12, _⟩ => ⟨S256x1024, .bf16⟩
  | .local _ .vmem, ⟨13, _⟩ => ⟨S1024x256, .bf16⟩
  | .local _ .vmem, ⟨14, _⟩ => ⟨S1024x1024, .bf16⟩
  | .local _ .vmem, ⟨15, _⟩ => ⟨S1024x1024, .bf16⟩
  | .local _ .vmem, ⟨16, _⟩ => ⟨S1024x256, .f32⟩
  | .local _ .vmem, ⟨17, _⟩ => ⟨S1024x256, .f32⟩
  | .local _ .vmem, ⟨18, _⟩ => ⟨S1024x32, .f32⟩
  | .local _ .vmem, ⟨19, _⟩ => ⟨S1024x32, .f32⟩
  | .local _ .vmem, ⟨20, _⟩ => ⟨S1024x512, .f32⟩
  | .local _ .vmem, ⟨21, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_cst_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89_0 : Ref sig .tc := ⟨.hbm, 111, rfl⟩
abbrev main_v89_1 : Ref sig .tc := ⟨.hbm, 112, rfl⟩
abbrev main_v89_2 : Ref sig .tc := ⟨.hbm, 113, rfl⟩
abbrev main_v89_3 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1792 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S768x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjSampleRefIdeal.lean ====
abbrev S2048x1024 : Shape := ⟨2, ![2048, 1024]⟩
abbrev S1024 : Shape := ⟨1, ![1024]⟩
abbrev S1024x1568 : Shape := ⟨2, ![1024, 1568]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x1568 : Shape := ⟨2, ![2048, 1568]⟩
abbrev S2048x768 : Shape := ⟨2, ![2048, 768]⟩
abbrev S2048x256 : Shape := ⟨2, ![2048, 256]⟩
abbrev S2048x32 : Shape := ⟨2, ![2048, 32]⟩
abbrev S2048x512 : Shape := ⟨2, ![2048, 512]⟩
abbrev S1x256 : Shape := ⟨2, ![1, 256]⟩
abbrev S32x64x32 : Shape := ⟨3, ![32, 64, 32]⟩
abbrev S64 : Shape := ⟨1, ![64]⟩
abbrev S16 : Shape := ⟨1, ![16]⟩
abbrev S64x1 : Shape := ⟨2, ![64, 1]⟩
abbrev S1x16 : Shape := ⟨2, ![1, 16]⟩
abbrev S64x16 : Shape := ⟨2, ![64, 16]⟩
abbrev S1x64x16 : Shape := ⟨3, ![1, 64, 16]⟩
abbrev S32x64x16 : Shape := ⟨3, ![32, 64, 16]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1568, .f32⟩
  | .hbm, ⟨3, _⟩ => ⟨S768, .f32⟩
  | .hbm, ⟨4, _⟩ => ⟨S768x768, .f32⟩
  | .hbm, ⟨5, _⟩ => ⟨S256, .f32⟩
  | .hbm, ⟨6, _⟩ => ⟨S256x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1568, .f32⟩
  | .hbm, ⟨24, _⟩ => ⟨S2048x768, .f32⟩
  | .hbm, ⟨25, _⟩ => ⟨S2048x256, .f32⟩
  | .hbm, ⟨26, _⟩ => ⟨S2048x32, .f32⟩
  | .hbm, ⟨27, _⟩ => ⟨S2048x512, .f32⟩
  | .hbm, ⟨28, _⟩ => ⟨S2048x256, .f32⟩
  | .hbm, ⟨29, _⟩ => ⟨S_, .f32⟩
  | .hbm, ⟨30, _⟩ => ⟨S2048, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S2048x256, .f32⟩
  | .hbm, ⟨40, _⟩ => ⟨S2048x256, .f32⟩
  | .hbm, ⟨41, _⟩ => ⟨S1x256, .f32⟩
  | .hbm, ⟨42, _⟩ => ⟨S2048x256, .f32⟩
  | .hbm, ⟨43, _⟩ => ⟨S2048x256, .f32⟩
  | .hbm, ⟨44, _⟩ => ⟨S32x64x32, .f32⟩
  | .hbm, ⟨45, _⟩ => ⟨S64, .i32⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S64, .f32⟩
  | .hbm, ⟨61, _⟩ => ⟨S64x1, .f32⟩
  | .hbm, ⟨62, _⟩ => ⟨S1x16, .f32⟩
  | .hbm, ⟨63, _⟩ => ⟨S64x16, .f32⟩
  | .hbm, ⟨64, _⟩ => ⟨S64x16, .f32⟩
  | .hbm, ⟨65, _⟩ => ⟨S64x16, .f32⟩
  | .hbm, ⟨66, _⟩ => ⟨S64x16, .f32⟩
  | .hbm, ⟨67, _⟩ => ⟨S1x64x16, .f32⟩
  | .hbm, ⟨68, _⟩ => ⟨S64x16, .f32⟩
  | .hbm, ⟨69, _⟩ => ⟨S1x64x16, .f32⟩
  | .hbm, ⟨70, _⟩ => ⟨S32x64x16, .f32⟩
  | .hbm, ⟨71, _⟩ => ⟨S32x64x16, .f32⟩
  | .hbm, ⟨72, _⟩ => ⟨S32x64x16, .f32⟩
  | .hbm, ⟨73, _⟩ => ⟨S32x64x16, .f32⟩
  | .hbm, ⟨74, _⟩ => ⟨S32x64x16, .f32⟩
  | .hbm, ⟨75, _⟩ => ⟨S32x64x16, .f32⟩
  | .hbm, ⟨76, _⟩ => ⟨S32x64x16, .f32⟩
  | .hbm, ⟨77, _⟩ => ⟨S32x64x16, .f32⟩
  | .hbm, ⟨78, _⟩ => ⟨S32x64x16, .f32⟩
  | .hbm, ⟨79, _⟩ => ⟨S32x64x16, .f32⟩
  | .hbm, ⟨80, _⟩ => ⟨S32x64x16, .f32⟩
  | .hbm, ⟨81, _⟩ => ⟨S32x64x16, .f32⟩
  | .hbm, ⟨82, _⟩ => ⟨S32x64x32, .f32⟩
  | .hbm, ⟨83, _⟩ => ⟨S2048x32, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.PostSpec.lean ====
/- The arithmetic of one row of the output projection and the feed-forward part, over the extended reals. Both the
   kernel and the reference are read to `postRow`, so that the two meet there. -/
module

public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.PostSpec

open Idealize.ShloMosaic Idealize.ShloMosaic.ValueIdx

/-- The root-mean-square normalisation of a row of `n` entries, times a weight per entry: `count` is `n` as a float and
    the constant added under the root is the layer's epsilon. -/
def rms {n : Nat} (count : EReal) (row g : Fin n → EReal) (d : Fin n) : EReal :=
  row d * Ideal.rsqrt (Ideal.div (∑ k : Fin n, row k * row k) count + Ideal.ofBits .f32 0x358637BD#32) * g d

/-- 512 as a float. -/
def c512 : EReal := Ideal.ofBits .f32 0x44000000#32

/-- 1024 as a float. -/
def c1024 : EReal := Ideal.ofBits .f32 0x44800000#32

/-- One row after the attention and state-space groups are merged through the output projection. -/
def merged (x : Fin 1024 → EReal) (attn ssm ga : Fin 512 → EReal) (wa ws : Fin 512 → Fin 1024 → EReal) (d : Fin 1024) : EReal :=
  x d + ((∑ k : Fin 512, rms c512 attn ga k * wa k d) + ∑ k : Fin 512, ssm k * ws k d)

/-- The hidden unit `f` of the feed-forward part of a row: the square of the positive part. -/
def hidden (h gm : Fin 1024 → EReal) (up : Fin 1024 → Fin 4096 → EReal) (f : Fin 4096) : EReal :=
  max (∑ k : Fin 1024, rms c1024 h gm k * up k f) 0 * max (∑ k : Fin 1024, rms c1024 h gm k * up k f) 0

/-- The row after the feed-forward part is added to it. -/
def summed (h gm : Fin 1024 → EReal) (up : Fin 1024 → Fin 4096 → EReal) (down : Fin 4096 → Fin 1024 → EReal) (d : Fin 1024) : EReal :=
  h d + ∑ f : Fin 4096, hidden h gm up f * down f d

/-- The whole row: merge, feed-forward part, last normalisation. -/
def postRow (x : Fin 1024 → EReal) (attn ssm ga : Fin 512 → EReal) (wa ws : Fin 512 → Fin 1024 → EReal)
    (gm : Fin 1024 → EReal) (up : Fin 1024 → Fin 4096 → EReal) (down : Fin 4096 → Fin 1024 → EReal) (gf : Fin 1024 → EReal) :
    Fin 1024 → EReal :=
  rms c1024 (summed (merged x attn ssm ga wa ws) gm up down) gf

/-- A sum over the 4096 hidden units is the sum of its four quarters. -/
theorem sum_quarters (f : Fin 4096 → EReal) :
    ∑ i : Fin 4096, f i = (((∑ i : Fin 1024, f ⟨i.val, by omega⟩) + ∑ i : Fin 1024, f ⟨1024 + i.val, by omega⟩)
      + ∑ i : Fin 1024, f ⟨2048 + i.val, by omega⟩) + ∑ i : Fin 1024, f ⟨3072 + i.val, by omega⟩ := by
  rw [Fin.sum_univ_add (a := 3072) (b := 1024), Fin.sum_univ_add (a := 2048) (b := 1024), Fin.sum_univ_add (a := 1024) (b := 1024)]
  rfl

/-- A sum over the 1024 merged entries is the sum over the attention's 512 and the state-space group's 512. -/
theorem sum_halves (f : Fin 1024 → EReal) :
    ∑ i : Fin 1024, f i = (∑ i : Fin 512, f ⟨i.val, by omega⟩) + ∑ i : Fin 512, f ⟨512 + i.val, by omega⟩ := by
  rw [Fin.sum_univ_add (a := 512) (b := 512)]
  rfl

/-- A vector laid as a column, read at an entry. -/
theorem column_apply {m : Nat} (v : (⟨1, ![m]⟩ : Shape).Idx → EReal) (hc : (⟨1, ![m]⟩ : Shape).ShapeCasts ⟨2, ![m, 1]⟩) (r : Fin m) :
    shapeCast ⟨2, ![m, 1]⟩ v hc (ix2 r 0) = v (ix1 r) :=
  shapeCast_apply _ hc (ix2 r 0) (ix1 r) (by rw [Shape.rowMajor_val_one, Shape.rowMajor_val_two]; show r.val = r.val * 1 + 0; omega)

/-- A column broadcast along the rows, read at an entry. -/
theorem column_broadcast_apply {m n : Nat} (v : (⟨2, ![m, 1]⟩ : Shape).Idx → EReal) (h : (⟨2, ![m, 1]⟩ : Shape).Broadcasts ⟨2, ![m, n]⟩)
    (r : Fin m) (d : Fin n) : broadcastTo ⟨2, ![m, n]⟩ v h (ix2 r d) = v (ix2 r 0) :=
  broadcastTo_apply _ h _ _ fun a => match a with
    | ⟨0, _⟩ => by
      by_cases hm : m = 1
      · subst hm; simp [ix2]
      · simp [ix2, hm]
    | ⟨1, _⟩ => by simp [ix2]

/-- A row broadcast down the columns, read at an entry. -/
theorem row_broadcast_apply {m n : Nat} (v : (⟨2, ![1, n]⟩ : Shape).Idx → EReal) (h : (⟨2, ![1, n]⟩ : Shape).Broadcasts ⟨2, ![m, n]⟩)
    (r : Fin m) (d : Fin n) : broadcastTo ⟨2, ![m, n]⟩ v h (ix2 r d) = v (ix2 0 d) :=
  broadcastTo_apply _ h _ _ fun a => match a with
    | ⟨0, _⟩ => by simp [ix2]
    | ⟨1, _⟩ => by
      by_cases hn : n = 1
      · subst hn; simp [ix2]
      · simp [ix2, hn]

/-- The sums of a matrix's rows, read at a row. -/
theorem rowSum_apply {m n : Nat} (v : FVec Ideal ⟨2, ![m, n]⟩ .f32) (hr : (⟨2, ![m, n]⟩ : Shape).Reduces [1] ⟨1, ![m]⟩)
    (hφ : FKind.Formats .f32) (hacc : 0x00000000#32 = FKind.add.neutral .f32 hφ) (r : Fin m) :
    multiReduction .add [1] ⟨1, ![m]⟩ v 0x00000000#32 hr hφ hacc (ix1 r) = ∑ k : Fin n, v (ix2 r k) := by
  rw [Ideal.multiReduction_add_single]
  refine Finset.sum_congr rfl fun k _ => congrArg v (funext fun a => Fin.ext ?_)
  match a with
  | ⟨0, _⟩ => rfl
  | ⟨1, _⟩ => rfl

/-- The factor a kernel's normalisation multiplies a row by, read at the row. -/
theorem factor_apply {m n : Nat} (v : FVec Ideal ⟨2, ![m, n]⟩ .f32) (bits : BitVec 32)
    (hr : (⟨2, ![m, n]⟩ : Shape).Reduces [1] ⟨1, ![m]⟩) (hφ : FKind.Formats .f32) (hacc : 0x00000000#32 = FKind.add.neutral .f32 hφ)
    (hc : (⟨1, ![m]⟩ : Shape).ShapeCasts ⟨2, ![m, 1]⟩) (r : Fin m) :
    rsqrt (addf (divf (shapeCast ⟨2, ![m, 1]⟩ (multiReduction .add [1] ⟨1, ![m]⟩ (mulf v v) 0x00000000#32 hr hφ hacc) hc)
        (broadcast ⟨2, ![m, 1]⟩ (Scalar.ofBits (F := Ideal) .f32 bits))) (broadcast ⟨2, ![m, 1]⟩ (Scalar.ofBits (F := Ideal) .f32 0x358637BD#32))) (ix2 r 0)
      = Ideal.rsqrt (Ideal.div (∑ k : Fin n, v (ix2 r k) * v (ix2 r k)) (Ideal.ofBits .f32 bits) + Ideal.ofBits .f32 0x358637BD#32) := by
  show Ideal.rsqrt (Ideal.div (shapeCast ⟨2, ![m, 1]⟩ _ hc (ix2 r 0)) _ + _) = _
  rw [column_apply, rowSum_apply]
  rfl

/-- A kernel's normalised rows, read at an entry: `c` is the column of factors. -/
theorem rms_apply {m n : Nat} (v : FVec Ideal ⟨2, ![m, n]⟩ .f32) (c : FVec Ideal ⟨2, ![m, 1]⟩ .f32) (g : FVec Ideal ⟨2, ![1, n]⟩ .f32)
    (count : EReal) (hb : (⟨2, ![m, 1]⟩ : Shape).Broadcasts ⟨2, ![m, n]⟩) (hg : (⟨2, ![1, n]⟩ : Shape).Broadcasts ⟨2, ![m, n]⟩) (r : Fin m)
    (hc : c (ix2 r 0) = Ideal.rsqrt (Ideal.div (∑ k : Fin n, v (ix2 r k) * v (ix2 r k)) count + Ideal.ofBits .f32 0x358637BD#32)) (d : Fin n) :
    mulf (mulf v (broadcastTo ⟨2, ![m, n]⟩ c hb)) (broadcastTo ⟨2, ![m, n]⟩ g hg) (ix2 r d)
      = rms count (fun k => v (ix2 r k)) (fun k => g (ix2 0 k)) d := by
  show v (ix2 r d) * broadcastTo ⟨2, ![m, n]⟩ c hb (ix2 r d) * broadcastTo ⟨2, ![m, n]⟩ g hg (ix2 r d) = _
  rw [column_broadcast_apply, row_broadcast_apply, hc]
  rfl

/-- A kernel's product of rows and a matrix into a zero accumulator, read at an entry. -/
theorem product_apply {m k n : Nat} {φ₁ φ₂ : FTy} (a : FVec Ideal ⟨2, ![m, k]⟩ φ₁) (b : FVec Ideal ⟨2, ![k, n]⟩ φ₂) (r : Fin m) (d : Fin n) :
    FloatOps.matmul (DotDims.plain m k n) none a b (constant ⟨2, ![m, n]⟩ .f32 0x00000000#32) (ix2 r d)
      = ∑ j : Fin k, a (ix2 r j) * b (ix2 j d) := by
  rw [Ideal.matmul_plain_apply]
  show Ideal.ofBits .f32 0x00000000#32 + _ = _
  rw [Ideal.ofBits_zero_f32, zero_add]

end Cert.PostSpec

end
-- ==== Proof.PostKernel.lean ====
/- What the kernel of the output projection and feed-forward part leaves in its result array: row by row `postRow` of
   the argument arrays' rows and the weights. -/
module

public import proofs.«01_k».proof.Proof.PostSpec
public import proofs.«01_k».proof.Proof.Gen.PostIdeal.Value

@[expose] public section

noncomputable section

namespace Cert.PostIdeal.Rows

open Cert.PostIdeal Cert.PostIdeal.Gen Cert.PostSpec Idealize.ShloMosaic Idealize.ShloMosaic.TcCoe Idealize.ShloMosaic.ValueIdx Idealize.SL.Sem
open Idealize.ShloMosaic.Pipeline (Dat)

theorem zeros : (![0, 0] : Fin 2 → Nat) = fun _ => 0 := funext fun a => by fin_cases a <;> rfl

/-- The merged rows, read at an entry. -/
theorem pay2_apply (v0 : Vec Ideal S512x512 .f32) (v1 : Vec Ideal S1x512 .f32) (v16 : Vec Ideal S512x1024 .bf16) (v19 : Vec Ideal S512x512 .f32)
    (v21 : Vec Ideal S512x1024 .bf16) (v25 : Vec Ideal S512x1024 .f32) (r : Fin 512) (d : Fin 1024) :
    k0_pay2 (F := Ideal) v0 v1 v16 v19 v21 v25 (ix2 r d)
      = merged (fun k => v25 (ix2 r k)) (fun k => v0 (ix2 r k)) (fun k => v19 (ix2 r k)) (fun k => v1 (ix2 0 k))
          (fun k e => v16 (ix2 k e)) (fun k e => v21 (ix2 k e)) d := by
  unfold k0_pay2
  simp only [shapeCast_self]
  show v25 (ix2 r d) + (FloatOps.matmul (F := Ideal) (DotDims.plain 512 512 1024) none _ (v16 : FVec Ideal S512x1024 .bf16) (constant S512x1024 .f32 0x00000000#32) (ix2 r d)
    + FloatOps.matmul (F := Ideal) (DotDims.plain 512 512 1024) none (truncf .bf16 v19 bitsLt_bf16_f32) (v21 : FVec Ideal S512x1024 .bf16) (constant S512x1024 .f32 0x00000000#32) (ix2 r d)) = _
  rw [product_apply, product_apply]
  refine congrArg (_ + ·) (congrArg (· + _) (Finset.sum_congr rfl fun k _ => congrArg (· * _) ?_))
  exact rms_apply v0 _ v1 c512 _ _ r (factor_apply v0 _ _ _ _ _ r) k

/-- The column of factors of the second normalisation. -/
theorem pay4_apply (v0 : Vec Ideal S512x512 .f32) (v1 : Vec Ideal S1x512 .f32) (v16 : Vec Ideal S512x1024 .bf16) (v19 : Vec Ideal S512x512 .f32)
    (v21 : Vec Ideal S512x1024 .bf16) (v25 : Vec Ideal S512x1024 .f32) (r : Fin 512) :
    k0_pay4 (F := Ideal) v0 v1 v16 v19 v21 v25 (ix2 r 0)
      = Ideal.rsqrt (Ideal.div (∑ k : Fin 1024, k0_pay2 v0 v1 v16 v19 v21 v25 (ix2 r k) * k0_pay2 v0 v1 v16 v19 v21 v25 (ix2 r k)) c1024
          + Ideal.ofBits .f32 0x358637BD#32) := by
  unfold k0_pay4
  exact factor_apply (k0_pay2 v0 v1 v16 v19 v21 v25) _ _ _ _ _ r

section Block

variable (v26 : FVec Ideal S512x1024 .f32) (v28 : FVec Ideal S1x1024 .f32) (v36 : FVec Ideal S512x1 .f32) (r : Fin 512)
  (h36 : v36 (ix2 r 0) = Ideal.rsqrt (Ideal.div (∑ k : Fin 1024, v26 (ix2 r k) * v26 (ix2 r k)) c1024 + Ideal.ofBits .f32 0x358637BD#32))

include h36

/-- The second normalisation, read at an entry. -/
theorem pay5_apply (d : Fin 1024) : k0_pay5 v26 v28 v36 (ix2 r d) = rms c1024 (fun k => v26 (ix2 r k)) (fun k => v28 (ix2 0 k)) d := by
  unfold k0_pay5
  exact rms_apply v26 v36 v28 c1024 _ _ r h36 d

/-- One chunk of the feed-forward part, from the chunk's columns of the first matrix and its rows of the second. -/
theorem chunk_apply (a : FVec Ideal S512x1024 .bf16) (ha : ∀ d, a (ix2 r d) = rms c1024 (fun k => v26 (ix2 r k)) (fun k => v28 (ix2 0 k)) d)
    (u w : FVec Ideal S1024x1024 .bf16) (up : Fin 1024 → Fin 4096 → EReal) (down : Fin 4096 → Fin 1024 → EReal) (o : Nat) (ho : o + 1024 ≤ 4096)
    (hu : ∀ k (f : Fin 1024), u (ix2 k f) = up k ⟨o + f.val, by omega⟩) (hw : ∀ (f : Fin 1024) d, w (ix2 f d) = down ⟨o + f.val, by omega⟩ d) (d : Fin 1024) :
    FloatOps.matmul (DotDims.plain 512 1024 1024) none
        (truncf .bf16 (mulf (maximumf (FloatOps.matmul (DotDims.plain 512 1024 1024) none a u (constant S512x1024 .f32 0x00000000#32))
            (broadcast S512x1024 (Scalar.ofBits (F := Ideal) .f32 0x00000000#32)))
          (maximumf (FloatOps.matmul (DotDims.plain 512 1024 1024) none a u (constant S512x1024 .f32 0x00000000#32))
            (broadcast S512x1024 (Scalar.ofBits (F := Ideal) .f32 0x00000000#32)))) bitsLt_bf16_f32 : FVec Ideal S512x1024 .bf16)
        w (constant S512x1024 .f32 0x00000000#32) (ix2 r d)
      = ∑ f : Fin 1024, hidden (fun k => v26 (ix2 r k)) (fun k => v28 (ix2 0 k)) up ⟨o + f.val, by omega⟩ * down ⟨o + f.val, by omega⟩ d := by
  rw [product_apply]
  refine Finset.sum_congr rfl fun f _ => ?_
  rw [hw]
  refine congrArg (· * _) ?_
  show max (FloatOps.matmul (DotDims.plain 512 1024 1024) none a u (constant S512x1024 .f32 0x00000000#32) (ix2 r f)) (Ideal.ofBits .f32 0x00000000#32)
    * max (FloatOps.matmul (DotDims.plain 512 1024 1024) none a u (constant S512x1024 .f32 0x00000000#32) (ix2 r f)) (Ideal.ofBits .f32 0x00000000#32) = _
  rw [product_apply, Ideal.ofBits_zero_f32]
  simp only [ha, hu]
  rfl

end Block

/-- A block of 1024 columns of the first feed-forward matrix, loaded and read at an entry. -/
theorem up_apply (x : Vec Ideal S1024x4096 .bf16) (o : Nat) (ho : o + 1024 ≤ 4096) (inb : ∀ a, ![0, o] a + S1024x1024.size a ≤ S1024x4096.size a)
    (k f : Fin 1024) : View.ld x (Rect.unit (s := S1024x4096) ![0, o] S1024x1024.size inb) (ix2 k f) = x (ix2 k ⟨o + f.val, by omega⟩) := by
  refine congrArg x (funext fun a => Fin.ext ?_)
  match a with
  | ⟨0, _⟩ => show 0 + 1 * k.val = k.val; omega
  | ⟨1, _⟩ => show o + 1 * f.val = o + f.val; omega

/-- A block of 1024 rows of the second feed-forward matrix, loaded and read at an entry. -/
theorem down_apply (x : Vec Ideal S4096x1024 .bf16) (o : Nat) (ho : o + 1024 ≤ 4096) (inb : ∀ a, ![o, 0] a + S1024x1024.size a ≤ S4096x1024.size a)
    (f d : Fin 1024) : View.ld x (Rect.unit (s := S4096x1024) ![o, 0] S1024x1024.size inb) (ix2 f d) = x (ix2 ⟨o + f.val, by omega⟩ d) := by
  refine congrArg x (funext fun a => Fin.ext ?_)
  match a with
  | ⟨0, _⟩ => show o + 1 * f.val = o + f.val; omega
  | ⟨1, _⟩ => show 0 + 1 * d.val = d.val; omega

/-- The block the body leaves in the output window: each row is `postRow` of the input blocks' rows. -/
theorem out_apply (x0 : Vec Ideal S512x1024 .f32) (x1 x2 : Vec Ideal S512x512 .f32) (x3 : Vec Ideal S1x512 .f32) (x4 x5 : Vec Ideal S512x1024 .bf16)
    (x6 : Vec Ideal S1x1024 .f32) (x7 : Vec Ideal S1024x4096 .bf16) (x8 : Vec Ideal S4096x1024 .bf16) (x9 : Vec Ideal S1x1024 .f32) (r : Fin 512) (d : Fin 1024) :
    out0_10 x0 x1 x2 x3 x4 x5 x6 x7 x8 x9 (ix2 r d)
      = postRow (fun k => x0 (ix2 r k)) (fun k => x1 (ix2 r k)) (fun k => x2 (ix2 r k)) (fun k => x3 (ix2 0 k)) (fun k e => x4 (ix2 k e))
          (fun k e => x5 (ix2 k e)) (fun k => x6 (ix2 0 k)) (fun k f => x7 (ix2 k f)) (fun f e => x8 (ix2 f e)) (fun k => x9 (ix2 0 k)) d := by
  unfold out0_10
  rw [View.canon_unit_zero zeros]
  have l0 : View.ld x0 r0_2 = x0 := View.ld_unit_zero zeros _ x0
  have l1 : View.ld x1 r0_0 = x1 := View.ld_unit_zero zeros _ x1
  have l2 : View.ld x2 r0_0 = x2 := View.ld_unit_zero zeros _ x2
  have l3 : View.ld x3 r0_1 = x3 := View.ld_unit_zero zeros _ x3
  have l4 : View.ld x4 r0_2 = x4 := View.ld_unit_zero zeros _ x4
  have l5 : View.ld x5 r0_2 = x5 := View.ld_unit_zero zeros _ x5
  have l6 : View.ld x6 r0_3 = x6 := View.ld_unit_zero zeros _ x6
  have l9 : View.ld x9 r0_3 = x9 := View.ld_unit_zero zeros _ x9
  have h26 : ∀ k, k0_pay8 x0 x1 x2 x3 x4 x5 x6 x7 x8 x9 (ix2 r k) = merged (fun k => x0 (ix2 r k)) (fun k => x1 (ix2 r k)) (fun k => x2 (ix2 r k)) (fun k => x3 (ix2 0 k)) (fun k e => x4 (ix2 k e)) (fun k e => x5 (ix2 k e)) k := fun k => by
    unfold k0_pay8
    rw [l0, l1, l2, l3, l4, l5]
    exact pay2_apply _ _ _ _ _ _ r k
  have h28 : k0_pay9 x0 x1 x2 x3 x4 x5 x6 x7 x8 x9 = x6 := by
    unfold k0_pay9 k0_pay3
    rw [l6, shapeCast_self]
  have h36 := pay4_apply (View.ld x1 r0_0) (View.ld x3 r0_1) (View.ld x4 r0_2) (View.ld x2 r0_0) (View.ld x5 r0_2) (View.ld x0 r0_2) r
  change k0_pay10 x0 x1 x2 x3 x4 x5 x6 x7 x8 x9 (ix2 r 0) = Ideal.rsqrt (Ideal.div (∑ k : Fin 1024, k0_pay8 x0 x1 x2 x3 x4 x5 x6 x7 x8 x9 (ix2 r k)
    * k0_pay8 x0 x1 x2 x3 x4 x5 x6 x7 x8 x9 (ix2 r k)) c1024 + Ideal.ofBits .f32 0x358637BD#32) at h36
  generalize k0_pay8 x0 x1 x2 x3 x4 x5 x6 x7 x8 x9 = v26 at *
  generalize k0_pay10 x0 x1 x2 x3 x4 x5 x6 x7 x8 x9 = v36 at *
  rw [h28]
  have h5 := pay5_apply v26 x6 v36 r h36
  have hs : ∀ k, addf v26 (addf (addf (k0_pay6 v26 x6 v36 (View.ld x7 r0_4) (View.ld x8 r0_5) (View.ld x7 r0_6) (View.ld x8 r0_7))
      (k0_pay7 v26 x6 v36 (View.ld x7 r0_8) (View.ld x8 r0_9)))
      (FloatOps.matmul (DotDims.plain 512 1024 1024) none
        (truncf .bf16 (mulf (maximumf (FloatOps.matmul (DotDims.plain 512 1024 1024) none (k0_pay5 v26 x6 v36) (View.ld x7 r0_10) (constant S512x1024 .f32 0x00000000#32))
            (broadcast S512x1024 (Scalar.ofBits (F := Ideal) .f32 0x00000000#32)))
          (maximumf (FloatOps.matmul (DotDims.plain 512 1024 1024) none (k0_pay5 v26 x6 v36) (View.ld x7 r0_10) (constant S512x1024 .f32 0x00000000#32))
            (broadcast S512x1024 (Scalar.ofBits (F := Ideal) .f32 0x00000000#32)))) bitsLt_bf16_f32 : FVec Ideal S512x1024 .bf16)
        (View.ld x8 r0_11) (constant S512x1024 .f32 0x00000000#32))) (ix2 r k)
      = summed (fun k => v26 (ix2 r k)) (fun k => x6 (ix2 0 k)) (fun k f => x7 (ix2 k f)) (fun f e => x8 (ix2 f e)) k := fun k => by
    unfold summed
    rw [sum_quarters]
    show v26 (ix2 r k) + ((k0_pay6 _ _ _ _ _ _ _ (ix2 r k) + k0_pay7 _ _ _ _ _ (ix2 r k)) + _) = _
    refine congrArg (_ + ·) ?_
    refine congrArg₂ (· + ·) (congrArg₂ (· + ·) ?_ ?_) ?_
    · unfold k0_pay6
      simp only [shapeCast_self]
      show (Ideal.ofBits .f32 0x00000000#32 + FloatOps.matmul (DotDims.plain 512 1024 1024) none _ _ _ (ix2 r k))
        + FloatOps.matmul (DotDims.plain 512 1024 1024) none _ _ _ (ix2 r k) = _
      rw [Ideal.ofBits_zero_f32, zero_add]
      refine congrArg₂ (· + ·) ?_ ?_
      · refine (chunk_apply v26 x6 v36 r h36 _ h5 _ _ (fun k f => x7 (ix2 k f)) (fun f e => x8 (ix2 f e)) 0 (by omega)
          (fun k f => up_apply x7 0 (by omega) _ k f) (fun f d => down_apply x8 0 (by omega) _ f d) k).trans ?_
        simp only [Nat.zero_add]
      · exact chunk_apply v26 x6 v36 r h36 _ h5 _ _ (fun k f => x7 (ix2 k f)) (fun f e => x8 (ix2 f e)) 1024 (by omega)
          (fun k f => up_apply x7 1024 (by omega) _ k f) (fun f d => down_apply x8 1024 (by omega) _ f d) k
    · unfold k0_pay7
      simp only [shapeCast_self]
      exact chunk_apply v26 x6 v36 r h36 _ h5 _ _ (fun k f => x7 (ix2 k f)) (fun f e => x8 (ix2 f e)) 2048 (by omega)
        (fun k f => up_apply x7 2048 (by omega) _ k f) (fun f d => down_apply x8 2048 (by omega) _ f d) k
    · exact chunk_apply v26 x6 v36 r h36 _ h5 _ _ (fun k f => x7 (ix2 k f)) (fun f e => x8 (ix2 f e)) 3072 (by omega)
        (fun k f => up_apply x7 3072 (by omega) _ k f) (fun f d => down_apply x8 3072 (by omega) _ f d) k
  unfold k0_pay1
  simp only [shapeCast_self]
  rw [l9]
  refine (rms_apply (n := 1024) _ _ x9 c1024 broadcasts_S512x1_S512x1024 broadcasts_S1x1024_S512x1024 r (factor_apply (n := 1024) _ _ _ _ _ _ r) d).trans ?_
  unfold postRow
  refine congrArg (fun f => rms c1024 f _ d) (funext fun k => ?_)
  refine (hs k).trans ?_
  exact congrArg (fun f => summed f _ _ _ k) (funext h26)

end Cert.PostIdeal.Rows

end
-- ==== Proof.PostReference.lean ====
/- What the reference of the output projection and feed-forward part computes: row by row `postRow` of the argument
   arrays' rows and the weights. -/
module

public import proofs.«01_k».proof.Proof.PostSpec
public import proofs.«01_k».proof.Proof.Gen.PostRefIdeal.Read

@[expose] public section

noncomputable section

namespace Cert.PostRefIdeal.Rows

open Cert.PostRefIdeal Cert.PostRefIdeal.Read Cert.PostSpec Idealize.ShloMosaic Idealize.ShloMosaic.TcCoe Idealize.ShloMosaic.ValueIdx

variable (x0 : (⟨S65536x1024, .f32⟩ : BufTy).Contents (Elt Ideal)) (x1 x2 : (⟨S65536x512, .f32⟩ : BufTy).Contents (Elt Ideal))
  (x3 : (⟨S512, .f32⟩ : BufTy).Contents (Elt Ideal)) (x4 : (⟨S1024x1024, .f32⟩ : BufTy).Contents (Elt Ideal))
  (x5 : (⟨S1024, .f32⟩ : BufTy).Contents (Elt Ideal)) (x6 : (⟨S1024x4096, .f32⟩ : BufTy).Contents (Elt Ideal))
  (x7 : (⟨S4096x1024, .f32⟩ : BufTy).Contents (Elt Ideal)) (x8 : (⟨S1024, .f32⟩ : BufTy).Contents (Elt Ideal))

/-- The reference's normalised attention rows. -/
theorem v12_apply (r : Fin 65536) (d : Fin 512) :
    val_main_v12 (F := Ideal) x1 x3 (ix2 r d) = rms c512 (fun k => x1 (ix2 r k)) (fun k => x3 (ix1 k)) d := by
  rw [val_main_v12_apply, val_main_v9_apply, val_main_v8_apply, val_main_v7_apply, val_main_v6_apply, val_main_v4_apply,
    val_main_v2_apply, val_main_v1_apply, val_main_v11_apply, val_main_v10_apply]
  show x1 _ * Ideal.rsqrt (Ideal.div (Ideal.ofBits .f32 0x00000000#32 + _) _ + _) * _ = _
  rw [Ideal.ofBits_zero_f32, zero_add]
  have e (k : Fin 512) : (idx_main_v1 (idx_main_v2 (idx_main_v8 (ix2 r d))) k : S65536x512.Idx) = ix2 r k := Shape.idx_ext₂ rfl rfl
  have e' : (idx_main_v10 (idx_main_v11 (ix2 r d)) : S512.Idx) = ix1 d := funext fun a => Fin.ext (by match a with | ⟨0, _⟩ => rfl)
  simp only [e, e']
  rfl

/-- The two groups of normalised rows side by side: the attention's 512 entries, then the state-space group's. -/
theorem v13_left (r : Fin 65536) (d : Fin 512) :
    val_main_v13 (F := Ideal) x1 x2 x3 (ix2 r ⟨d.val, by omega⟩) = rms c512 (fun k => x1 (ix2 r k)) (fun k => x3 (ix1 k)) d := by
  rw [← v12_apply]
  exact concatenate_pair_apply_left (t := S65536x1024) (s₁ := S65536x512) (s₂ := S65536x512) 1 _ x2 _ (ix2 r ⟨d.val, by omega⟩) rfl (ix2 r d)
    fun b => match b with | ⟨0, _⟩ => rfl | ⟨1, _⟩ => rfl

/-- The state-space group's half of the rows. -/
theorem v13_right (r : Fin 65536) (d : Fin 512) :
    val_main_v13 (F := Ideal) x1 x2 x3 (ix2 r ⟨512 + d.val, by omega⟩) = x2 (ix2 r d) := by
  exact concatenate_pair_apply_right (t := S65536x1024) (s₁ := S65536x512) (s₂ := S65536x512) 1 _ x2 _ (ix2 r ⟨512 + d.val, by omega⟩) rfl rfl (ix2 r d)
    (fun b => match b with | ⟨0, _⟩ => fun _ => rfl | ⟨1, _⟩ => fun h => absurd rfl h) (Nat.add_comm _ _)

/-- The reference's merged rows. -/
theorem v15_apply (r : Fin 65536) (d : Fin 1024) :
    val_main_v15 (F := Ideal) x0 x1 x2 x3 x4 (ix2 r d)
      = merged (fun k => x0 (ix2 r k)) (fun k => x1 (ix2 r k)) (fun k => x2 (ix2 r k)) (fun k => x3 (ix1 k))
          (fun k e => x4 (ix2 ⟨k.val, by omega⟩ e)) (fun k e => x4 (ix2 ⟨512 + k.val, by omega⟩ e)) d := by
  rw [val_main_v15_apply, val_main_v14_apply, sum_halves]
  have e (k : Fin 1024) : (lidx_main_v14 (ix2 r d) k : S65536x1024.Idx) = ix2 r k := Shape.idx_ext₂ rfl rfl
  have e' (k : Fin 1024) : (ridx_main_v14 (ix2 r d) k : S1024x1024.Idx) = ix2 k d := Shape.idx_ext₂ rfl rfl
  simp only [e, e', v13_left, v13_right]
  rfl

/-- The reference's rows before the feed-forward part, normalised. -/
theorem v28_apply (r : Fin 65536) (d : Fin 1024) :
    val_main_v28 (F := Ideal) x0 x1 x2 x3 x4 x5 (ix2 r d)
      = rms c1024 (fun k => val_main_v15 (F := Ideal) x0 x1 x2 x3 x4 (ix2 r k)) (fun k => x5 (ix1 k)) d := by
  rw [val_main_v28_apply, val_main_v25_apply, val_main_v24_apply, val_main_v23_apply, val_main_v22_apply, val_main_v20_apply,
    val_main_v18_apply, val_main_v17_apply, val_main_v27_apply, val_main_v26_apply]
  show _ * Ideal.rsqrt (Ideal.div (Ideal.ofBits .f32 0x00000000#32 + _) _ + _) * _ = _
  rw [Ideal.ofBits_zero_f32, zero_add]
  have e (k : Fin 1024) : (idx_main_v17 (idx_main_v18 (idx_main_v24 (ix2 r d))) k : S65536x1024.Idx) = ix2 r k := Shape.idx_ext₂ rfl rfl
  have e' : (idx_main_v26 (idx_main_v27 (ix2 r d)) : S1024.Idx) = ix1 d := funext fun a => Fin.ext (by match a with | ⟨0, _⟩ => rfl)
  simp only [e, e', val_main_v16_apply]
  rfl

/-- The reference's hidden units. -/
theorem v31_apply (r : Fin 65536) (f : Fin 4096) :
    val_main_v31 (F := Ideal) x0 x1 x2 x3 x4 x5 x6 (ix2 r f)
      = hidden (fun k => val_main_v15 (F := Ideal) x0 x1 x2 x3 x4 (ix2 r k)) (fun k => x5 (ix1 k)) (fun k f => x6 (ix2 k f)) f := by
  rw [val_main_v31_apply, val_main_v30_apply, val_main_v29_apply, val_main_call0_v0_apply]
  have e (k : Fin 1024) : (lidx_main_v29 (ix2 r f) k : S65536x1024.Idx) = ix2 r k := Shape.idx_ext₂ rfl rfl
  have e' (k : Fin 1024) : (ridx_main_v29 (ix2 r f) k : S1024x4096.Idx) = ix2 k f := Shape.idx_ext₂ rfl rfl
  simp only [e, e', v28_apply]
  show max _ (Ideal.ofBits .f32 0x00000000#32) * max _ (Ideal.ofBits .f32 0x00000000#32) = _
  rw [Ideal.ofBits_zero_f32]
  rfl

/-- The reference's rows with the feed-forward part added. -/
theorem v33_apply (r : Fin 65536) (d : Fin 1024) :
    val_main_v33 (F := Ideal) x0 x1 x2 x3 x4 x5 x6 x7 (ix2 r d)
      = summed (fun k => val_main_v15 (F := Ideal) x0 x1 x2 x3 x4 (ix2 r k)) (fun k => x5 (ix1 k)) (fun k f => x6 (ix2 k f))
          (fun f e => x7 (ix2 f e)) d := by
  rw [val_main_v33_apply, val_main_v32_apply]
  have e (k : Fin 4096) : (lidx_main_v32 (ix2 r d) k : S65536x4096.Idx) = ix2 r k := Shape.idx_ext₂ rfl rfl
  have e' (k : Fin 4096) : (ridx_main_v32 (ix2 r d) k : S4096x1024.Idx) = ix2 k d := Shape.idx_ext₂ rfl rfl
  simp only [e, e', v31_apply]
  rfl

/-- The reference's result, row by row. -/
theorem v46_apply (r : Fin 65536) (d : Fin 1024) :
    val_main_v46 (F := Ideal) x0 x1 x2 x3 x4 x5 x6 x7 x8 (ix2 r d)
      = postRow (fun k => x0 (ix2 r k)) (fun k => x1 (ix2 r k)) (fun k => x2 (ix2 r k)) (fun k => x3 (ix1 k))
          (fun k e => x4 (ix2 ⟨k.val, by omega⟩ e)) (fun k e => x4 (ix2 ⟨512 + k.val, by omega⟩ e)) (fun k => x5 (ix1 k))
          (fun k f => x6 (ix2 k f)) (fun f e => x7 (ix2 f e)) (fun k => x8 (ix1 k)) d := by
  rw [val_main_v46_apply, val_main_v43_apply, val_main_v42_apply, val_main_v41_apply, val_main_v40_apply, val_main_v38_apply,
    val_main_v36_apply, val_main_v35_apply, val_main_v45_apply, val_main_v44_apply]
  show _ * Ideal.rsqrt (Ideal.div (Ideal.ofBits .f32 0x00000000#32 + _) _ + _) * _ = _
  rw [Ideal.ofBits_zero_f32, zero_add]
  have e (k : Fin 1024) : (idx_main_v35 (idx_main_v36 (idx_main_v42 (ix2 r d))) k : S65536x1024.Idx) = ix2 r k := Shape.idx_ext₂ rfl rfl
  have e' : (idx_main_v44 (idx_main_v45 (ix2 r d)) : S1024.Idx) = ix1 d := funext fun a => Fin.ext (by match a with | ⟨0, _⟩ => rfl)
  simp only [e, e', val_main_v34_apply, v33_apply, v15_apply]
  rfl

end Cert.PostRefIdeal.Rows

end
-- ==== Proof.PostValue.lean ====
/- The output projection and feed-forward part: the kernel's result array equals the reference's, entry for entry. -/
module

public import proofs.«01_k».proof.Defs
public import proofs.«01_k».proof.Proof.PostKernel
public import proofs.«01_k».proof.Proof.PostReference
public import Idealize.ShloMosaic.Lib.Pipeline.ValueKit.Geometry

@[expose] public section

noncomputable section

namespace Cert.PostIdeal.Rows

open Cert.PostIdeal Cert.PostIdeal.Gen Cert.PostSpec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The result array: `postRow` of the argument arrays' rows, entry for entry. -/
def result (c : Dev nD) : FVec Ideal S65536x1024 .f32 := fun i =>
  postRow (fun k => m ((c : Thread nD τ).loc main_arg0) (ix2 (i 0) k)) (fun k => m ((c : Thread nD τ).loc main_arg1) (ix2 (i 0) k))
    (fun k => m ((c : Thread nD τ).loc main_arg2) (ix2 (i 0) k)) (fun k => m ((c : Thread nD τ).loc main_arg3) (ix1 k))
    (fun k e => m ((c : Thread nD τ).loc main_arg4) (ix2 ⟨k.val, by omega⟩ e)) (fun k e => m ((c : Thread nD τ).loc main_arg4) (ix2 ⟨512 + k.val, by omega⟩ e))
    (fun k => m ((c : Thread nD τ).loc main_arg5) (ix1 k)) (fun k f => m ((c : Thread nD τ).loc main_arg6) (ix2 k f))
    (fun f e => m ((c : Thread nD τ).loc main_arg7) (ix2 f e)) (fun k => m ((c : Thread nD τ).loc main_arg8) (ix1 k)) (i 1)

/-- Point `t` takes block `t` of the rows. -/
theorem index_rows : ∀ t : Fin cfg0.N, win0_0.index t = ![t.val, 0] ∧ win0_1.index t = ![t.val, 0] ∧ win0_2.index t = ![t.val, 0] ∧ win0_10.index t = ![t.val, 0] :=
  (by decide +kernel : ∀ t : Fin grid0.N, _)

/-- Every point takes the whole weights. -/
theorem index_weights : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The attention's normalisation weights, as the kernel receives them. -/
theorem V_v0 (c : Dev nD) (k : Fin 512) : (V m c main_v0 : FVec Ideal S1x512 .f32) (ix2 0 k) = m ((c : Thread nD τ).loc main_arg3) (ix1 k) := by
  have h : (V m c main_v0 : FVec Ideal S1x512 .f32) = broadcastInDim S1x512 ![1] bcast_S512_S1x512_1 (m ((c : Thread nD τ).loc main_arg3)) := by
    unfold V; after_results_simp
  rw [h]
  exact broadcastInDim_apply _ _ _ _ (ix1 k) fun a => match a with | ⟨0, _⟩ => rfl

/-- The attention's half of the output projection, as the kernel receives it. -/
theorem V_v2 (c : Dev nD) (k : Fin 512) (e : Fin 1024) :
    (V m c main_v2 : FVec Ideal S512x1024 .bf16) (ix2 k e) = m ((c : Thread nD τ).loc main_arg4) (ix2 ⟨k.val, by omega⟩ e) := by
  have h : (V m c main_v2 : FVec Ideal S512x1024 .bf16) = extractStridedSlice S512x1024 ![0, 0] (m ((c : Thread nD τ).loc main_arg4)) slices_S1024x1024_S512x1024_0_0 := by
    unfold V; after_results_simp; rfl
  rw [h]
  exact extractStridedSlice_apply _ _ _ _ (ix2 ⟨k.val, by omega⟩ e) fun a => match a with | ⟨0, _⟩ => (Nat.zero_add _).symm | ⟨1, _⟩ => (Nat.zero_add _).symm

/-- The state-space group's half of the output projection, as the kernel receives it. -/
theorem V_v4 (c : Dev nD) (k : Fin 512) (e : Fin 1024) :
    (V m c main_v4 : FVec Ideal S512x1024 .bf16) (ix2 k e) = m ((c : Thread nD τ).loc main_arg4) (ix2 ⟨512 + k.val, by omega⟩ e) := by
  have h : (V m c main_v4 : FVec Ideal S512x1024 .bf16) = extractStridedSlice S512x1024 ![512, 0] (m ((c : Thread nD τ).loc main_arg4)) slices_S1024x1024_S512x1024_512_0 := by
    unfold V; after_results_simp; rfl
  rw [h]
  exact extractStridedSlice_apply _ _ _ _ (ix2 ⟨512 + k.val, by omega⟩ e) fun a => match a with | ⟨0, _⟩ => rfl | ⟨1, _⟩ => (Nat.zero_add _).symm

/-- The feed-forward part's normalisation weights, as the kernel receives them. -/
theorem V_v5 (c : Dev nD) (k : Fin 1024) : (V m c main_v5 : FVec Ideal S1x1024 .f32) (ix2 0 k) = m ((c : Thread nD τ).loc main_arg5) (ix1 k) := by
  have h : (V m c main_v5 : FVec Ideal S1x1024 .f32) = broadcastInDim S1x1024 ![1] bcast_S1024_S1x1024_1 (m ((c : Thread nD τ).loc main_arg5)) := by
    unfold V; after_results_simp
  rw [h]
  exact broadcastInDim_apply _ _ _ _ (ix1 k) fun a => match a with | ⟨0, _⟩ => rfl

/-- The last normalisation's weights, as the kernel receives them. -/
theorem V_v8 (c : Dev nD) (k : Fin 1024) : (V m c main_v8 : FVec Ideal S1x1024 .f32) (ix2 0 k) = m ((c : Thread nD τ).loc main_arg8) (ix1 k) := by
  have h : (V m c main_v8 : FVec Ideal S1x1024 .f32) = broadcastInDim S1x1024 ![1] bcast_S1024_S1x1024_1 (m ((c : Thread nD τ).loc main_arg8)) := by
    unfold V; after_results_simp
  rw [h]
  exact broadcastInDim_apply _ _ _ _ (ix1 k) fun a => match a with | ⟨0, _⟩ => rfl

/-- A block of rows read at an entry: row `t · 512 + r` of the array. -/
theorem rows_apply (c : Dev nD) (t : Fin cfg0.N) (r : Fin 512) (R : Fin 65536) (hR : R.val = t.val * 512 + r.val) :
    (∀ k : Fin 1024, iblk m c 0 t (ix2 r k) = m ((c : Thread nD τ).loc main_arg0) (ix2 R k))
    ∧ (∀ k : Fin 512, iblk m c 1 t (ix2 r k) = m ((c : Thread nD τ).loc main_arg1) (ix2 R k))
    ∧ (∀ k : Fin 512, iblk m c 2 t (ix2 r k) = m ((c : Thread nD τ).loc main_arg2) (ix2 R k)) := by
  obtain ⟨e0, e1, e2, _⟩ := index_rows t
  refine ⟨fun k => ?_, fun k => ?_, fun k => ?_⟩
  · have h := congrFun (V_main_arg0 m c) (ix2 R k)
    rw [← h]
    blk_simp [iblk]
    refine congrArg (V m c main_arg0) (Shape.idx_ext₂ ?_ ?_)
    · blk_simp [e0]; exact hR.symm
    · blk_simp [e0]
  · have h := congrFun (V_main_arg1 m c) (ix2 R k)
    rw [← h]
    blk_simp [iblk]
    refine congrArg (V m c main_arg1) (Shape.idx_ext₂ ?_ ?_)
    · blk_simp [e1]; exact hR.symm
    · blk_simp [e1]
  · have h := congrFun (V_main_arg2 m c) (ix2 R k)
    rw [← h]
    blk_simp [iblk]
    refine congrArg (V m c main_arg2) (Shape.idx_ext₂ ?_ ?_)
    · blk_simp [e2]; exact hR.symm
    · blk_simp [e2]

/-- The weights' blocks are the weights. -/
theorem weights_eq (c : Dev nD) (t : Fin cfg0.N) :
    iblk m c 3 t = V m c main_v0 ∧ iblk m c 4 t = V m c main_v2 ∧ iblk m c 5 t = V m c main_v4 ∧ iblk m c 6 t = V m c main_v5
    ∧ iblk m c 7 t = V m c main_v6 ∧ iblk m c 8 t = V m c main_v7 ∧ iblk m c 9 t = V m c main_v8 := by
  obtain ⟨e3, e4, e5, e6, e7, e8, e9⟩ := index_weights t
  refine ⟨?_, ?_, ?_, ?_, ?_, ?_, ?_⟩
  · funext x
    blk_simp [iblk]
    exact congrArg (V m c main_v0) (Shape.idx_ext₂ (by blk_simp [e3]) (by blk_simp [e3]))
  · funext x
    blk_simp [iblk]
    exact congrArg (V m c main_v2) (Shape.idx_ext₂ (by blk_simp [e4]) (by blk_simp [e4]))
  · funext x
    blk_simp [iblk]
    exact congrArg (V m c main_v4) (Shape.idx_ext₂ (by blk_simp [e5]) (by blk_simp [e5]))
  · funext x
    blk_simp [iblk]
    exact congrArg (V m c main_v5) (Shape.idx_ext₂ (by blk_simp [e6]) (by blk_simp [e6]))
  · funext x
    blk_simp [iblk]
    exact congrArg (V m c main_v6) (Shape.idx_ext₂ (by blk_simp [e7]) (by blk_simp [e7]))
  · funext x
    blk_simp [iblk]
    exact congrArg (V m c main_v7) (Shape.idx_ext₂ (by blk_simp [e8]) (by blk_simp [e8]))
  · funext x
    blk_simp [iblk]
    exact congrArg (V m c main_v8) (Shape.idx_ext₂ (by blk_simp [e9]) (by blk_simp [e9]))

/-- The result array after the run. -/
theorem final (c : Dev nD) : (dats m 0 c).arrAt 10 cfg0.N = result m c := by
  refine (dats m 0 c).arrAt_eq_of_covers 10 _ (by decide +kernel) fun t hf y => ?_
  blk_simp
  rw [after0_10]
  obtain ⟨e3, e4, e5, e6, e7, e8, e9⟩ := weights_eq m c t
  rw [e3, e4, e5, e6, e7, e8, e9]
  have hy := eq_ix2 (n0 := 512) (n1 := 1024) y
  have h0 : (((win0_10.blk t).view.emb y 0 : Fin _) : Nat) = t.val * 512 + (y 0 : Nat) := by blk_simp [(index_rows t).2.2.2]
  have h1 : ((win0_10.blk t).view.emb y 1 : Fin 1024) = y 1 := Fin.ext (by blk_simp [(index_rows t).2.2.2])
  obtain ⟨r0, r1, r2⟩ := rows_apply m c t (y 0) ((win0_10.blk t).view.emb y 0) h0
  refine (congrArg _ hy).trans ((out_apply _ _ _ _ _ _ _ _ _ _ (y 0) (y 1)).trans ?_)
  unfold result
  simp only [r0, r1, r2]
  rw [h1]
  refine congrFun ?_ (y 1)
  congr 1
  · exact funext (V_v0 m c)
  · exact funext fun k => funext (V_v2 m c k)
  · exact funext fun k => funext (V_v4 m c k)
  · exact funext (V_v5 m c)
  · exact funext (V_v8 m c)

end Cert.PostIdeal.Rows

namespace Cert.Proof

open Idealize.ShloMosaic Idealize.ShloMosaic.TcCoe Idealize.ShloMosaic.ValueIdx Idealize.SL.Sem

/-- The kernel of the output projection and feed-forward part computes the reference's result. -/
theorem post_value : Cert.algebraic_PostIdeal_PostRefIdeal := by
  intro m ρ m' ρ' _ hargs
  refine ⟨fun c => Cert.PostIdeal.Rows.result m c, ?_, ?_⟩
  · exact (θ_run Cert.PostIdeal.defs _ _).mono (fun r h c => ⟨(h c).1.trans (Cert.PostIdeal.Rows.final m c), (h c).2⟩)
      (Cert.PostIdeal.Value.run_blocks m ρ)
  · refine (θ_run Cert.PostRefIdeal.defs _ _).mono (fun r h c => ⟨(h c).1.trans ?_, (h c).2⟩) (Cert.PostRefIdeal.Value.run m' ρ')
    obtain ⟨a0, a1, a2, a3, a4, a5, a6, a7, a8⟩ := hargs c
    rw [Cert.PostRefIdeal.Read.val_main_v46_eq, a0, a1, a2, a3, a4, a5, a6, a7, a8]
    funext i
    exact (congrArg _ (eq_ix2 (n0 := 65536) (n1 := 1024) i)).trans (Cert.PostRefIdeal.Rows.v46_apply _ _ _ _ _ _ _ _ _ (i 0) (i 1))

end Cert.Proof

end
-- ==== Proof.AttnBody.lean ====
/-
  The body of the attention kernel, run once at a grid point nothing is known of: from its three inputs' staging
  buffers at what they hold, its result's staging buffer and its five scratch buffers at anything, it runs to its return
  and hands back the inputs as they were. The two counted loops are gone through by their invariants, and the choice of
  the tail by the parity of the query block is decided by cases.
-/
module

public import proofs.«01_k».proof.Proof.Gen.Attn.Frame
public import proofs.«01_k».proof.Proof.Gen.Attn.Loops

@[expose] public section

set_option maxRecDepth 16384

noncomputable section

namespace Cert.Attn.Body

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

set_option maxHeartbeats 4000000 in
/-- The body at a grid point, for any continuation: the inputs come back at what they held, the result's buffer and the
    scratch at some contents. -/
theorem run (c : Dev nD) (E : Set ℕ) (i : grid0.Coords)
    (arg3 : Memref sig .tc .vmem S1x1x512x256 .bf16) (harg3 : arg3.IsWhole) (arg4 : Memref sig .tc .vmem S1x1x8192x256 .bf16) (harg4 : arg4.IsWhole)
    (arg5 : Memref sig .tc .vmem S1x16x256x512 .bf16) (harg5 : arg5.IsWhole) (arg6 : Memref sig .tc .vmem S1x512x128 .f32) (harg6 : arg6.IsWhole)
    (arg7 : Memref sig .tc .vmem S512x512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S2x2x2x1x512 .f32) (harg11 : arg11.IsWhole)
    (x0 : Vec F S1x1x512x256 .bf16) (x1 : Vec F S1x1x8192x256 .bf16) (x2 : Vec F S1x16x256x512 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_attn_prompt i arg3 harg3 arg4 harg4 arg5 harg5 arg6 harg6 arg7 harg7 arg8 harg8 arg9 harg9 arg10 harg10 arg11 harg11) K := by
  simp only [cc0_attn_prompt_eq_skeleton]; unfold cc0_attn_prompt_skel
  simp only [k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2
  by_cases h : k0_cond1 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

/-! ## The proof data, the result's window forgotten -/

variable (m : (ℓ : Loc nD τ sig) → Buf (Elt F) ℓ) (ρ : Dev nD → PrngReg)

/-- The windows nothing is said of: the result's. -/
def forgets : Fin 4 → Bool := ![false, false, false, true]

/-- The proof data on core `c`: the arrays as the region finds them; each input's buffer left at its block, the
    result's unnamed; the scratch and the generator register at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The invariant between points, buffer by buffer: each scratch at some contents, the generator register at some state. -/
theorem between_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ ∃ r, prngReg c r) := by
  unfold Pipeline.ΦA
  rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The body at any point: the scratch opened out of the invariant, the run, the scratch put back. -/
theorem at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, between_eq]
  iintro ⟨⟨⟨S7, S8, S9, S10, S11⟩, Hg⟩, Ho, ⟨%d0, H0⟩, ⟨%d1, H1⟩, ⟨%d2, H2⟩, H3⟩
  iapply (run c Set.univ (grid0.coords t) _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [S7]; · iexact S7
  isplitl [S8]; · iexact S8
  isplitl [S9]; · iexact S9
  isplitl [S10]; · iexact S10
  isplitl [S11]; · iexact S11
  iintro ⟨H0, H1, H2, H3, S7, S8, S9, S10, S11⟩
  isplitl [S7 S8 S9 S10 S11 Hg]
  · isplitl [S7 S8 S9 S10 S11]
    · isplitl [S7]; · iexact S7
      isplitl [S8]; · iexact S8
      isplitl [S9]; · iexact S9
      isplitl [S10]; · iexact S10
      iexact S11
    iexact Hg
  isplitl [Ho]; · iexact Ho
  isplitl [H0]; · iexact H0
  isplitl [H1]; · iexact H1
  isplitl [H2]; · iexact H2
  iexact H3

/-- The body table's row at point `t` is the body at that point. -/
theorem row (t : Fin cfg0.N) : defs₀ (F := F) .tc cfg0.body (cfg0.bodyArgs t (cfg0.slots t)) = bodyAt0 t := by
  unfold defs₀; rw [Defs.onTc_tc]

/-- The pipeline's body obligation with the result's window forgotten. -/
theorem obligation (c : Dev nD) : BodyObligation (dats (F := F) m 0 c) (defs₀ (F := F)) Variants.none () Set.univ forgets := fun t => by
  rw [bigSep_W0, bigSep_W0, row]
  exact triple_restated (at_point m c t) rfl .rfl fun _ => .rfl

set_option backward.isDefEq.respectTransparency.types false in
set_option maxHeartbeats 800000 in
/-- The launch: it runs to the end from any memory, every array of the pipeline but the result's at what the region found,
    and every semaphore counter zero. -/
theorem launched : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame: the three arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 0 rfl).trans (V_main_arg0 m c), (h.1.arr_in c 1 rfl).trans (V_main_arg1 m c), (h.1.arr_in c 2 rfl).trans (V_main_arg2 m c)⟩, h.2⟩)
    (launched m ρ)

end Cert.Attn.Body

end
-- ==== Proof.AttnSpec.lean ====
/-
  Attention computed one tile of keys at a time, for one query. The state after the first `n` keys is the largest score
  so far and, for every column of the values, the sum of the values weighted by two to the power of the score less that
  largest one. A further tile of keys rescales the sums by two to the power of the old largest score less the new one.
  A masked score is `-∞`; its weight is nought, whatever its value is.
-/
module

public import Idealize.ShloMosaic.PureOps.Ideal
public import Idealize.ShloMosaic.PureOps.Ideal.Laws

@[expose] public section

noncomputable section

namespace Cert.AttnSpec

open Idealize.ShloMosaic

/-- Two to the power of anything is not negative. -/
theorem exp2_nonneg (x : EReal) : 0 ≤ Ideal.exp2 x := by
  induction x with
  | bot => exact le_refl _
  | top => exact le_top
  | coe r => exact EReal.coe_nonneg.mpr (Real.rpow_nonneg (by norm_num) _)

/-- Two to the power of anything but `+∞` is not `+∞`. -/
theorem exp2_ne_top {x : EReal} (h : x ≠ ⊤) : Ideal.exp2 x ≠ ⊤ := by
  induction x with
  | bot => exact EReal.zero_ne_top
  | top => exact absurd rfl h
  | coe r => exact EReal.coe_ne_top _

/-- Two to the power of `-∞` less anything is nought. -/
theorem exp2_bot_sub (x : EReal) : Ideal.exp2 (⊥ - x) = 0 := by
  rw [sub_eq_add_neg, EReal.bot_add]; rfl

/-- Rescaling a weight from one largest score to a later one. -/
theorem exp2_mul {a m m' : EReal} (ham : a ≤ m) (hm : m ≤ m') (h' : m' ≠ ⊤) :
    Ideal.exp2 (a - m) * Ideal.exp2 (m - m') = Ideal.exp2 (a - m') := by
  induction a with
  | bot => rw [exp2_bot_sub, exp2_bot_sub, zero_mul]
  | top => exact absurd (top_le_iff.mp (ham.trans hm)) h'
  | coe a =>
    induction m with
    | bot => exact absurd (le_bot_iff.mp ham) (EReal.coe_ne_bot _)
    | top => exact absurd (top_le_iff.mp hm) h'
    | coe m =>
      induction m' with
      | bot => exact absurd (le_bot_iff.mp hm) (EReal.coe_ne_bot _)
      | top => exact absurd rfl h'
      | coe m' =>
        rw [← EReal.coe_sub, ← EReal.coe_sub, ← EReal.coe_sub]
        show ((Real.rpow 2 _ : ℝ) : EReal) * ((Real.rpow 2 _ : ℝ) : EReal) = ((Real.rpow 2 _ : ℝ) : EReal)
        rw [← EReal.coe_mul]
        congr 1
        show (2 : ℝ) ^ (a - m) * (2 : ℝ) ^ (m - m') = (2 : ℝ) ^ (a - m')
        rw [← Real.rpow_add (by norm_num)]; congr 1; ring

/-- A factor that is neither negative nor `+∞` goes through a sum. -/
theorem sum_mul_of_nonneg {ι : Type} (t : Finset ι) (f : ι → EReal) {x : EReal} (h0 : 0 ≤ x) (h1 : x ≠ ⊤) :
    (∑ k ∈ t, f k) * x = ∑ k ∈ t, f k * x := by
  classical
  induction t using Finset.induction_on with
  | empty => simp
  | insert a t ha ih => rw [Finset.sum_insert ha, Finset.sum_insert ha, EReal.right_distrib_of_nonneg_of_ne_top h0 h1, ih]

/-- The state of one query after the first `n` keys: the largest score, and for each column `d` of the values the sum of
    the values there, each weighted by two to the power of its score less the largest. -/
structure Running {D : Type} (s : ℕ → EReal) (v : ℕ → D → EReal) (n : ℕ) (m : EReal) (a : D → EReal) : Prop where
  top : m = (Finset.range n).sup s
  sum : ∀ d, a d = ∑ k ∈ Finset.range n, Ideal.exp2 (s k - m) * v k d

namespace Running

variable {D : Type} {s s' : ℕ → EReal} {v : ℕ → D → EReal} {n : ℕ} {m : EReal} {a : D → EReal}

/-- Before any key. -/
theorem start : Running s v 0 ⊥ (fun _ => 0) := ⟨by simp, fun d => by simp⟩

/-- Only the scores of the keys seen matter. -/
theorem congr (h : Running s v n m a) (e : ∀ k, k < n → s k = s' k) : Running s' v n m a where
  top := h.top.trans (Finset.sup_congr rfl fun k hk => e k (Finset.mem_range.mp hk))
  sum d := (h.sum d).trans (Finset.sum_congr rfl fun k hk => by rw [e k (Finset.mem_range.mp hk)])

/-- Rewriting the state. -/
theorem of_eq (h : Running s v n m a) {n' : ℕ} {m' : EReal} {a' : D → EReal} (hn : n' = n) (hm : m' = m) (ha : ∀ d, a' d = a d) :
    Running s v n' m' a' := by
  subst hn hm; exact ⟨h.top, fun d => (ha d).trans (h.sum d)⟩

/-- The largest of the first `n + b` scores. -/
theorem sup_add (s : ℕ → EReal) (n b : ℕ) :
    (Finset.range (n + b)).sup s = max ((Finset.range n).sup s) (Finset.univ.sup fun r : Fin b => s (n + r.val)) := by
  apply le_antisymm
  · refine Finset.sup_le fun k hk => ?_
    rcases lt_or_ge k n with hkn | hkn
    · exact le_max_of_le_left (Finset.le_sup (f := s) (Finset.mem_range.mpr hkn))
    · refine le_max_of_le_right ?_
      have hb : k - n < b := by have := Finset.mem_range.mp hk; omega
      have h := Finset.le_sup (f := fun r : Fin b => s (n + r.val)) (Finset.mem_univ ⟨k - n, hb⟩)
      simpa [Nat.add_sub_cancel' hkn] using h
  · refine max_le (Finset.sup_mono fun k hk => ?_) (Finset.sup_le fun r _ => ?_)
    · exact Finset.mem_range.mpr (by have := Finset.mem_range.mp hk; omega)
    · exact Finset.le_sup (f := s) (Finset.mem_range.mpr (by have := r.isLt; omega))

/-- A further tile of `b` keys. -/
theorem step (h : Running s v n m a) (b : ℕ) {M : EReal} (hM : M = Finset.univ.sup fun r : Fin b => s (n + r.val))
    (ht : max m M ≠ ⊤) (hb : max m M ≠ ⊥) :
    Running s v (n + b) (max m M) (fun d => a d * Ideal.exp2 (m - max m M)
      + ∑ r : Fin b, v (n + r.val) d * Ideal.exp2 (s (n + r.val) - max m M)) where
  top := by rw [sup_add, ← h.top, ← hM]
  sum d := by
    have hα : m - max m M ≠ ⊤ := by
      intro e
      have hm : m ≠ ⊤ := fun e => ht (top_le_iff.mp (e ▸ le_max_left m M))
      generalize max m M = m' at *
      induction m' with
      | bot => exact hb rfl
      | top => exact ht rfl
      | coe x =>
        induction m with
        | bot => rw [sub_eq_add_neg, EReal.bot_add] at e; exact bot_ne_top e
        | top => exact hm rfl
        | coe y => rw [← EReal.coe_sub] at e; exact EReal.coe_ne_top _ e
    rw [Finset.sum_range_add, h.sum d, sum_mul_of_nonneg _ _ (exp2_nonneg _) (exp2_ne_top hα)]
    congr 1
    · refine Finset.sum_congr rfl fun k hk => ?_
      have hk' : s k ≤ m := h.top ▸ Finset.le_sup (f := s) hk
      rw [mul_right_comm, exp2_mul hk' (le_max_left _ _) ht]
    · rw [Finset.sum_range]
      exact Finset.sum_congr rfl fun r _ => mul_comm _ _

/-- A tile of `b` keys, all masked, leaves the state as it is. -/
theorem skip (h : Running s v n m a) (b : ℕ) (hs : ∀ r, r < b → s (n + r) = ⊥) : Running s v (n + b) m a where
  top := by
    rw [sup_add, ← h.top, show (Finset.univ.sup fun r : Fin b => s (n + r.val)) = ⊥ from
      le_bot_iff.mp (Finset.sup_le fun r _ => (hs r.val r.isLt).le), max_eq_left bot_le]
  sum d := by
    rw [Finset.sum_range_add, ← h.sum d, Finset.sum_eq_zero (s := Finset.range b), add_zero]
    intro r hr
    rw [hs r (Finset.mem_range.mp hr), exp2_bot_sub, zero_mul]

end Running

/-- Attention's result for one query at one column: the values of `n` keys weighted by two to the power of their scores
    (less the largest), over the sum of the weights. -/
def attend {D : Type} (s : ℕ → EReal) (v : ℕ → D → EReal) (n : ℕ) (d : D) : EReal :=
  Ideal.div (∑ k ∈ Finset.range n, Ideal.exp2 (s k - (Finset.range n).sup s) * v k d)
    (∑ k ∈ Finset.range n, Ideal.exp2 (s k - (Finset.range n).sup s))

/-- The quotient of a column by a column of ones is attention's result. -/
theorem Running.div {D : Type} {s : ℕ → EReal} {v : ℕ → D → EReal} {n : ℕ} {m : EReal} {a : D → EReal}
    (h : Running s v n m a) (one d : D) (h1 : ∀ k, v k one = 1) : Ideal.div (a d) (a one) = attend s v n d := by
  rw [h.sum d, h.sum one, h.top, attend]
  simp only [h1, mul_one]

/-- Natural scores: `ln 2` times the scores give, by the ordinary exponential, the same weights. -/
theorem exp_ln2 {a m : EReal} (ha : a ≠ ⊤) (hm : m ≠ ⊤) (hb : m ≠ ⊥) :
    Ideal.exp (a * ((Real.log 2 : ℝ) : EReal) - m * ((Real.log 2 : ℝ) : EReal)) = Ideal.exp2 (a - m) := by
  induction m with
  | bot => exact absurd rfl hb
  | top => exact absurd rfl hm
  | coe m =>
    induction a with
    | top => exact absurd rfl ha
    | bot =>
      rw [exp2_bot_sub, EReal.bot_mul_coe_of_pos (Real.log_pos (by norm_num)), sub_eq_add_neg, EReal.bot_add]; rfl
    | coe a =>
      rw [← EReal.coe_mul, ← EReal.coe_mul, ← EReal.coe_sub, ← EReal.coe_sub]
      show ((Real.exp _ : ℝ) : EReal) = ((Real.rpow 2 _ : ℝ) : EReal)
      congr 1
      show Real.exp _ = (2 : ℝ) ^ (a - m)
      rw [Real.rpow_def_of_pos (by norm_num)]; congr 1; ring

end Cert.AttnSpec

end
-- ==== Proof.AttnTile.lean ====
/-
  One tile of keys, for every query of a block at once: the kernel's vector operations on a tile, read at a query and a
  column, are the one-query step of `AttnSpec`.
-/
module

public import proofs.«01_k».proof.Proof.AttnSpec
public import proofs.«01_k».proof.Proof.PostSpec

@[expose] public section

noncomputable section

namespace Cert.AttnTile

open Idealize.ShloMosaic Idealize.ShloMosaic.ValueIdx Cert.AttnSpec Cert.PostSpec

/-- The largest entries of a matrix's columns laid as a row, read at a column. -/
theorem columnMax_apply {m n : Nat} (v : FVec Ideal ⟨2, ![m, n]⟩ .f32) (hr : (⟨2, ![m, n]⟩ : Shape).Reduces [0] ⟨1, ![n]⟩)
    (hφ : FKind.Formats .f32) (hacc : 0xFF800000#32 = FKind.maximumf.neutral .f32 hφ) (hc : (⟨1, ![n]⟩ : Shape).ShapeCasts ⟨2, ![1, n]⟩) (q : Fin n) :
    shapeCast ⟨2, ![1, n]⟩ (multiReduction .maximumf [0] ⟨1, ![n]⟩ v 0xFF800000#32 hr hφ hacc) hc (ix2 0 q)
      = Finset.univ.sup fun r : Fin m => v (ix2 r q) := by
  rw [shapeCast_apply _ hc (ix2 0 q) (ix1 q) (by rw [Shape.rowMajor_val_one, Shape.rowMajor_val_two]; show q.val = 0 * n + q.val; omega),
    Ideal.multiReduction_maximumf_single]
  show Finset.univ.fold max (Ideal.ofBits .f32 0xFF800000#32) _ = Finset.univ.fold max ⊥ _
  rw [show Ideal.ofBits .f32 0xFF800000#32 = (⊥ : EReal) from by simp [Ideal.ofBits, Ideal.ieee]]
  refine congrArg (Finset.univ.fold max ⊥) (funext fun k => congrArg v (funext fun a => Fin.ext ?_))
  match a with
  | ⟨0, _⟩ => rfl
  | ⟨1, _⟩ => rfl

/-- Scores of a tile: keys by queries, read at a key and a query. -/
theorem scores_apply {m k n : Nat} {φ₁ φ₂ : FTy} (a : FVec Ideal ⟨2, ![m, k]⟩ φ₁) (b : FVec Ideal ⟨2, ![n, k]⟩ φ₂) (r : Fin m) (q : Fin n) :
    FloatOps.matmul (DotDims.transposedRhs m k n) none a b (constant ⟨2, ![m, n]⟩ .f32 0x00000000#32) (ix2 r q)
      = ∑ j : Fin k, a (ix2 r j) * b (ix2 q j) := by
  rw [Ideal.matmul_transposedRhs_apply]
  show Ideal.ofBits .f32 0x00000000#32 + _ = _
  rw [Ideal.ofBits_zero_f32, zero_add]

/-- The new weighted sums after a tile of `K` keys, read at a column of the values and a query. -/
theorem sums_apply {D K N : Nat} (m m' : FVec Ideal ⟨2, ![1, N]⟩ .f32) (a : FVec Ideal ⟨2, ![D, N]⟩ .f32) (st : FVec Ideal ⟨2, ![K, N]⟩ .f32)
    (vt : FVec Ideal ⟨2, ![D, K]⟩ .bf16) (h₁ : (⟨2, ![1, N]⟩ : Shape).Broadcasts ⟨2, ![D, N]⟩) (h₂ : (⟨2, ![1, N]⟩ : Shape).Broadcasts ⟨2, ![K, N]⟩)
    (hw) (d : Fin D) (q : Fin N) :
    addf (mulf a (broadcastTo ⟨2, ![D, N]⟩ (exp2 (subf m m')) h₁))
        (FloatOps.matmul (DotDims.plain D K N) none vt (truncf .bf16 (exp2 (subf st (broadcastTo ⟨2, ![K, N]⟩ m' h₂))) hw)
          (constant ⟨2, ![D, N]⟩ .f32 0x00000000#32)) (ix2 d q)
      = a (ix2 d q) * Ideal.exp2 (m (ix2 0 q) - m' (ix2 0 q))
        + ∑ r : Fin K, vt (ix2 d r) * Ideal.exp2 (st (ix2 r q) - m' (ix2 0 q)) := by
  show a (ix2 d q) * broadcastTo ⟨2, ![D, N]⟩ (exp2 (subf m m')) h₁ (ix2 d q)
    + FloatOps.matmul (DotDims.plain D K N) none vt _ (constant ⟨2, ![D, N]⟩ .f32 0x00000000#32) (ix2 d q) = _
  rw [row_broadcast_apply, product_apply]
  refine congrArg₂ (· + ·) rfl (Finset.sum_congr rfl fun r _ => ?_)
  show vt (ix2 d r) * Ideal.exp2 (st (ix2 r q) - broadcastTo ⟨2, ![K, N]⟩ m' h₂ (ix2 r q)) = _
  rw [row_broadcast_apply]

/-- A tile of `K` keys taken into the state of every query: `s` are the scores, `v` the values, `mx` the tile's largest
    scores. The first key of the tile is masked from no query. -/
theorem tile {D K N : Nat} (s : Fin N → ℕ → EReal) (v : ℕ → Fin D → EReal) (n : ℕ)
    (m mx : FVec Ideal ⟨2, ![1, N]⟩ .f32) (a : FVec Ideal ⟨2, ![D, N]⟩ .f32) (st : FVec Ideal ⟨2, ![K, N]⟩ .f32)
    (vt : FVec Ideal ⟨2, ![D, K]⟩ .bf16) (h₁ : (⟨2, ![1, N]⟩ : Shape).Broadcasts ⟨2, ![D, N]⟩) (h₂ : (⟨2, ![1, N]⟩ : Shape).Broadcasts ⟨2, ![K, N]⟩)
    (hw) (hK : 0 < K)
    (hR : ∀ q, Running (s q) v n (m (ix2 0 q)) fun d => a (ix2 d q)) (hst : ∀ r q, st (ix2 r q) = s q (n + r.val))
    (hvt : ∀ d r, vt (ix2 d r) = v (n + r.val) d) (hmx : ∀ q, mx (ix2 0 q) = Finset.univ.sup fun r : Fin K => s q (n + r.val))
    (ht : ∀ q k, s q k ≠ ⊤) (hb : ∀ q, s q n ≠ ⊥) (q : Fin N) :
    Running (s q) v (n + K) (maximumf m mx (ix2 0 q)) fun d =>
      addf (mulf a (broadcastTo ⟨2, ![D, N]⟩ (exp2 (subf m (maximumf m mx))) h₁))
        (FloatOps.matmul (DotDims.plain D K N) none vt (truncf .bf16 (exp2 (subf st (broadcastTo ⟨2, ![K, N]⟩ (maximumf m mx) h₂))) hw)
          (constant ⟨2, ![D, N]⟩ .f32 0x00000000#32)) (ix2 d q) := by
  have hM : max (m (ix2 0 q)) (mx (ix2 0 q)) ≠ ⊤ := by
    refine (max_lt ?_ ?_).ne
    · rw [(hR q).top]; exact (Finset.sup_lt_iff bot_lt_top).mpr fun k _ => (ht q k).lt_top
    · rw [hmx q]; exact (Finset.sup_lt_iff bot_lt_top).mpr fun k _ => (ht q _).lt_top
  have hB : max (m (ix2 0 q)) (mx (ix2 0 q)) ≠ ⊥ := by
    refine (lt_of_lt_of_le (bot_lt_iff_ne_bot.mpr (hb q)) (le_max_of_le_right ?_)).ne'
    rw [hmx q]; exact Finset.le_sup (f := fun r : Fin K => s q (n + r.val)) (Finset.mem_univ ⟨0, hK⟩)
  refine ((hR q).step K (hmx q) hM hB).of_eq rfl rfl fun d => ?_
  rw [sums_apply]
  refine congrArg₂ (· + ·) rfl (Finset.sum_congr rfl fun r _ => ?_)
  rw [hvt, hst]; rfl

/-- The state after a tile that only the queries from `N` on take part in: the others, from which the whole tile is
    masked, keep their sums. -/
theorem halves {D K N : Nat} (s : Fin (N + N) → ℕ → EReal) (v : ℕ → Fin D → EReal) (n : ℕ)
    (m : FVec Ideal ⟨2, ![1, N + N]⟩ .f32) (a : FVec Ideal ⟨2, ![D, N + N]⟩ .f32)
    (hR : ∀ q, Running (s q) v n (m (ix2 0 q)) fun d => a (ix2 d q))
    (m' : Fin N → EReal) (a' : FVec Ideal ⟨2, ![D, N]⟩ .f32)
    (hR' : ∀ q : Fin N, Running (s (Fin.natAdd N q)) v (n + K) (m' q) fun d => a' (ix2 d q))
    (hs : ∀ q : Fin (N + N), q.val < N → ∀ r, r < K → s q (n + r) = ⊥)
    (out : FVec Ideal ⟨2, ![D, N + N]⟩ .f32) (hl : ∀ d (q : Fin N), out (ix2 d (Fin.castAdd N q)) = a (ix2 d (Fin.castAdd N q)))
    (hr : ∀ d (q : Fin N), out (ix2 d (Fin.natAdd N q)) = a' (ix2 d q)) (q : Fin (N + N)) :
    ∃ μ, Running (s q) v (n + K) μ fun d => out (ix2 d q) := by
  refine Fin.addCases (fun q => ?_) (fun q => ?_) q
  · exact ⟨_, ((hR _).skip K (hs _ q.isLt)).of_eq rfl rfl fun d => hl d q⟩
  · exact ⟨_, (hR' q).of_eq rfl rfl fun d => hr d q⟩

end Cert.AttnTile

end
-- ==== Proof.AttnIdealRead.lean ====
/-
  What the attention kernel's body reads at the extended reals: the blocks' keys and values at the offsets of a trip, the
  scores and largest scores of a tile, and the scratch after its stores.
-/
module

public import proofs.«01_k».proof.Proof.Gen.AttnIdeal.Frame
public import proofs.«01_k».proof.Proof.Gen.AttnIdeal.Skeleton
public import proofs.«01_k».proof.Proof.AttnTile
public import Idealize.ShloMosaic.Lib.WritesUnit
public import Idealize.ShloMosaic.Lib.VecWindow

@[expose] public section

set_option maxRecDepth 16384

noncomputable section

namespace Cert.AttnIdeal.Body

open Cert.AttnIdeal Cert.AttnIdeal.Gen Cert.AttnSpec Cert.AttnTile
open Idealize.ShloMosaic Idealize.ShloMosaic.TcCoe Idealize.ShloMosaic.ValueIdx

/-- The score of key `k` for query `q` of the block, in head `h` of the pair. -/
def score (x0 : Vec Ideal S1x1x512x256 .bf16) (x1 : Vec Ideal S1x1x8192x256 .bf16) (h : Fin 2) (q : Fin 512) (k : ℕ) : EReal :=
  ∑ d : Fin 128, x1 (ix4 0 0 ⟨k % 8192, by omega⟩ ⟨128 * h.val + d.val, by omega⟩) * x0 (ix4 0 0 q ⟨128 * h.val + d.val, by omega⟩)

/-- Column `d` of the value of key `k`, in head `h` of the pair. -/
def value (x2 : Vec Ideal S1x16x256x512 .bf16) (h : Fin 2) (k : ℕ) (d : Fin 128) : EReal :=
  x2 (ix4 0 ⟨k / 512 % 16, by omega⟩ ⟨128 * h.val + d.val, by omega⟩ ⟨k % 512, by omega⟩)

/-- What the inputs' blocks must be for the result to be attention's: every score a real number, and the 64th column of
    every value a one. -/
structure Fine (x0 : Vec Ideal S1x1x512x256 .bf16) (x1 : Vec Ideal S1x1x8192x256 .bf16) (x2 : Vec Ideal S1x16x256x512 .bf16) : Prop where
  not_top : ∀ h q k, score x0 x1 h q k ≠ ⊤
  not_bot : ∀ h q k, score x0 x1 h q k ≠ ⊥
  one : ∀ h k, value x2 h k ⟨64, by omega⟩ = 1

/-- The largest score of half a tile of keys, the tile from key `n` on. -/
def tops (x0 : Vec Ideal S1x1x512x256 .bf16) (x1 : Vec Ideal S1x1x8192x256 .bf16) (n : ℕ) (h s : Fin 2) (q : Fin 512) : EReal :=
  Finset.univ.sup fun r : Fin 256 => score x0 x1 h q (n + 256 * s.val + r.val)

/-- The carried values: for each head of the pair the largest scores and the weighted sums. -/
abbrev Carried := FVec Ideal S1x512 .f32 × FVec Ideal S128x512 .f32 × FVec Ideal S1x512 .f32 × FVec Ideal S128x512 .f32

/-- Before trip `k`: tiles 0 … 2k-1 are in the carried values and tile `2k` is scored. -/
structure Before (x0 : Vec Ideal S1x1x512x256 .bf16) (x1 : Vec Ideal S1x1x8192x256 .bf16) (x2 : Vec Ideal S1x16x256x512 .bf16) (k : ℕ)
    (acc : Carried) (t0 t1 : Vec Ideal S512x512 .f32) (mx : Vec Ideal S2x2x2x1x512 .f32) : Prop where
  run0 : ∀ q, Running (score x0 x1 0 q) (value x2 0) (1024 * k) (acc.1 (ix2 0 q)) fun d => acc.2.1 (ix2 d q)
  run1 : ∀ q, Running (score x0 x1 1 q) (value x2 1) (1024 * k) (acc.2.2.1 (ix2 0 q)) fun d => acc.2.2.2 (ix2 d q)
  tile0 : ∀ r q, t0 (ix2 r q) = score x0 x1 0 q (1024 * k + r.val)
  tile1 : ∀ r q, t1 (ix2 r q) = score x0 x1 1 q (1024 * k + r.val)
  top : ∀ (h s : Fin 2) q, mx (ix5 0 h s 0 q) = tops x0 x1 (1024 * k) h s q

/-- The scores with the later chunks of 64 positions masked: the block's queries are positions `512 i` on. -/
def masked (x0 : Vec Ideal S1x1x512x256 .bf16) (x1 : Vec Ideal S1x1x8192x256 .bf16) (i : ℕ) (h : Fin 2) (q : Fin 512) (k : ℕ) : EReal :=
  if k / 64 ≤ (512 * i + q.val) / 64 then score x0 x1 h q k else ⊥

/-- The block's result. -/
def result (x0 : Vec Ideal S1x1x512x256 .bf16) (x1 : Vec Ideal S1x1x8192x256 .bf16) (x2 : Vec Ideal S1x16x256x512 .bf16) (i : ℕ) :
    Vec Ideal S1x512x128 .f32 := fun j =>
  attend (masked x0 x1 i ⟨(j 2).val / 64, by have := (j 2).isLt; change _ < 128 at this; omega⟩ (j 1))
    (value x2 ⟨(j 2).val / 64, by have := (j 2).isLt; change _ < 128 at this; omega⟩) (512 * (i + 1)) ⟨(j 2).val % 64, by omega⟩

/-- The first loop makes a trip per pair of tiles before the block's own. -/
theorem trips1 (i : grid0.Coords) : (k0_t1_loop i).trips = (i 2).val / 2 := by
  have h : (i 2).val < 16 := (i 2).isLt
  unfold k0_t1_loop
  generalize (i 2).val = x at h ⊢
  interval_cases x <;> decide

/-- The second loop makes none. -/
theorem trips2 (i : grid0.Coords) : (k0_t2_loop i).trips = 0 := by
  have h : (i 2).val < 16 := (i 2).isLt
  unfold k0_t2_loop
  generalize (i 2).val = x at h ⊢
  interval_cases x <;> decide

/-- The odd blocks are the others. -/
theorem even_iff (i : grid0.Coords) : k0_cond1 i = 1#1 ↔ (i 2).val % 2 = 0 := by
  have h : (i 2).val < 16 := (i 2).isLt
  unfold k0_cond1
  generalize (i 2).val = x at h ⊢
  interval_cases x <;> decide

/-- A trip is one of at most seven. -/
theorem trip_lt (i : grid0.Coords) (k : Fin (k0_t1_loop i).trips) : k.val < 7 := by
  have h : (i 2).val < 16 := (i 2).isLt
  have := lt_of_lt_of_eq k.isLt (trips1 i)
  omega

/-- The offsets of a trip's loads. -/
theorem offsets (i : grid0.Coords) (k : Fin (k0_t1_loop i).trips) :
    k0_off1 i k 1#32 = ![0, 0, 1024 * k.val + 512, 0] ∧ k0_off2 i k 1#32 = ![0, 0, 1024 * k.val + 512, 128]
      ∧ k0_off1 i k 2#32 = ![0, 0, 1024 * (k.val + 1), 0] ∧ k0_off2 i k 2#32 = ![0, 0, 1024 * (k.val + 1), 128]
      ∧ k0_off3 i k = ![0, 2 * k.val, 0, 0] ∧ k0_off4 i k = ![0, 2 * k.val, 128, 0]
      ∧ k0_off5 i k = ![0, 2 * k.val, 0, 256] ∧ k0_off6 i k = ![0, 2 * k.val, 128, 256]
      ∧ k0_off7 i k = ![0, 2 * k.val + 1, 0, 0] ∧ k0_off8 i k = ![0, 2 * k.val + 1, 128, 0]
      ∧ k0_off9 i k = ![0, 2 * k.val + 1, 0, 256] ∧ k0_off10 i k = ![0, 2 * k.val + 1, 128, 256] := by
  have h := trip_lt i k
  unfold k0_off1 k0_off2 k0_off3 k0_off4 k0_off5 k0_off6 k0_off7 k0_off8 k0_off9 k0_off10
  generalize k.val = x at h ⊢
  interval_cases x <;> decide

/-- The offsets of the loads after the loop, of an even block. -/
theorem offsets_even (i : grid0.Coords) :
    k0_off21 i = ![0, (i 2).val, 0, 0] ∧ k0_off22 i = ![0, (i 2).val, 128, 0]
      ∧ k0_off23 i = ![0, (i 2).val, 0, 256] ∧ k0_off24 i = ![0, (i 2).val, 128, 256] := by
  have h : (i 2).val < 16 := (i 2).isLt
  unfold k0_off21 k0_off22 k0_off23 k0_off24
  generalize (i 2).val = x at h ⊢
  interval_cases x <;> decide

/-- The offsets of the loads after the loop, of an odd block. -/
theorem offsets_odd (i : grid0.Coords) (ho : (i 2).val % 2 = 1) :
    k0_off25 i = ![0, 0, 512 * (i 2).val, 0] ∧ k0_off26 i = ![0, 0, 512 * (i 2).val, 128]
      ∧ k0_off27 i = ![0, (i 2).val - 1, 0, 0] ∧ k0_off28 i = ![0, (i 2).val - 1, 128, 0]
      ∧ k0_off29 i = ![0, (i 2).val - 1, 0, 256] ∧ k0_off30 i = ![0, (i 2).val - 1, 128, 256]
      ∧ k0_off31 i = ![0, (i 2).val, 0, 0] ∧ k0_off32 i = ![0, (i 2).val, 128, 0]
      ∧ k0_off33 i = ![0, (i 2).val, 0, 256] ∧ k0_off34 i = ![0, (i 2).val, 128, 256] := by
  have h : (i 2).val < 16 := (i 2).isLt
  unfold k0_off25 k0_off26 k0_off27 k0_off28 k0_off29 k0_off30 k0_off31 k0_off32 k0_off33 k0_off34
  generalize (i 2).val = x at h ho ⊢
  interval_cases x <;> first | omega | decide

/-- The queries' block of a head, as loaded. -/
theorem query_read (a : Memref sig .tc .vmem S1x1x512x256 .bf16) (f : a.view.ty.Contents (Elt Ideal)) (off : Fin 4 → ℕ) (inb) (h : Fin 2)
    (ho : off = ![0, 0, 0, 128 * h.val]) (hc : S1x1x512x128.ShapeCasts S512x128) (q : Fin 512) (d : Fin 128) :
    shapeCast S512x128 (a.view.readAt (Elt Ideal) (Rect.unit (s := S1x1x512x256) off S1x1x512x128.size inb).toLoadRect f) hc (ix2 q d)
      = a.view.read (Elt Ideal) f (ix4 0 0 q ⟨128 * h.val + d.val, by omega⟩) := by
  subst ho
  rw [shapeCast_apply _ hc (ix2 q d) (ix4 0 0 q d) (by
    rw [Shape.rowMajor_val_two, Shape.rowMajor_val_four]
    show ((0 * 1 + 0) * 512 + q.val) * 128 + d.val = q.val * 128 + d.val; omega), View.readAt_apply]
  refine congrArg _ (funext fun j => Fin.ext ?_)
  match j with
  | ⟨0, _⟩ => rfl
  | ⟨1, _⟩ => rfl
  | ⟨2, _⟩ => show 0 + 1 * q.val = q.val; omega
  | ⟨3, _⟩ => show 128 * h.val + 1 * d.val = 128 * h.val + d.val; omega

/-- A tile of the keys of a head, as loaded. -/
theorem key_read (a : Memref sig .tc .vmem S1x1x8192x256 .bf16) (f : a.view.ty.Contents (Elt Ideal)) (off : Fin 4 → ℕ) (inb) (n : ℕ) (h : Fin 2)
    (ho : off = ![0, 0, n, 128 * h.val]) (hn : n + 512 ≤ 8192) (hc : S1x1x512x128.ShapeCasts S512x128) (r : Fin 512) (d : Fin 128) :
    shapeCast S512x128 (a.view.readAt (Elt Ideal) (Rect.unit (s := S1x1x8192x256) off S1x1x512x128.size inb).toLoadRect f) hc (ix2 r d)
      = a.view.read (Elt Ideal) f (ix4 0 0 ⟨(n + r.val) % 8192, by omega⟩ ⟨128 * h.val + d.val, by omega⟩) := by
  subst ho
  rw [shapeCast_apply _ hc (ix2 r d) (ix4 0 0 r d) (by
    rw [Shape.rowMajor_val_two, Shape.rowMajor_val_four]
    show ((0 * 1 + 0) * 512 + r.val) * 128 + d.val = r.val * 128 + d.val; omega), View.readAt_apply]
  refine congrArg _ (funext fun j => Fin.ext ?_)
  match j with
  | ⟨0, _⟩ => rfl
  | ⟨1, _⟩ => rfl
  | ⟨2, _⟩ => show n + 1 * r.val = (n + r.val) % 8192; omega
  | ⟨3, _⟩ => show 128 * h.val + 1 * d.val = 128 * h.val + d.val; omega

/-- Half a tile of the values of a head, as loaded. -/
theorem value_read (a : Memref sig .tc .vmem S1x16x256x512 .bf16) (f : a.view.ty.Contents (Elt Ideal)) (off : Fin 4 → ℕ) (inb) (t : ℕ) (h s : Fin 2)
    (ho : off = ![0, t, 128 * h.val, 256 * s.val]) (ht : t < 16) (hc : S1x1x128x256.ShapeCasts S128x256) (n : ℕ) (hn : n = 512 * t + 256 * s.val)
    (d : Fin 128) (r : Fin 256) :
    shapeCast S128x256 (a.view.readAt (Elt Ideal) (Rect.unit (s := S1x16x256x512) off S1x1x128x256.size inb).toLoadRect f) hc (ix2 d r)
      = value (a.view.read (Elt Ideal) f) h (n + r.val) d := by
  subst ho hn
  rw [shapeCast_apply _ hc (ix2 d r) (ix4 0 0 d r) (by
    rw [Shape.rowMajor_val_two, Shape.rowMajor_val_four]
    show ((0 * 1 + 0) * 128 + d.val) * 256 + r.val = d.val * 256 + r.val; omega), View.readAt_apply]
  refine congrArg _ (funext fun j => Fin.ext ?_)
  match j with
  | ⟨0, _⟩ => rfl
  | ⟨1, _⟩ => show t + 1 * 0 = (512 * t + 256 * s.val + r.val) / 512 % 16; omega
  | ⟨2, _⟩ => show 128 * h.val + 1 * d.val = 128 * h.val + d.val; omega
  | ⟨3, _⟩ => show 256 * s.val + 1 * r.val = (512 * t + 256 * s.val + r.val) % 512; omega

/-- Half a tile of scores, as loaded from scratch. -/
theorem half_read (a : Memref sig .tc .vmem S512x512 .f32) (f : a.view.ty.Contents (Elt Ideal)) (s : Fin 2) (inb) (t : Fin 512 → ℕ → EReal) (n m : ℕ)
    (ht : ∀ (r : Fin 512) q, a.view.read (Elt Ideal) f (ix2 r q) = t q (n + r.val)) (hm : m = n + 256 * s.val) (r : Fin 256) (q : Fin 512) :
    a.view.readAt (Elt Ideal) (Rect.unit (s := S512x512) ![256 * s.val, 0] S256x512.size inb).toLoadRect f (ix2 r q) = t q (m + r.val) := by
  rw [View.readAt_apply, hm, Nat.add_assoc, ← ht ⟨256 * s.val + r.val, by omega⟩]
  refine congrArg _ (funext fun j => Fin.ext ?_)
  match j with
  | ⟨0, _⟩ => show 256 * s.val + 1 * r.val = 256 * s.val + r.val; omega
  | ⟨1, _⟩ => show 0 + 1 * q.val = q.val; omega

/-- A largest score, as loaded from scratch. -/
theorem max_read (a : Memref sig .tc .vmem S2x2x2x1x512 .f32) (f : a.view.ty.Contents (Elt Ideal)) (p h s : Fin 2) (inb)
    (hc : S1x1x1x1x512.ShapeCasts S1x512) (q : Fin 512) :
    shapeCast S1x512 (a.view.readAt (Elt Ideal) (Rect.unit (s := S2x2x2x1x512) ![p.val, h.val, s.val, 0, 0] S1x1x1x1x512.size inb).toLoadRect f) hc (ix2 0 q)
      = a.view.read (Elt Ideal) f (ix5 p h s 0 q) := by
  rw [shapeCast_apply _ hc (ix2 0 q) (ix5 0 0 0 0 q) (by
    rw [Shape.rowMajor_val_two, Shape.rowMajor_val_five]
    show (((0 * 1 + 0) * 1 + 0) * 1 + 0) * 512 + q.val = 0 * 512 + q.val; omega), View.readAt_apply]
  refine congrArg _ (funext fun j => Fin.ext ?_)
  match j with
  | ⟨0, _⟩ => rfl
  | ⟨1, _⟩ => rfl
  | ⟨2, _⟩ => rfl
  | ⟨3, _⟩ => rfl
  | ⟨4, _⟩ => show 0 + 1 * q.val = q.val; omega

/-- The largest scores just stored. -/
theorem max_here (a : Memref sig .tc .vmem S2x2x2x1x512 .f32) (f : a.view.ty.Contents (Elt Ideal)) (p h s : Fin 2) (inb)
    (w : (Rect.unit (s := S2x2x2x1x512) ![p.val, h.val, s.val, 0, 0] S1x1x1x1x512.size inb).shape.Idx → Elt Ideal .f32) (L) (q : Fin 512) :
    a.view.read (Elt Ideal) (a.view.writes (Elt Ideal) f
      ((⟨Rect.unit (s := S2x2x2x1x512) ![p.val, h.val, s.val, 0, 0] S1x1x1x1x512.size inb, w⟩ : View.Piece (Elt Ideal) S2x2x2x1x512 .f32) :: L)) (ix5 p h s 0 q)
      = w (ix5 0 0 0 0 q) := by
  refine View.read_writes_cons_unit_of_mem (Val := Elt Ideal) a.view f inb w L (ix5 p h s 0 q) (ix5 0 0 0 0 q) rfl fun j => ?_
  match j with
  | ⟨0, _⟩ => rfl
  | ⟨1, _⟩ => rfl
  | ⟨2, _⟩ => rfl
  | ⟨3, _⟩ => rfl
  | ⟨4, _⟩ => show q.val = 0 + q.val; omega

/-- The largest scores stored before others. -/
theorem max_past (a : Memref sig .tc .vmem S2x2x2x1x512 .f32) (f : a.view.ty.Contents (Elt Ideal)) (p h s p' h' s' : Fin 2) (inb)
    (w : (Rect.unit (s := S2x2x2x1x512) ![p'.val, h'.val, s'.val, 0, 0] S1x1x1x1x512.size inb).shape.Idx → Elt Ideal .f32) (L) (hne : (p, h, s) ≠ (p', h', s')) (q : Fin 512) :
    a.view.read (Elt Ideal) (a.view.writes (Elt Ideal) f
      ((⟨Rect.unit (s := S2x2x2x1x512) ![p'.val, h'.val, s'.val, 0, 0] S1x1x1x1x512.size inb, w⟩ : View.Piece (Elt Ideal) S2x2x2x1x512 .f32) :: L)) (ix5 p h s 0 q)
      = a.view.read (Elt Ideal) (a.view.writes (Elt Ideal) f L) (ix5 p h s 0 q) := by
  by_cases hp : p = p'
  · by_cases hh : h = h'
    · have hs : s ≠ s' := fun e => hne (by rw [hp, hh, e])
      refine View.read_writes_cons_unit_of_not_mem (Val := Elt Ideal) a.view f inb w L (ix5 p h s 0 q) rfl ⟨2, by decide⟩ ?_
      show s.val < s'.val ∨ s'.val + 1 ≤ s.val
      have := fun e => hs (Fin.ext e); omega
    · refine View.read_writes_cons_unit_of_not_mem (Val := Elt Ideal) a.view f inb w L (ix5 p h s 0 q) rfl ⟨1, by decide⟩ ?_
      show h.val < h'.val ∨ h'.val + 1 ≤ h.val
      have := fun e => hh (Fin.ext e); omega
  · refine View.read_writes_cons_unit_of_not_mem (Val := Elt Ideal) a.view f inb w L (ix5 p h s 0 q) rfl ⟨0, by decide⟩ ?_
    show p.val < p'.val ∨ p'.val + 1 ≤ p.val
    have := fun e => hp (Fin.ext e); omega

/-- The largest scores of a tile after the four stores of them. -/
theorem four_here (a : Memref sig .tc .vmem S2x2x2x1x512 .f32) (f : a.view.ty.Contents (Elt Ideal)) (p : Fin 2) (inb₀ inb₁ inb₂ inb₃)
    (w₀ w₁ w₂ w₃ : FVec Ideal S1x1x1x1x512 .f32) (L) (T : Fin 2 → Fin 2 → Fin 512 → EReal) (h₀ : ∀ q, w₀ (ix5 0 0 0 0 q) = T 0 0 q)
    (h₁ : ∀ q, w₁ (ix5 0 0 0 0 q) = T 0 1 q) (h₂ : ∀ q, w₂ (ix5 0 0 0 0 q) = T 1 0 q) (h₃ : ∀ q, w₃ (ix5 0 0 0 0 q) = T 1 1 q) (h s : Fin 2) (q : Fin 512) :
    a.view.read (Elt Ideal) (a.view.writes (Elt Ideal) f
      ((⟨Rect.unit (s := S2x2x2x1x512) ![p.val, 1, 1, 0, 0] S1x1x1x1x512.size inb₃, w₃⟩ : View.Piece (Elt Ideal) S2x2x2x1x512 .f32)
        :: ⟨Rect.unit (s := S2x2x2x1x512) ![p.val, 1, 0, 0, 0] S1x1x1x1x512.size inb₂, w₂⟩
        :: ⟨Rect.unit (s := S2x2x2x1x512) ![p.val, 0, 1, 0, 0] S1x1x1x1x512.size inb₁, w₁⟩
        :: ⟨Rect.unit (s := S2x2x2x1x512) ![p.val, 0, 0, 0, 0] S1x1x1x1x512.size inb₀, w₀⟩ :: L)) (ix5 p h s 0 q) = T h s q := by
  have e3 := fun h s => max_past a f p h s p 1 1 inb₃ w₃ (⟨Rect.unit (s := S2x2x2x1x512) ![p.val, 1, 0, 0, 0] S1x1x1x1x512.size inb₂, w₂⟩
        :: ⟨Rect.unit (s := S2x2x2x1x512) ![p.val, 0, 1, 0, 0] S1x1x1x1x512.size inb₁, w₁⟩
        :: ⟨Rect.unit (s := S2x2x2x1x512) ![p.val, 0, 0, 0, 0] S1x1x1x1x512.size inb₀, w₀⟩ :: L)
  have e2 := fun h s => max_past a f p h s p 1 0 inb₂ w₂ (⟨Rect.unit (s := S2x2x2x1x512) ![p.val, 0, 1, 0, 0] S1x1x1x1x512.size inb₁, w₁⟩
        :: ⟨Rect.unit (s := S2x2x2x1x512) ![p.val, 0, 0, 0, 0] S1x1x1x1x512.size inb₀, w₀⟩ :: L)
  have e1 := fun h s => max_past a f p h s p 0 1 inb₁ w₁ (⟨Rect.unit (s := S2x2x2x1x512) ![p.val, 0, 0, 0, 0] S1x1x1x1x512.size inb₀, w₀⟩ :: L)
  match h, s with
  | 0, 0 => exact (e3 0 0 (by simp) q).trans ((e2 0 0 (by simp) q).trans ((e1 0 0 (by simp) q).trans ((max_here a f p 0 0 inb₀ w₀ L q).trans (h₀ q))))
  | 0, 1 => exact (e3 0 1 (by simp) q).trans ((e2 0 1 (by simp) q).trans ((max_here a f p 0 1 inb₁ w₁ _ q).trans (h₁ q)))
  | 1, 0 => exact (e3 1 0 (by simp) q).trans ((max_here a f p 1 0 inb₂ w₂ _ q).trans (h₂ q))
  | 1, 1 => exact (max_here a f p 1 1 inb₃ w₃ _ q).trans (h₃ q)

/-- The largest scores of a tile are not touched by the four stores of another's. -/
theorem four_past (a : Memref sig .tc .vmem S2x2x2x1x512 .f32) (f : a.view.ty.Contents (Elt Ideal)) (p p' : Fin 2) (hp : p ≠ p') (inb₀ inb₁ inb₂ inb₃)
    (w₀ w₁ w₂ w₃ : FVec Ideal S1x1x1x1x512 .f32) (L) (h s : Fin 2) (q : Fin 512) :
    a.view.read (Elt Ideal) (a.view.writes (Elt Ideal) f
      ((⟨Rect.unit (s := S2x2x2x1x512) ![p'.val, 1, 1, 0, 0] S1x1x1x1x512.size inb₃, w₃⟩ : View.Piece (Elt Ideal) S2x2x2x1x512 .f32)
        :: ⟨Rect.unit (s := S2x2x2x1x512) ![p'.val, 1, 0, 0, 0] S1x1x1x1x512.size inb₂, w₂⟩
        :: ⟨Rect.unit (s := S2x2x2x1x512) ![p'.val, 0, 1, 0, 0] S1x1x1x1x512.size inb₁, w₁⟩
        :: ⟨Rect.unit (s := S2x2x2x1x512) ![p'.val, 0, 0, 0, 0] S1x1x1x1x512.size inb₀, w₀⟩ :: L)) (ix5 p h s 0 q)
      = a.view.read (Elt Ideal) (a.view.writes (Elt Ideal) f L) (ix5 p h s 0 q) :=
  have hne : ∀ h' s' : Fin 2, (p, h, s) ≠ (p', h', s') := fun _ _ e => hp (congrArg Prod.fst e)
  (max_past a f p h s p' 1 1 inb₃ w₃ _ (hne _ _) q).trans ((max_past a f p h s p' 1 0 inb₂ w₂ _ (hne _ _) q).trans
    ((max_past a f p h s p' 0 1 inb₁ w₁ _ (hne _ _) q).trans (max_past a f p h s p' 0 0 inb₀ w₀ _ (hne _ _) q)))

/-- The scores of a tile, from its keys and the block's queries. -/
theorem score_tile (x0 : Vec Ideal S1x1x512x256 .bf16) (x1 : Vec Ideal S1x1x8192x256 .bf16) (h : Fin 2) (n : ℕ) (A B : FVec Ideal S512x128 .bf16)
    (hA : ∀ (r : Fin 512) (d : Fin 128), A (ix2 r d) = x1 (ix4 0 0 ⟨(n + r.val) % 8192, by omega⟩ ⟨128 * h.val + d.val, by omega⟩))
    (hB : ∀ (q : Fin 512) (d : Fin 128), B (ix2 q d) = x0 (ix4 0 0 q ⟨128 * h.val + d.val, by omega⟩)) (r q : Fin 512) :
    matmul dot_S512x128_S512x128_S512x512_1_1_0_0_n_n none A B (constant S512x512 .f32 0x00000000#32) (ix2 r q) = score x0 x1 h q (n + r.val) := by
  refine (scores_apply A B r q).trans (Finset.sum_congr rfl fun d _ => ?_)
  rw [hA, hB]

/-- The largest scores of half a tile, as stored. -/
theorem max_tile {S : FVec Ideal S512x512 .f32} {off : Fin 2 → ℕ} (s : Fin 2) (hoff : off = ![256 * s.val, 0]) {hs : S512x512.Slices off S256x512}
    {hr : S256x512.Reduces [0] S512} {hφ hacc hc hc'} {t : Fin 512 → ℕ → EReal} {n : ℕ} (hS : ∀ (r : Fin 512) q, S (ix2 r q) = t q (n + r.val)) (q : Fin 512) :
    shapeCast S1x1x1x1x512 (shapeCast S1x512 (multiReduction .maximumf [0] S512 (extractStridedSlice S256x512 off S hs) 0xFF800000#32 hr hφ hacc) hc) hc'
        (ix5 0 0 0 0 q)
      = Finset.univ.sup fun r : Fin 256 => t q (n + 256 * s.val + r.val) := by
  subst hoff
  rw [shapeCast_apply _ hc' (ix5 0 0 0 0 q) (ix2 0 q) (by
    rw [Shape.rowMajor_val_two, Shape.rowMajor_val_five]
    show 0 * 512 + q.val = (((0 * 1 + 0) * 1 + 0) * 1 + 0) * 512 + q.val; omega)]
  refine (columnMax_apply _ hr hφ hacc hc q).trans (congrArg _ (funext fun r => ?_))
  rw [extractStridedSlice_apply _ S hs (ix2 r q) (ix2 ⟨256 * s.val + r.val, by omega⟩ q) (fun j => by
    match j with
    | ⟨0, _⟩ => rfl
    | ⟨1, _⟩ => show q.val = 0 + q.val; omega), hS, Nat.add_assoc]

/-- The scores of a tile, from the block's queries and keys as loaded. -/
theorem loaded_scores {a₃ : Memref sig .tc .vmem S1x1x512x256 .bf16} {f₀ : a₃.view.ty.Contents (Elt Ideal)}
    {a₄ : Memref sig .tc .vmem S1x1x8192x256 .bf16} {f₁ : a₄.view.ty.Contents (Elt Ideal)} {off off₀ : Fin 4 → ℕ} {inb inb₀}
    {hc hc' : S1x1x512x128.ShapeCasts S512x128} (h : Fin 2) (n : ℕ) (ho : off = ![0, 0, n, 128 * h.val]) (ho₀ : off₀ = ![0, 0, 0, 128 * h.val])
    (hn : n + 512 ≤ 8192) (r q : Fin 512) :
    matmul dot_S512x128_S512x128_S512x512_1_1_0_0_n_n none
      (shapeCast S512x128 (a₄.view.readAt (Elt Ideal) (Rect.unit (s := S1x1x8192x256) off S1x1x512x128.size inb).toLoadRect f₁) hc : FVec Ideal S512x128 .bf16)
      (shapeCast S512x128 (a₃.view.readAt (Elt Ideal) (Rect.unit (s := S1x1x512x256) off₀ S1x1x512x128.size inb₀).toLoadRect f₀) hc' : FVec Ideal S512x128 .bf16)
      (constant S512x512 .f32 0x00000000#32) (ix2 r q)
      = score (a₃.view.read (Elt Ideal) f₀) (a₄.view.read (Elt Ideal) f₁) h q (n + r.val) :=
  score_tile _ _ h n _ _ (key_read a₄ f₁ off inb n h ho hn hc) (query_read a₃ f₀ off₀ inb₀ h ho₀ hc') r q

/-- A tile of scores in scratch after the store of it. -/
theorem stored_scores {a : Memref sig .tc .vmem S512x512 .f32} {f : a.view.ty.Contents (Elt Ideal)} {S : FVec Ideal S512x512 .f32}
    {hc : S512x512.ShapeCasts S512x512} {off : Fin 2 → ℕ} {inb} {L} {t : Fin 512 → ℕ → EReal} {n : ℕ}
    (hS : ∀ (r : Fin 512) q, S (ix2 r q) = t q (n + r.val)) (r q : Fin 512) :
    a.view.read (Elt Ideal) (a.view.writes (Elt Ideal) f
      ((⟨Rect.unit (s := S512x512) off S512x512.size inb, shapeCast S512x512 S hc⟩ : View.Piece (Elt Ideal) S512x512 .f32) :: L)) (ix2 r q)
      = t q (n + r.val) := by
  rw [View.read_writes_full (Val := Elt Ideal) a.view f inb _ L]
  rw [shapeCast_apply S hc (ix2 r q) (ix2 r q) rfl, hS]

/-- The largest scores of a tile in scratch after the four stores of them. -/
theorem stored_tops {a : Memref sig .tc .vmem S2x2x2x1x512 .f32} {f : a.view.ty.Contents (Elt Ideal)} {p : Fin 2} {inb₀ inb₁ inb₂ inb₃}
    {S S' : FVec Ideal S512x512 .f32} {off₀ off₁ off₂ off₃ : Fin 2 → ℕ} {hs₀ : S512x512.Slices off₀ S256x512} {hs₁ : S512x512.Slices off₁ S256x512}
    {hs₂ : S512x512.Slices off₂ S256x512} {hs₃ : S512x512.Slices off₃ S256x512} {hr : S256x512.Reduces [0] S512} {hφ hacc} {hc : S512.ShapeCasts S1x512}
    {hc' : S1x512.ShapeCasts S1x1x1x1x512} {L} {x0 : Vec Ideal S1x1x512x256 .bf16} {x1 : Vec Ideal S1x1x8192x256 .bf16} {n : ℕ}
    (hS : ∀ (r q : Fin 512), S (ix2 r q) = score x0 x1 0 q (n + r.val)) (hS' : ∀ (r q : Fin 512), S' (ix2 r q) = score x0 x1 1 q (n + r.val))
    (o₀ : off₀ = ![0, 0]) (o₁ : off₁ = ![256, 0]) (o₂ : off₂ = ![0, 0]) (o₃ : off₃ = ![256, 0]) (h s : Fin 2) (q : Fin 512) :
    a.view.read (Elt Ideal) (a.view.writes (Elt Ideal) f
      ((⟨Rect.unit (s := S2x2x2x1x512) ![p.val, 1, 1, 0, 0] S1x1x1x1x512.size inb₃,
          shapeCast S1x1x1x1x512 (shapeCast S1x512 (multiReduction .maximumf [0] S512 (extractStridedSlice S256x512 off₃ S' hs₃) 0xFF800000#32 hr hφ hacc) hc) hc'⟩ : View.Piece (Elt Ideal) S2x2x2x1x512 .f32)
        :: ⟨Rect.unit (s := S2x2x2x1x512) ![p.val, 1, 0, 0, 0] S1x1x1x1x512.size inb₂,
          shapeCast S1x1x1x1x512 (shapeCast S1x512 (multiReduction .maximumf [0] S512 (extractStridedSlice S256x512 off₂ S' hs₂) 0xFF800000#32 hr hφ hacc) hc) hc'⟩
        :: ⟨Rect.unit (s := S2x2x2x1x512) ![p.val, 0, 1, 0, 0] S1x1x1x1x512.size inb₁,
          shapeCast S1x1x1x1x512 (shapeCast S1x512 (multiReduction .maximumf [0] S512 (extractStridedSlice S256x512 off₁ S hs₁) 0xFF800000#32 hr hφ hacc) hc) hc'⟩
        :: ⟨Rect.unit (s := S2x2x2x1x512) ![p.val, 0, 0, 0, 0] S1x1x1x1x512.size inb₀,
          shapeCast S1x1x1x1x512 (shapeCast S1x512 (multiReduction .maximumf [0] S512 (extractStridedSlice S256x512 off₀ S hs₀) 0xFF800000#32 hr hφ hacc) hc) hc'⟩ :: L))
      (ix5 p h s 0 q) = tops x0 x1 n h s q :=
  four_here a f p inb₀ inb₁ inb₂ inb₃ _ _ _ _ L (tops x0 x1 n) (max_tile 0 o₀ hS) (max_tile 1 o₁ hS) (max_tile 0 o₂ hS') (max_tile 1 o₃ hS') h s q

/-- The weighted sums after half a tile, as the kernel spells them. -/
def fold (m m' : FVec Ideal S1x512 .f32) (a : FVec Ideal S128x512 .f32) (st : FVec Ideal S256x512 .f32) (vt : FVec Ideal S128x256 .bf16) :
    FVec Ideal S128x512 .f32 :=
  addf (mulf a (broadcastTo S128x512 (exp2 (subf m m')) broadcasts_S1x512_S128x512))
    (matmul dot_S128x256_S256x512_S128x512_1_0_0_1_n_n none vt
      (truncf .bf16 (exp2 (subf st (broadcastTo S256x512 m' broadcasts_S1x512_S256x512))) bitsLt_bf16_f32) (constant S128x512 .f32 0x00000000#32))

/-- A tile of 512 keys taken into the state of every query, by halves. -/
theorem two_halves (s : Fin 512 → ℕ → EReal) (v : ℕ → Fin 128 → EReal) (n : ℕ) (m mx mx' : FVec Ideal S1x512 .f32) (a : FVec Ideal S128x512 .f32)
    (st st' : FVec Ideal S256x512 .f32) (vt vt' : FVec Ideal S128x256 .bf16)
    (hR : ∀ q, Running (s q) v n (m (ix2 0 q)) fun d => a (ix2 d q))
    (hst : ∀ (r : Fin 256) q, st (ix2 r q) = s q (n + r.val)) (hst' : ∀ (r : Fin 256) q, st' (ix2 r q) = s q (n + 256 + r.val))
    (hvt : ∀ d (r : Fin 256), vt (ix2 d r) = v (n + r.val) d) (hvt' : ∀ d (r : Fin 256), vt' (ix2 d r) = v (n + 256 + r.val) d)
    (hmx : ∀ q, mx (ix2 0 q) = Finset.univ.sup fun r : Fin 256 => s q (n + r.val))
    (hmx' : ∀ q, mx' (ix2 0 q) = Finset.univ.sup fun r : Fin 256 => s q (n + 256 + r.val))
    (ht : ∀ q k, s q k ≠ ⊤) (hb : ∀ q k, s q k ≠ ⊥) (q : Fin 512) :
    Running (s q) v (n + 512) (maximumf (maximumf m mx) mx' (ix2 0 q)) fun d =>
      fold (maximumf m mx) (maximumf (maximumf m mx) mx') (fold m (maximumf m mx) a st vt) st' vt' (ix2 d q) :=
  tile s v (n + 256) (maximumf m mx) mx' (fold m (maximumf m mx) a st vt) st' vt' _ _ _ (by omega)
    (tile s v n m mx a st vt _ _ _ (by omega) hR hst hvt hmx ht fun q => hb q _) hst' hvt' hmx' ht (fun q => hb q _) q

end Cert.AttnIdeal.Body

end
-- ==== Proof.AttnIdealTail.lean ====
/-
  The last tile of a block of queries, at the extended reals: the kernel's mask bits, the tile taken in under the mask by
  halves, and the quotient laid out as the block's result.
-/
module

public import proofs.«01_k».proof.Proof.AttnIdealRead

@[expose] public section

set_option maxRecDepth 16384

noncomputable section

namespace Cert.AttnIdeal.Body

open Cert.AttnIdeal Cert.AttnIdeal.Gen Cert.AttnSpec Cert.AttnTile Cert.PostSpec
open Idealize.ShloMosaic Idealize.ShloMosaic.TcCoe Idealize.ShloMosaic.ValueIdx

/-- The chunk of a key, as the kernel computes it. -/
theorem key_chunk (r q : Fin 512) : k0_pay113 (ix2 r q) = BitVec.ofNat 32 (r.val / 64) :=
  (by decide +kernel : ∀ r : Fin 512, k0_pay113 (ix2 r 0) = BitVec.ofNat 32 (r.val / 64)) r

/-- The kernel's comparison of a chunk with a query's. -/
theorem query_chunk : ∀ (c : Fin 8) (q : Fin 512),
    k0_pay117 (fun _ => BitVec.ofNat 32 c.val) k0_pay114 k0_pay115 k0_pay116 0#32 (ix2 0 q) = if c.val ≤ q.val / 64 then 1#1 else 0#1 := by
  decide +kernel

/-- The mask bits: a key is visible to the queries of its own chunk of 64 and of later ones. -/
theorem mask_apply (r q : Fin 512) :
    k0_pay117 k0_pay113 k0_pay114 k0_pay115 k0_pay116 0#32 (ix2 r q) = if r.val / 64 ≤ q.val / 64 then 1#1 else 0#1 := by
  refine Eq.trans ?_ (query_chunk ⟨r.val / 64, by omega⟩ q)
  show k0_pay117 (fun _ => k0_pay113 (ix2 r q)) k0_pay114 k0_pay115 k0_pay116 0#32 (ix2 0 q) = _
  rw [key_chunk]

/-- The kernel's mask bits. -/
def bits : IVec S512x512 1 := k0_pay117 k0_pay113 k0_pay114 k0_pay115 k0_pay116 0#32

/-- A score of the block's own tile, masked. -/
theorem masked_apply (x0 : Vec Ideal S1x1x512x256 .bf16) (x1 : Vec Ideal S1x1x8192x256 .bf16) (i : ℕ) (h : Fin 2) (r q : Fin 512) (x : EReal)
    (hx : x = score x0 x1 h q (512 * i + r.val)) :
    Scalar.select (α := EReal) (bits (ix2 r q)) x (Named.named (F := Ideal) κ (φ := .f32) "mask" 0xF149F2CA#32)
      = masked x0 x1 i h q (512 * i + r.val) := by
  rw [show bits (ix2 r q) = _ from mask_apply r q, hx]
  unfold masked
  by_cases hv : r.val / 64 ≤ q.val / 64
  · rw [if_pos hv, if_pos (by omega)]; rfl
  · rw [if_neg hv, if_neg (by omega)]; rfl

/-- A masked score is never `⊤`. -/
theorem masked_ne_top {x0 : Vec Ideal S1x1x512x256 .bf16} {x1 : Vec Ideal S1x1x8192x256 .bf16} {x2 : Vec Ideal S1x16x256x512 .bf16} (hF : Fine x0 x1 x2)
    (i : ℕ) (h : Fin 2) (q : Fin 512) (k : ℕ) : masked x0 x1 i h q k ≠ ⊤ := by
  unfold masked; split
  · exact hF.not_top _ _ _
  · exact bot_ne_top

/-- The score at a visible key is not `⊥`. -/
theorem masked_ne_bot {x0 : Vec Ideal S1x1x512x256 .bf16} {x1 : Vec Ideal S1x1x8192x256 .bf16} {x2 : Vec Ideal S1x16x256x512 .bf16} (hF : Fine x0 x1 x2)
    (i : ℕ) (h : Fin 2) (q : Fin 512) (k : ℕ) (hk : k / 64 ≤ (512 * i + q.val) / 64) : masked x0 x1 i h q k ≠ ⊥ := by
  unfold masked; rw [if_pos hk]; exact hF.not_bot _ _ _

/-- The kernel's mask bits `b` hide, of tile `i`, the scores `masked` hides. -/
def Hides (x0 : Vec Ideal S1x1x512x256 .bf16) (x1 : Vec Ideal S1x1x8192x256 .bf16) (i : ℕ) (b : IVec S512x512 1) : Prop :=
  ∀ (h : Fin 2) (r q : Fin 512) (x : EReal), x = score x0 x1 h q (512 * i + r.val) →
    Scalar.select (α := EReal) (b (ix2 r q)) x (Named.named (F := Ideal) κ (φ := .f32) "mask" 0xF149F2CA#32) = masked x0 x1 i h q (512 * i + r.val)

set_option maxHeartbeats 1000000 in
/-- The first half of the last tile taken into the state of a head. -/
theorem first_half {x0 : Vec Ideal S1x1x512x256 .bf16} {x1 : Vec Ideal S1x1x8192x256 .bf16} {x2 : Vec Ideal S1x16x256x512 .bf16} (hF : Fine x0 x1 x2)
    (i : ℕ) (b : IVec S512x512 1) (hb : Hides x0 x1 i b) (h : Fin 2) (m : FVec Ideal S1x512 .f32) (a : FVec Ideal S128x512 .f32) (st : Vec Ideal S256x512 .f32)
    (vt : Vec Ideal S1x1x128x256 .bf16)
    (hR : ∀ q, Running (score x0 x1 h q) (value x2 h) (512 * i) (m (ix2 0 q)) fun d => a (ix2 d q))
    (hst : ∀ (r : Fin 256) q, st (ix2 r q) = score x0 x1 h q (512 * i + r.val))
    (hvt : ∀ d (r : Fin 256), shapeCast S128x256 vt shapeCasts_S1x1x128x256_S128x256 (ix2 d r) = value x2 h (512 * i + r.val) d) (q : Fin 512) :
    Running (masked x0 x1 i h q) (value x2 h) (512 * i + 256) (k0_pay110 b m st (ix2 0 q)) fun d => k0_pay111 b m a st vt (ix2 d q) := by
  have hS : ∀ (r : Fin 256) q, k0_pay109 b st (ix2 r q) = masked x0 x1 i h q (512 * i + r.val) := fun r q => by
    refine Eq.trans ?_ (hb h ⟨r.val, by omega⟩ q _ (hst r q))
    show Scalar.select (extractStridedSlice S256x512 ![0, 0] b slices_S512x512_o0_0_S256x512 (ix2 r q)) _ _ = _
    rw [extractStridedSlice_apply _ b _ (ix2 r q) (ix2 ⟨r.val, by omega⟩ q) (fun b => by
      match b with
      | ⟨0, _⟩ => show r.val = 0 + r.val; omega
      | ⟨1, _⟩ => show q.val = 0 + q.val; omega)]
    rfl
  exact tile (masked x0 x1 i h) (value x2 h) (512 * i) m _ a (k0_pay109 b st) _ _ _ _ (by omega)
    (fun q => (hR q).congr fun k hk => (if_pos (by omega)).symm) hS hvt
    (fun q => (columnMax_apply (k0_pay109 b st) reduces_S256x512_S512 (.inl rfl) rfl shapeCasts_S512_S1x512 q).trans
      (congrArg _ (funext fun r => hS r q))) (masked_ne_top hF i h) (fun q => masked_ne_bot hF i h q _ (by omega)) q

/-- The running maximum of the second half of the queries. -/
def rightMax (m : FVec Ideal S1x512 .f32) : FVec Ideal S1x256 .f32 := extractStridedSlice S1x256 ![0, 256] m slices_S1x512_o0_256_S1x256

/-- The weighted sums of the second half of the queries. -/
def rightSums (a : FVec Ideal S128x512 .f32) : FVec Ideal S128x256 .f32 := extractStridedSlice S128x256 ![0, 256] a slices_S128x512_o0_256_S128x256

/-- The scores of the second half of the keys against the second half of the queries, masked. -/
def rightScores (b : IVec S512x512 1) (st : Vec Ideal S256x256 .f32) : FVec Ideal S256x256 .f32 :=
  select (extractStridedSlice S256x256 ![256, 256] b slices_S512x512_o256_256_S256x256) st
    (broadcast S256x256 (Named.named (F := Ideal) κ (φ := .f32) "mask" 0xF149F2CA#32))

/-- The largest of these scores, a query. -/
def rightTop (b : IVec S512x512 1) (st : Vec Ideal S256x256 .f32) : FVec Ideal S1x256 .f32 :=
  shapeCast S1x256 (multiReduction .maximumf [0] S256 (rightScores b st) 0xFF800000#32 reduces_S256x256_S256 (.inl rfl) rfl) shapeCasts_S256_S1x256

/-- The weighted sums of the second half of the queries after the second half of the keys. -/
def rightFold (m mx : FVec Ideal S1x256 .f32) (a : FVec Ideal S128x256 .f32) (st : FVec Ideal S256x256 .f32) (vt : FVec Ideal S128x256 .bf16) :
    FVec Ideal S128x256 .f32 :=
  addf (mulf a (broadcastTo S128x256 (exp2 (subf m (maximumf m mx))) broadcasts_S1x256_S128x256))
    (matmul dot_S128x256_S256x256_S128x256_1_0_0_1_n_n none vt
      (truncf .bf16 (exp2 (subf st (broadcastTo S256x256 (maximumf m mx) broadcasts_S1x256_S256x256))) bitsLt_bf16_f32)
      (constant S128x256 .f32 0x00000000#32))

/-- The second half of the last tile, as the kernel spells it: the sums of the first half of the queries stay. -/
theorem pay112_eq (b : IVec S512x512 1) (m : FVec Ideal S1x512 .f32) (a : FVec Ideal S128x512 .f32) (st : Vec Ideal S256x256 .f32)
    (vt : Vec Ideal S1x1x128x256 .bf16) : k0_pay112 b m a st vt
      = concatenate S128x512 1 [⟨S128x256, extractStridedSlice S128x256 ![0, 0] a slices_S128x512_o0_0_S128x256⟩,
        ⟨S128x256, rightFold (rightMax m) (rightTop b st) (rightSums a) (rightScores b st) (shapeCast S128x256 vt shapeCasts_S1x1x128x256_S128x256)⟩] concatenates_S128x256_S128x256_S128x512_d1 := rfl

theorem rightMax_apply (m : FVec Ideal S1x512 .f32) (q : Fin 256) : rightMax m (ix2 0 q) = m (ix2 0 (Fin.natAdd 256 q)) :=
  extractStridedSlice_apply _ m _ (ix2 0 q) (ix2 0 (Fin.natAdd 256 q)) fun b => by
    match b with
    | ⟨0, _⟩ => rfl
    | ⟨1, _⟩ => rfl

theorem rightSums_apply (a : FVec Ideal S128x512 .f32) (d : Fin 128) (q : Fin 256) : rightSums a (ix2 d q) = a (ix2 d (Fin.natAdd 256 q)) :=
  extractStridedSlice_apply _ a _ (ix2 d q) (ix2 d (Fin.natAdd 256 q)) fun b => by
    match b with
    | ⟨0, _⟩ => show d.val = 0 + d.val; omega
    | ⟨1, _⟩ => rfl

theorem rightScores_apply {x0 : Vec Ideal S1x1x512x256 .bf16} {x1 : Vec Ideal S1x1x8192x256 .bf16} {i : ℕ} {b : IVec S512x512 1} (hb : Hides x0 x1 i b)
    (h : Fin 2) (st : Vec Ideal S256x256 .f32)
    (hst : ∀ r q : Fin 256, st (ix2 r q) = score x0 x1 h (Fin.natAdd 256 q) (512 * i + 256 + r.val)) (r q : Fin 256) :
    rightScores b st (ix2 r q) = masked x0 x1 i h (Fin.natAdd 256 q) (512 * i + 256 + r.val) := by
  rw [Nat.add_assoc]
  refine Eq.trans ?_ (hb h ⟨256 + r.val, by omega⟩ (Fin.natAdd 256 q) (st (ix2 r q)) ((hst r q).trans (by rw [Nat.add_assoc])))
  show Scalar.select (extractStridedSlice S256x256 ![256, 256] b slices_S512x512_o256_256_S256x256 (ix2 r q)) _ _ = _
  rw [extractStridedSlice_apply _ b _ (ix2 r q) (ix2 ⟨256 + r.val, by omega⟩ (Fin.natAdd 256 q)) (fun b => by
    match b with
    | ⟨0, _⟩ => rfl
    | ⟨1, _⟩ => rfl)]
  rfl

set_option maxHeartbeats 1000000 in
/-- The second half of the last tile taken into the state of a head: by the second half of the queries alone. -/
theorem second_half {x0 : Vec Ideal S1x1x512x256 .bf16} {x1 : Vec Ideal S1x1x8192x256 .bf16} {x2 : Vec Ideal S1x16x256x512 .bf16} (hF : Fine x0 x1 x2)
    (i : ℕ) (b : IVec S512x512 1) (hb : Hides x0 x1 i b) (h : Fin 2) (m : FVec Ideal S1x512 .f32) (a : FVec Ideal S128x512 .f32) (st : Vec Ideal S256x256 .f32)
    (vt : Vec Ideal S1x1x128x256 .bf16)
    (hR : ∀ q, Running (masked x0 x1 i h q) (value x2 h) (512 * i + 256) (m (ix2 0 q)) fun d => a (ix2 d q))
    (hst : ∀ r q : Fin 256, st (ix2 r q) = score x0 x1 h (Fin.natAdd 256 q) (512 * i + 256 + r.val))
    (hvt : ∀ d (r : Fin 256), shapeCast S128x256 vt shapeCasts_S1x1x128x256_S128x256 (ix2 d r) = value x2 h (512 * i + 256 + r.val) d) (q : Fin 512) :
    ∃ μ, Running (masked x0 x1 i h q) (value x2 h) (512 * (i + 1)) μ fun d => k0_pay112 b m a st vt (ix2 d q) := by
  have hS := rightScores_apply hb h st hst
  have hC : ∀ q : Fin 256, Running (masked x0 x1 i h (Fin.natAdd 256 q)) (value x2 h) (512 * i + 256 + 256) (maximumf (rightMax m) (rightTop b st) (ix2 0 q))
      fun d => rightFold (rightMax m) (rightTop b st) (rightSums a) (rightScores b st) (shapeCast S128x256 vt shapeCasts_S1x1x128x256_S128x256) (ix2 d q) :=
    tile (fun q : Fin 256 => masked x0 x1 i h (Fin.natAdd 256 q)) (value x2 h) (512 * i + 256) (rightMax m) (rightTop b st) (rightSums a) (rightScores b st)
      (shapeCast S128x256 vt shapeCasts_S1x1x128x256_S128x256) broadcasts_S1x256_S128x256 broadcasts_S1x256_S256x256 bitsLt_bf16_f32 (by omega)
      (fun q => (hR _).of_eq rfl (rightMax_apply m q) fun d => rightSums_apply a d q) hS hvt
      (fun q => (columnMax_apply (rightScores b st) reduces_S256x256_S256 (.inl rfl) rfl shapeCasts_S256_S1x256 q).trans
        (congrArg _ (funext fun r => hS r q)))
      (fun q => masked_ne_top hF i h _) (fun q => masked_ne_bot hF i h _ _ (by rw [Fin.val_natAdd]; omega))
  rw [pay112_eq]
  generalize rightFold (rightMax m) (rightTop b st) (rightSums a) (rightScores b st) (shapeCast S128x256 vt shapeCasts_S1x1x128x256_S128x256) = a' at hC ⊢
  generalize maximumf (rightMax m) (rightTop b st) = m' at hC
  obtain ⟨μ, hμ⟩ := halves (N := 256) (K := 256) (masked x0 x1 i h) (value x2 h) (512 * i + 256) m a hR (fun q => m' (ix2 0 q)) a' hC
    (fun q hq r hr => if_neg (by omega))
    (concatenate S128x512 1 [⟨S128x256, extractStridedSlice S128x256 ![0, 0] a slices_S128x512_o0_0_S128x256⟩, ⟨S128x256, a'⟩]
      concatenates_S128x256_S128x256_S128x512_d1)
    (fun d q => (concatenate_pair_apply_left (t := S128x512) (s₁ := S128x256) (s₂ := S128x256) 1 _ _ _ (ix2 d (Fin.castAdd 256 q)) rfl (ix2 d q) (fun b => by
      match b with
      | ⟨0, _⟩ => rfl
      | ⟨1, _⟩ => rfl)).trans (extractStridedSlice_apply _ a _ (ix2 d q) (ix2 d (Fin.castAdd 256 q)) fun b => by
        match b with
        | ⟨0, _⟩ => show d.val = 0 + d.val; omega
        | ⟨1, _⟩ => show q.val = 0 + q.val; omega))
    (fun d q => concatenate_pair_apply_right (t := S128x512) (s₁ := S128x256) (s₂ := S128x256) 1 _ _ _ (ix2 d (Fin.natAdd 256 q)) rfl rfl (ix2 d q) (fun b hb => by
      match b with
      | ⟨0, _⟩ => rfl
      | ⟨1, _⟩ => exact absurd rfl hb) (by show q.val + 256 = 256 + q.val; omega)) q
  exact ⟨μ, hμ.of_eq (by omega) rfl fun _ => rfl⟩

/-- The last tile taken into the state of a head, by halves. -/
theorem last_tile {x0 : Vec Ideal S1x1x512x256 .bf16} {x1 : Vec Ideal S1x1x8192x256 .bf16} {x2 : Vec Ideal S1x16x256x512 .bf16} (hF : Fine x0 x1 x2)
    (i : ℕ) (b : IVec S512x512 1) (hb : Hides x0 x1 i b) (h : Fin 2) (m : FVec Ideal S1x512 .f32) (a : FVec Ideal S128x512 .f32) (st : Vec Ideal S256x512 .f32)
    (st' : Vec Ideal S256x256 .f32) (vt vt' : Vec Ideal S1x1x128x256 .bf16)
    (hR : ∀ q, Running (score x0 x1 h q) (value x2 h) (512 * i) (m (ix2 0 q)) fun d => a (ix2 d q))
    (hst : ∀ (r : Fin 256) q, st (ix2 r q) = score x0 x1 h q (512 * i + r.val))
    (hst' : ∀ r q : Fin 256, st' (ix2 r q) = score x0 x1 h (Fin.natAdd 256 q) (512 * i + 256 + r.val))
    (hvt : ∀ d (r : Fin 256), shapeCast S128x256 vt shapeCasts_S1x1x128x256_S128x256 (ix2 d r) = value x2 h (512 * i + r.val) d)
    (hvt' : ∀ d (r : Fin 256), shapeCast S128x256 vt' shapeCasts_S1x1x128x256_S128x256 (ix2 d r) = value x2 h (512 * i + 256 + r.val) d) (q : Fin 512) :
    ∃ μ, Running (masked x0 x1 i h q) (value x2 h) (512 * (i + 1)) μ fun d =>
      k0_pay112 b (k0_pay110 b m st) (k0_pay111 b m a st vt) st' vt' (ix2 d q) :=
  second_half hF i b hb h _ _ st' vt' (first_half hF i b hb h m a st vt hR hst hvt) hst' hvt' q

/-- The kernel's own mask bits hide what `masked` hides. -/
theorem bits_hide (x0 : Vec Ideal S1x1x512x256 .bf16) (x1 : Vec Ideal S1x1x8192x256 .bf16) (i : ℕ) : Hides x0 x1 i bits :=
  fun h r q x hx => masked_apply x0 x1 i h r q x hx

/-- The second half of the keys against the second half of the queries, as loaded from scratch. -/
theorem quarter_read (a : Memref sig .tc .vmem S512x512 .f32) (f : a.view.ty.Contents (Elt Ideal)) (inb) (t : Fin 512 → ℕ → EReal) (n m : ℕ)
    (ht : ∀ (r : Fin 512) q, a.view.read (Elt Ideal) f (ix2 r q) = t q (n + r.val)) (hm : m = n + 256) (r q : Fin 256) :
    a.view.readAt (Elt Ideal) (Rect.unit (s := S512x512) ![256, 256] S256x256.size inb).toLoadRect f (ix2 r q) = t (Fin.natAdd 256 q) (m + r.val) := by
  rw [View.readAt_apply, hm, Nat.add_assoc, ← ht ⟨256 + r.val, by omega⟩]
  refine congrArg _ (funext fun j => Fin.ext ?_)
  match j with
  | ⟨0, _⟩ => show 256 + 1 * r.val = 256 + r.val; omega
  | ⟨1, _⟩ => show 256 + 1 * q.val = 256 + q.val; omega

/-! The kernel spells the steps of the last tile more than once: for either head, and for a block of even and of odd number. -/

theorem pay79_eq : k0_pay79 (F := Ideal) = k0_pay110 := rfl
theorem pay80_eq : k0_pay80 (F := Ideal) = k0_pay111 := rfl
theorem pay82_eq : k0_pay82 (F := Ideal) = k0_pay110 := rfl
theorem pay83_eq : k0_pay83 (F := Ideal) = k0_pay111 := rfl
theorem pay107_eq : k0_pay107 (F := Ideal) = k0_pay110 := rfl
theorem pay108_eq (b : IVec S512x512 1) (m : FVec Ideal S1x512 .f32) (x y : FVec Ideal S128x512 .f32) (st : Vec Ideal S256x512 .f32)
    (vt : Vec Ideal S1x1x128x256 .bf16) : k0_pay108 b m x y st vt = k0_pay111 b m (addf x y) st vt := rfl
theorem pay85_eq (b : IVec S512x512 1) (m : FVec Ideal S1x512 .f32) (a : FVec Ideal S128x512 .f32) (st : Vec Ideal S256x256 .f32)
    (vt : Vec Ideal S1x1x128x256 .bf16) : k0_pay85 m a st (k0_pay84 b) vt = k0_pay112 b m a st vt := rfl
theorem pay133_eq (b : IVec S512x512 1) (m : FVec Ideal S1x512 .f32) (a : FVec Ideal S128x512 .f32) (st : Vec Ideal S256x256 .f32)
    (vt : Vec Ideal S1x1x128x256 .bf16) : k0_pay133 a (k0_pay86 b m a st vt) = k0_pay112 b m a st vt := rfl
theorem pay134_eq : k0_pay134 (F := Ideal) = k0_pay112 := rfl

set_option maxHeartbeats 1000000 in
/-- The block's result from the sums of its two heads: the weighted sums over the sum of the weights, a query a row. -/
theorem block_result {x0 : Vec Ideal S1x1x512x256 .bf16} {x1 : Vec Ideal S1x1x8192x256 .bf16} {x2 : Vec Ideal S1x16x256x512 .bf16} (hF : Fine x0 x1 x2)
    (i : ℕ) (a₀ a₁ : FVec Ideal S128x512 .f32)
    (h₀ : ∀ q, ∃ μ, Running (masked x0 x1 i 0 q) (value x2 0) (512 * (i + 1)) μ fun d => a₀ (ix2 d q))
    (h₁ : ∀ q, ∃ μ, Running (masked x0 x1 i 1 q) (value x2 1) (512 * (i + 1)) μ fun d => a₁ (ix2 d q)) :
    k0_pay1 (k0_pay135 a₀ a₁) = result x0 x1 x2 i := by
  have key : ∀ (h : Fin 2) (a : FVec Ideal S128x512 .f32), (∀ q, ∃ μ, Running (masked x0 x1 i h q) (value x2 h) (512 * (i + 1)) μ fun d => a (ix2 d q)) →
      ∀ (d : Fin 64) (q : Fin 512), divf (extractStridedSlice S64x512 ![0, 0] a slices_S128x512_o0_0_S64x512)
        (broadcastTo S64x512 (extractStridedSlice S1x512 ![64, 0] a slices_S128x512_o64_0_S1x512) broadcasts_S1x512_S64x512) (ix2 d q)
        = attend (masked x0 x1 i h q) (value x2 h) (512 * (i + 1)) ⟨d.val, by omega⟩ := fun h a hR d q => by
    obtain ⟨μ, hμ⟩ := hR q
    refine Eq.trans ?_ (hμ.div ⟨64, by omega⟩ ⟨d.val, by omega⟩ (hF.one h))
    show Ideal.div (extractStridedSlice S64x512 ![0, 0] a slices_S128x512_o0_0_S64x512 (ix2 d q))
      (broadcastTo S64x512 (extractStridedSlice S1x512 ![64, 0] a slices_S128x512_o64_0_S1x512) broadcasts_S1x512_S64x512 (ix2 d q)) = _
    rw [row_broadcast_apply,
      extractStridedSlice_apply _ a _ (ix2 d q) (ix2 ⟨d.val, by omega⟩ q) (fun b => by
        match b with
        | ⟨0, _⟩ => show d.val = 0 + d.val; omega
        | ⟨1, _⟩ => show q.val = 0 + q.val; omega),
      extractStridedSlice_apply _ a _ (ix2 0 q) (ix2 ⟨64, by omega⟩ q) (fun b => by
        match b with
        | ⟨0, _⟩ => rfl
        | ⟨1, _⟩ => show q.val = 0 + q.val; omega)]
  funext j
  obtain ⟨z, q, c, rfl⟩ : ∃ (z : Fin 1) (q : Fin 512) (c : Fin 128), j = ix3 z q c := ⟨j 0, j 1, j 2, eq_ix3 j⟩
  obtain rfl : z = 0 := Subsingleton.elim _ _
  refine (shapeCast_apply (s := S512x128) (t := S1x512x128) (k0_pay135 a₀ a₁) shapeCasts_S512x128_S1x512x128 (ix3 0 q c) (ix2 q c) (by
    rw [Shape.rowMajor_val_two, Shape.rowMajor_val_three]
    show q.val * 128 + c.val = (0 * 512 + q.val) * 128 + c.val; omega)).trans ?_
  unfold k0_pay135
  refine (transpose_apply (s := S128x512) (t := S512x128) [1, 0] _ transposes_S128x512_p1_0_S512x128 (ix2 q c) (ix2 c q) (fun b => by
    match b with
    | ⟨0, _⟩ => rfl
    | ⟨1, _⟩ => rfl)).trans ?_
  by_cases hc : c.val < 64
  · refine (concatenate_pair_apply_left (t := S128x512) (s₁ := S64x512) (s₂ := S64x512) 0 _ _ _ (ix2 c q) rfl (ix2 ⟨c.val, hc⟩ q) (fun b => by
      match b with
      | ⟨0, _⟩ => rfl
      | ⟨1, _⟩ => rfl)).trans ((key 0 a₀ h₀ ⟨c.val, hc⟩ q).trans ?_)
    show _ = attend (masked x0 x1 i ⟨c.val / 64, _⟩ q) (value x2 ⟨c.val / 64, _⟩) (512 * (i + 1)) ⟨c.val % 64, _⟩
    congr 1
    · exact congrArg (fun h => masked x0 x1 i h q) (Fin.ext (by show 0 = c.val / 64; omega))
    · exact congrArg (value x2) (Fin.ext (by show 0 = c.val / 64; omega))
    · exact Fin.ext (by show c.val = c.val % 64; omega)
  · refine (concatenate_pair_apply_right (t := S128x512) (s₁ := S64x512) (s₂ := S64x512) 0 _ _ _ (ix2 c q) rfl rfl (ix2 ⟨c.val - 64, by omega⟩ q) (fun b hb => by
      match b with
      | ⟨0, _⟩ => exact absurd rfl hb
      | ⟨1, _⟩ => rfl) (by show c.val - 64 + 64 = c.val; omega)).trans ((key 1 a₁ h₁ ⟨c.val - 64, by omega⟩ q).trans ?_)
    show _ = attend (masked x0 x1 i ⟨c.val / 64, _⟩ q) (value x2 ⟨c.val / 64, _⟩) (512 * (i + 1)) ⟨c.val % 64, _⟩
    congr 1
    · exact congrArg (fun h => masked x0 x1 i h q) (Fin.ext (by show 1 = c.val / 64; omega))
    · exact congrArg (value x2) (Fin.ext (by show 1 = c.val / 64; omega))
    · exact Fin.ext (by show c.val - 64 = c.val % 64; omega)

end Cert.AttnIdeal.Body

end
-- ==== Proof.AttnIdealBody.lean ====
/-
  The body of the attention kernel over the extended reals, run once at a grid point nothing is known of.
-/
module

public import proofs.«01_k».proof.Proof.Gen.AttnIdeal.Frame
public import proofs.«01_k».proof.Proof.Gen.AttnIdeal.Skeleton
public import proofs.«01_k».proof.Proof.AttnIdealTail

@[expose] public section

set_option maxRecDepth 16384

noncomputable section

namespace Cert.AttnIdeal.Body

open Cert.AttnIdeal Cert.AttnIdeal.Gen Cert.AttnSpec Cert.AttnTile
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

/-- What the loops hold between trips: the inputs' buffers, and the scratch at contents that `Before` speaks of if the
    inputs are fine. -/
def between (c : Dev nD)
    (arg3 : Memref sig .tc .vmem S1x1x512x256 .bf16) (arg4 : Memref sig .tc .vmem S1x1x8192x256 .bf16)
    (arg5 : Memref sig .tc .vmem S1x16x256x512 .bf16) (arg7 arg8 arg9 arg10 : Memref sig .tc .vmem S512x512 .f32)
    (arg11 : Memref sig .tc .vmem S2x2x2x1x512 .f32)
    (f0 : arg3.view.ty.Contents (Elt Ideal)) (f1 : arg4.view.ty.Contents (Elt Ideal)) (f2 : arg5.view.ty.Contents (Elt Ideal))
    (k : ℕ) (acc : Carried) : sProp 𝕄 :=
  iprop((arg3.view.loc (c : Thread nD τ) ↦[arg3.view.set]{fullShare} f0) ∗ (arg4.view.loc (c : Thread nD τ) ↦[arg4.view.set]{fullShare} f1)
    ∗ (arg5.view.loc (c : Thread nD τ) ↦[arg5.view.set]{fullShare} f2)
    ∗ ∃ f7, (arg7.view.loc (c : Thread nD τ) ↦[arg7.view.set]{fullShare} f7)
    ∗ ∃ f8, (arg8.view.loc (c : Thread nD τ) ↦[arg8.view.set]{fullShare} f8)
    ∗ ∃ f9, (arg9.view.loc (c : Thread nD τ) ↦[arg9.view.set]{fullShare} f9)
    ∗ ∃ f10, (arg10.view.loc (c : Thread nD τ) ↦[arg10.view.set]{fullShare} f10)
    ∗ ∃ f11, (arg11.view.loc (c : Thread nD τ) ↦[arg11.view.set]{fullShare} f11)
    ∗ ⌜Fine (arg3.view.read (Elt Ideal) f0) (arg4.view.read (Elt Ideal) f1) (arg5.view.read (Elt Ideal) f2)
        → Before (arg3.view.read (Elt Ideal) f0) (arg4.view.read (Elt Ideal) f1) (arg5.view.read (Elt Ideal) f2) k acc
            (arg7.view.read (Elt Ideal) f7) (arg8.view.read (Elt Ideal) f8) (arg11.view.read (Elt Ideal) f11)⌝)

set_option maxHeartbeats 1000000 in
/-- The body at a grid point, for any continuation: the inputs come back at what they held, the scratch at some contents,
    the result's buffer at attention's result if the inputs are fine. -/
theorem run (c : Dev nD) (E : Set ℕ) (i : grid0.Coords)
    (arg3 : Memref sig .tc .vmem S1x1x512x256 .bf16) (harg3 : arg3.IsWhole) (arg4 : Memref sig .tc .vmem S1x1x8192x256 .bf16) (harg4 : arg4.IsWhole)
    (arg5 : Memref sig .tc .vmem S1x16x256x512 .bf16) (harg5 : arg5.IsWhole) (arg6 : Memref sig .tc .vmem S1x512x128 .f32) (harg6 : arg6.IsWhole)
    (arg7 : Memref sig .tc .vmem S512x512 .f32) (harg7 : arg7.IsWhole) (arg8 : Memref sig .tc .vmem S512x512 .f32) (harg8 : arg8.IsWhole)
    (arg9 : Memref sig .tc .vmem S512x512 .f32) (harg9 : arg9.IsWhole) (arg10 : Memref sig .tc .vmem S512x512 .f32) (harg10 : arg10.IsWhole)
    (arg11 : Memref sig .tc .vmem S2x2x2x1x512 .f32) (harg11 : arg11.IsWhole)
    (x0 : Vec Ideal S1x1x512x256 .bf16) (x1 : Vec Ideal S1x1x8192x256 .bf16) (x2 : Vec Ideal S1x16x256x512 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2
        ∗ (∃ d, owns (c : Thread nD τ) arg6 fullShare d ∗ ⌜Fine x0 x1 x2 → d = result x0 x1 x2 (i 2).val⌝) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_attn_prompt i arg3 harg3 arg4 harg4 arg5 harg5 arg6 harg6 arg7 harg7 arg8 harg8 arg9 harg9 arg10 harg10 arg11 harg11) K := by
  simp only [cc0_attn_prompt_eq_skeleton]; unfold cc0_attn_prompt_skel
  simp only [k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2
  sl_exec
  sl_for (between c arg3 arg4 arg5 arg7 arg8 arg9 arg10 arg11 f0 f1 f2) $$ [H0 H1 H2 H7 H8 H9 H10 H11]
  · intro k acc
    unfold between
    iintro ⟨H0, H1, H2, %g7, H7, %g8, H8, %g9, H9, %g10, H10, %g11, H11, %hB⟩
    sl_exec
    sl_step
    isplitl [H0]; · iexact H0
    isplitl [H1]; · iexact H1
    isplitl [H2]; · iexact H2
    iexists _; isplitl [H7]; · iexact H7
    iexists _; isplitl [H8]; · iexact H8
    iexists _; isplitl [H9]; · iexact H9
    iexists _; isplitl [H10]; · iexact H10
    iexists _; isplitl [H11]; · iexact H11
    ipureintro
    intro hF
    have hB := hB hF
    obtain ⟨o1, o2, o3, o4, o5, o6, o7, o8, o9, o10, o11, o12⟩ := offsets i k
    have hk := trip_lt i k
    refine ⟨?_, ?_, ?_, ?_, ?_⟩
    · refine fun q => (two_halves (score _ _ 0) (value _ 0) (1024 * k.val + 512) _ _ _ _ _ _ _ _
        (two_halves (score _ _ 0) (value _ 0) (1024 * k.val) acc.1 _ _ acc.2.1 _ _ _ _ hB.run0 ?_ ?_ ?_ ?_ ?_ ?_ (hF.not_top 0) (hF.not_bot 0))
          ?_ ?_ ?_ ?_ ?_ ?_ (hF.not_top 0) (hF.not_bot 0) q).of_eq (by omega) rfl fun _ => rfl
      · exact half_read arg7 g7 0 _ (score _ _ 0) (1024 * k.val) _ hB.tile0 (by omega)
      · exact half_read arg7 g7 1 _ (score _ _ 0) (1024 * k.val) _ hB.tile0 (by omega)
      · exact value_read arg5 f2 _ _ (2 * k.val) 0 0 o5 (by omega) _ _ (by omega)
      · exact value_read arg5 f2 _ _ (2 * k.val) 0 1 o7 (by omega) _ _ (by omega)
      · exact fun q => (max_read arg11 g11 0 0 0 _ _ q).trans (hB.top 0 0 q)
      · exact fun q => (max_read arg11 g11 0 0 1 _ _ q).trans (hB.top 0 1 q)
      · exact half_read arg9 _ 0 _ (score _ _ 0) (1024 * k.val + 512) _ (stored_scores (loaded_scores 0 _ o1 rfl (by omega))) (by omega)
      · exact half_read arg9 _ 1 _ (score _ _ 0) (1024 * k.val + 512) _ (stored_scores (loaded_scores 0 _ o1 rfl (by omega))) (by omega)
      · exact value_read arg5 f2 _ _ (2 * k.val + 1) 0 0 o9 (by omega) _ _ (by omega)
      · exact value_read arg5 f2 _ _ (2 * k.val + 1) 0 1 o11 (by omega) _ _ (by omega)
      · refine fun q => (max_read arg11 _ 1 0 0 _ _ q).trans ?_
        refine (four_past arg11 _ 1 0 (by decide) _ _ _ _ _ _ _ _ _ 0 0 q).trans ?_
        exact stored_tops (p := 1) (loaded_scores 0 _ o1 rfl (by omega)) (loaded_scores 1 _ o2 rfl (by omega)) rfl rfl rfl rfl 0 0 q
      · refine fun q => (max_read arg11 _ 1 0 1 _ _ q).trans ?_
        refine (four_past arg11 _ 1 0 (by decide) _ _ _ _ _ _ _ _ _ 0 1 q).trans ?_
        exact stored_tops (p := 1) (loaded_scores 0 _ o1 rfl (by omega)) (loaded_scores 1 _ o2 rfl (by omega)) rfl rfl rfl rfl 0 1 q
    · refine fun q => (two_halves (score _ _ 1) (value _ 1) (1024 * k.val + 512) _ _ _ _ _ _ _ _
        (two_halves (score _ _ 1) (value _ 1) (1024 * k.val) acc.2.2.1 _ _ acc.2.2.2 _ _ _ _ hB.run1 ?_ ?_ ?_ ?_ ?_ ?_ (hF.not_top 1) (hF.not_bot 1))
          ?_ ?_ ?_ ?_ ?_ ?_ (hF.not_top 1) (hF.not_bot 1) q).of_eq (by omega) rfl fun _ => rfl
      · exact half_read arg8 g8 0 _ (score _ _ 1) (1024 * k.val) _ hB.tile1 (by omega)
      · exact half_read arg8 g8 1 _ (score _ _ 1) (1024 * k.val) _ hB.tile1 (by omega)
      · exact value_read arg5 f2 _ _ (2 * k.val) 1 0 o6 (by omega) _ _ (by omega)
      · exact value_read arg5 f2 _ _ (2 * k.val) 1 1 o8 (by omega) _ _ (by omega)
      · exact fun q => (max_read arg11 g11 0 1 0 _ _ q).trans (hB.top 1 0 q)
      · exact fun q => (max_read arg11 g11 0 1 1 _ _ q).trans (hB.top 1 1 q)
      · exact half_read arg10 _ 0 _ (score _ _ 1) (1024 * k.val + 512) _ (stored_scores (loaded_scores 1 _ o2 rfl (by omega))) (by omega)
      · exact half_read arg10 _ 1 _ (score _ _ 1) (1024 * k.val + 512) _ (stored_scores (loaded_scores 1 _ o2 rfl (by omega))) (by omega)
      · exact value_read arg5 f2 _ _ (2 * k.val + 1) 1 0 o10 (by omega) _ _ (by omega)
      · exact value_read arg5 f2 _ _ (2 * k.val + 1) 1 1 o12 (by omega) _ _ (by omega)
      · refine fun q => (max_read arg11 _ 1 1 0 _ _ q).trans ?_
        refine (four_past arg11 _ 1 0 (by decide) _ _ _ _ _ _ _ _ _ 1 0 q).trans ?_
        exact stored_tops (p := 1) (loaded_scores 0 _ o1 rfl (by omega)) (loaded_scores 1 _ o2 rfl (by omega)) rfl rfl rfl rfl 1 0 q
      · refine fun q => (max_read arg11 _ 1 1 1 _ _ q).trans ?_
        refine (four_past arg11 _ 1 0 (by decide) _ _ _ _ _ _ _ _ _ 1 1 q).trans ?_
        exact stored_tops (p := 1) (loaded_scores 0 _ o1 rfl (by omega)) (loaded_scores 1 _ o2 rfl (by omega)) rfl rfl rfl rfl 1 1 q
    · exact stored_scores (loaded_scores 0 _ o3 rfl (by omega))
    · exact stored_scores (loaded_scores 1 _ o4 rfl (by omega))
    · exact stored_tops (p := 0) (loaded_scores 0 _ o3 rfl (by omega)) (loaded_scores 1 _ o4 rfl (by omega)) rfl rfl rfl rfl
  · unfold between
    isplitl [H0]; · iexact H0
    isplitl [H1]; · iexact H1
    isplitl [H2]; · iexact H2
    iexists _; isplitl [H7]; · iexact H7
    iexists _; isplitl [H8]; · iexact H8
    iexists _; isplitl [H9]; · iexact H9
    iexists _; isplitl [H10]; · iexact H10
    iexists _; isplitl [H11]; · iexact H11
    ipureintro
    intro hF
    refine ⟨fun q => ?_, fun q => ?_, ?_, ?_, ?_⟩
    · exact Running.start.of_eq rfl rfl fun d => Ideal.ofBits_zero_f32
    · exact Running.start.of_eq rfl rfl fun d => Ideal.ofBits_zero_f32
    · exact stored_scores (loaded_scores 0 (1024 * 0) rfl rfl (by omega))
    · exact stored_scores (loaded_scores 1 (1024 * 0) rfl rfl (by omega))
    · refine fun h s q => (four_here arg11 _ 0 _ _ _ _ _ _ _ _ _ (tops _ _ (1024 * 0)) ?_ ?_ ?_ ?_ h s q)
      · exact max_tile 0 rfl (loaded_scores 0 (1024 * 0) rfl rfl (by omega))
      · sl_unfold_words
        unfold k0_pay126 k0_pay125
        exact max_tile 1 rfl (loaded_scores 0 (1024 * 0) rfl rfl (by omega))
      · exact max_tile 0 rfl (loaded_scores 1 (1024 * 0) rfl rfl (by omega))
      · exact max_tile 1 rfl (loaded_scores 1 (1024 * 0) rfl rfl (by omega))
  iintro %acc HI
  unfold between
  icases HI with ⟨H0, H1, H2, %g7, H7, %g8, H8, %g9, H9, %g10, H10, %g11, H11, %hB⟩
  sl_exec
  sl_for (fun _ => between c arg3 arg4 arg5 arg7 arg8 arg9 arg10 arg11 f0 f1 f2 (k0_t1_loop i).trips) $$ [H0 H1 H2 H7 H8 H9 H10 H11]
  · exact fun k => absurd (lt_of_lt_of_eq k.isLt (trips2 i)) (Nat.not_lt_zero _)
  · unfold between
    isplitl [H0]; · iexact H0
    isplitl [H1]; · iexact H1
    isplitl [H2]; · iexact H2
    iexists _; isplitl [H7]; · iexact H7
    iexists _; isplitl [H8]; · iexact H8
    iexists _; isplitl [H9]; · iexact H9
    iexists _; isplitl [H10]; · iexact H10
    iexists _; isplitl [H11]; · iexact H11
    ipureintro
    exact hB
  clear hB
  iintro %acc HI
  unfold between
  icases HI with ⟨H0, H1, H2, %g7, H7, %g8, H8, %g9, H9, %g10, H10, %g11, H11, %hB⟩
  by_cases h : k0_cond1 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H6]
    on_goal 2 =>
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      iexists _, _; isplitr; swap; · iexact H11
      ipureintro; rfl
    iexists _; isplitl
    · iexists _; isplitr; swap; · iexact H6
      ipureintro; rfl
    ipureintro
    intro hF
    have hB := hB hF
    refine (View.read_writes_full (Val := Elt Ideal) arg6.view f6 _ _ _).trans ?_
    sl_unfold_words
    simp only [pay79_eq, pay80_eq, pay82_eq, pay83_eq, pay107_eq, pay108_eq, pay85_eq, pay133_eq, pay134_eq]
    have hi : (i 2).val < 16 := (i 2).isLt
    have htr := trips1 i
    obtain ⟨r0, r1, t0, t1, tp⟩ := hB
  · have he := (even_iff i).mp h
    obtain ⟨o21, o22, o23, o24⟩ := offsets_even i
    rw [show 1024 * (k0_t1_loop i).trips = 512 * (i 2).val by omega] at r0 r1 t0 t1 tp
    refine block_result hF _ _ _ ?_ ?_
    · refine last_tile hF _ bits (bits_hide _ _ _) 0 _ _ _ _ _ _ r0 ?_ ?_ ?_ ?_
      · exact half_read arg7 g7 0 _ (score _ _ 0) (512 * (i 2).val) _ t0 (by omega)
      · exact quarter_read arg7 g7 _ (score _ _ 0) (512 * (i 2).val) _ t0 (by omega)
      · exact value_read arg5 f2 _ _ (i 2).val 0 0 o21 hi _ _ (by omega)
      · exact value_read arg5 f2 _ _ (i 2).val 0 1 o23 hi _ _ (by omega)
    · refine last_tile hF _ bits (bits_hide _ _ _) 1 _ _ _ _ _ _ r1 ?_ ?_ ?_ ?_
      · exact half_read arg8 g8 0 _ (score _ _ 1) (512 * (i 2).val) _ t1 (by omega)
      · exact quarter_read arg8 g8 _ (score _ _ 1) (512 * (i 2).val) _ t1 (by omega)
      · exact value_read arg5 f2 _ _ (i 2).val 1 0 o22 hi _ _ (by omega)
      · exact value_read arg5 f2 _ _ (i 2).val 1 1 o24 hi _ _ (by omega)
  · have ho : (i 2).val % 2 = 1 := by have := mt (even_iff i).mpr h; omega
    obtain ⟨o25, o26, o27, o28, o29, o30, o31, o32, o33, o34⟩ := offsets_odd i ho
    rw [show 1024 * (k0_t1_loop i).trips = 512 * ((i 2).val - 1) by omega] at r0 r1 t0 t1 tp
    refine block_result hF _ _ _ ?_ ?_
    · refine last_tile hF _ bits (bits_hide _ _ _) 0 _ _ _ _ _ _ (fun q => (two_halves (score _ _ 0) (value _ 0) (512 * ((i 2).val - 1)) acc.1 _ _ acc.2.1 _ _ _ _ r0
        ?_ ?_ ?_ ?_ ?_ ?_ (hF.not_top 0) (hF.not_bot 0) q).of_eq (by omega) rfl fun _ => rfl) ?_ ?_ ?_ ?_
      · exact half_read arg7 g7 0 _ (score _ _ 0) (512 * ((i 2).val - 1)) _ t0 (by omega)
      · exact half_read arg7 g7 1 _ (score _ _ 0) (512 * ((i 2).val - 1)) _ t0 (by omega)
      · exact value_read arg5 f2 _ _ ((i 2).val - 1) 0 0 o27 (by omega) _ _ (by omega)
      · exact value_read arg5 f2 _ _ ((i 2).val - 1) 0 1 o29 (by omega) _ _ (by omega)
      · exact fun q => (max_read arg11 g11 0 0 0 _ _ q).trans (tp 0 0 q)
      · exact fun q => (max_read arg11 g11 0 0 1 _ _ q).trans (tp 0 1 q)
      · exact half_read arg9 _ 0 _ (score _ _ 0) (512 * (i 2).val) _ (stored_scores (loaded_scores 0 _ o25 rfl (by omega))) (by omega)
      · exact quarter_read arg9 _ _ (score _ _ 0) (512 * (i 2).val) _ (stored_scores (loaded_scores 0 _ o25 rfl (by omega))) (by omega)
      · exact value_read arg5 f2 _ _ (i 2).val 0 0 o31 hi _ _ (by omega)
      · exact value_read arg5 f2 _ _ (i 2).val 0 1 o33 hi _ _ (by omega)
    · refine last_tile hF _ bits (bits_hide _ _ _) 1 _ _ _ _ _ _ (fun q => (two_halves (score _ _ 1) (value _ 1) (512 * ((i 2).val - 1)) acc.2.2.1 _ _ acc.2.2.2 _ _ _ _ r1
        ?_ ?_ ?_ ?_ ?_ ?_ (hF.not_top 1) (hF.not_bot 1) q).of_eq (by omega) rfl fun _ => rfl) ?_ ?_ ?_ ?_
      · exact half_read arg8 g8 0 _ (score _ _ 1) (512 * ((i 2).val - 1)) _ t1 (by omega)
      · exact half_read arg8 g8 1 _ (score _ _ 1) (512 * ((i 2).val - 1)) _ t1 (by omega)
      · exact value_read arg5 f2 _ _ ((i 2).val - 1) 1 0 o28 (by omega) _ _ (by omega)
      · exact value_read arg5 f2 _ _ ((i 2).val - 1) 1 1 o30 (by omega) _ _ (by omega)
      · exact fun q => (max_read arg11 g11 0 1 0 _ _ q).trans (tp 1 0 q)
      · exact fun q => (max_read arg11 g11 0 1 1 _ _ q).trans (tp 1 1 q)
      · exact half_read arg10 _ 0 _ (score _ _ 1) (512 * (i 2).val) _ (stored_scores (loaded_scores 1 _ o26 rfl (by omega))) (by omega)
      · exact quarter_read arg10 _ _ (score _ _ 1) (512 * (i 2).val) _ (stored_scores (loaded_scores 1 _ o26 rfl (by omega))) (by omega)
      · exact value_read arg5 f2 _ _ (i 2).val 1 0 o32 hi _ _ (by omega)
      · exact value_read arg5 f2 _ _ (i 2).val 1 1 o34 hi _ _ (by omega)

end Cert.AttnIdeal.Body

end
-- ==== Proof.AttnIdealFrame.lean ====
/-
  The attention kernel over the extended reals, launched: the frame from any memory, and the result array block by block
  from a memory whose blocks are fine.
-/
module

public import proofs.«01_k».proof.Proof.AttnIdealBody

@[expose] public section

set_option maxRecDepth 16384

noncomputable section

namespace Cert.AttnIdeal.Body

open Cert.AttnIdeal Cert.AttnIdeal.Gen Cert.AttnSpec Cert.AttnTile
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The window of the result, unnamed: the frame needs none of its contents. -/
def forgets : Fin 4 → Bool := ![false, false, false, true]

/-- The proof data on core `c`: the arrays as the region finds them; each input's buffer left at its block, the
    result's at attention's result; the scratch and the generator register at anything between points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result (iblk m c 0 t) (iblk m c 1 t) (iblk m c 2 t) (grid0.coords t 2).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem after_3 (c : Dev nD) (t : Fin cfg0.N) :
    (dats m 0 c).after 3 t = result (iblk m c 0 t) (iblk m c 1 t) (iblk m c 2 t) (grid0.coords t 2).val := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The invariant between points, buffer by buffer: each scratch at some contents, the generator register at some state. -/
theorem between_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ ∃ r, prngReg c r) := by
  unfold Pipeline.ΦA
  rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d
      ∗ ⌜Fine (iblk m c 0 t) (iblk m c 1 t) (iblk m c 2 t) → d = result (iblk m c 0 t) (iblk m c 1 t) (iblk m c 2 t) (grid0.coords t 2).val⌝))

/-- The body at any point: the scratch opened out of the invariant, the run, the scratch put back. -/
theorem at_point (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, between_eq]
  iintro ⟨⟨⟨S7, S8, S9, S10, S11⟩, Hg⟩, Ho, ⟨%d0, H0⟩, ⟨%d1, H1⟩, ⟨%d2, H2⟩, H3⟩
  iapply (run c Set.univ (grid0.coords t) _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexact H3
  isplitl [S7]; · iexact S7
  isplitl [S8]; · iexact S8
  isplitl [S9]; · iexact S9
  isplitl [S10]; · iexact S10
  isplitl [S11]; · iexact S11
  iintro ⟨H0, H1, H2, H3, S7, S8, S9, S10, S11⟩
  isplitl [S7 S8 S9 S10 S11 Hg]
  · isplitl [S7 S8 S9 S10 S11]
    · isplitl [S7]; · iexact S7
      isplitl [S8]; · iexact S8
      isplitl [S9]; · iexact S9
      isplitl [S10]; · iexact S10
      iexact S11
    iexact Hg
  isplitl [Ho]; · iexact Ho
  isplitl [H0]; · iexact H0
  isplitl [H1]; · iexact H1
  isplitl [H2]; · iexact H2
  iexact H3

/-- The body table's row at point `t` is the body at that point. -/
theorem row (t : Fin cfg0.N) : defs₀ (F := Ideal) .tc cfg0.body (cfg0.bodyArgs t (cfg0.slots t)) = bodyAt0 t := by
  unfold defs₀; rw [Defs.onTc_tc]

/-- What the body returns, nothing said of the result, -/
theorem forgotten (c : Dev nD) (t : Fin cfg0.N) : bodyPost m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d)) := by
  unfold bodyPost
  iintro ⟨HΦ, Ho, H0, H1, H2, %d, H3, -⟩
  isplitl [HΦ]; · iexact HΦ
  isplitl [Ho]; · iexact Ho
  isplitl [H0]; · iexact H0
  isplitl [H1]; · iexact H1
  isplitl [H2]; · iexact H2
  iexists d; iexact H3

/-- and with the result, of a fine block. -/
theorem remembered (c : Dev nD) (t : Fin cfg0.N) (hF : Fine (iblk m c 0 t) (iblk m c 1 t) (iblk m c 2 t)) :
    bodyPost m c t ⊢ iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)) := by
  unfold bodyPost
  rw [after_3]
  iintro ⟨HΦ, Ho, H0, H1, H2, %d, H3, %hd⟩
  obtain rfl := hd hF
  isplitl [HΦ]; · iexact HΦ
  isplitl [Ho]; · iexact Ho
  isplitl [H0]; · iexact H0
  isplitl [H1]; · iexact H1
  isplitl [H2]; · iexact H2
  iexact H3

/-- What the body is called with, the result's buffer at whatever it holds. -/
theorem given (c : Dev nD) (t : Fin cfg0.N) : iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))) ⊢ bodyPre m c t := by
  unfold bodyPre
  iintro ⟨HΦ, Ho, H0, H1, H2, %d, H3⟩
  isplitl [HΦ]; · iexact HΦ
  isplitl [Ho]; · iexact Ho
  isplitl [H0]; · iexact H0
  isplitl [H1]; · iexact H1
  isplitl [H2]; · iexact H2
  iexists _; iexact H3

/-- The pipeline's body obligation with the result's window forgotten. -/
theorem obligation (c : Dev nD) : BodyObligation (dats m 0 c) (defs₀ (F := Ideal)) Variants.none () Set.univ forgets := fun t => by
  rw [bigSep_W0, bigSep_W0, row]
  exact triple_restated (at_point m c t) rfl .rfl fun _ => forgotten m c t

/-- The pipeline's body obligation, every block fine. -/
theorem obligation_fine (hF : ∀ c t, Fine (iblk m c 0 t) (iblk m c 1 t) (iblk m c 2 t)) (c : Dev nD) :
    BodyObligation (dats m 0 c) (defs₀ (F := Ideal)) Variants.none () Set.univ := fun t => by
  rw [bigSep_W0, bigSep_W0, row]
  exact triple_restated (at_point m c t) rfl (given m c t) fun _ => remembered m c t (hF c t)

set_option backward.isDefEq.respectTransparency.types false in
set_option maxHeartbeats 800000 in
/-- The launch: it runs to the end from any memory, every array of the pipeline but the result's at what the region found,
    and every semaphore counter zero. -/
theorem launched : θ_run defs (onTc (τ := τ) (main (F := Ideal))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame: the three arguments end as they began and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 0 rfl).trans (V_main_arg0 m c), (h.1.arr_in c 1 rfl).trans (V_main_arg1 m c), (h.1.arr_in c 2 rfl).trans (V_main_arg2 m c)⟩, h.2⟩)
    (launched m ρ)

set_option backward.isDefEq.respectTransparency.types false in
set_option maxHeartbeats 800000 in
/-- The launch, every block fine: every array of the pipeline at what its blocks say. -/
theorem launched_fine (hF : ∀ c t, Fine (iblk m c 0 t) (iblk m c 1 t) (iblk m c 2 t)) :
    θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation_fine m hF c).loose) (hshare := fun c => (dats m 0 c).share_full fun _ => rfl)
    (howed := fun _ _ => rfl) (V := V m) (hmain := hmain m Variants.none) (hA := A_eq m) (hΦ := fun _ _ => rfl)

/-- The result array, every block fine: what the blocks' results make together; the arguments end as they began. -/
theorem run_fine (hF : ∀ c t, Fine (iblk m c 0 t) (iblk m c 1 t) (iblk m c 2 t)) :
    θ_run defs (onTc (τ := τ) (main (F := Ideal))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1 c).1 3,
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c)))⟩) (launched_fine m ρ hF)

end Cert.AttnIdeal.Body

end
-- ==== Proof.AttnArray.lean ====
/-
  Attention over the whole argument arrays, and its two spellings: by powers of two of the scores, over the keys up to the
  query's block, and by the ordinary exponential of the scores times `ln 2`, over all the keys with every weight divided first.
-/
module

public import proofs.«01_k».proof.Proof.AttnSpec
public import Idealize.ShloMosaic.Lib.ValueIdx
public import Idealize.ShloMosaic.PureOps

@[expose] public section

noncomputable section

namespace Cert.AttnSpec

open Idealize.ShloMosaic Idealize.ShloMosaic.ValueIdx

/-- Keys masked past the first `n` change nothing. -/
theorem attend_extend {D : Type} (s : ℕ → EReal) (v : ℕ → D → EReal) (n b : ℕ) (hs : ∀ r, r < b → s (n + r) = ⊥) (d : D) :
    attend s v n d = attend s v (n + b) d := by
  have ht : (Finset.range (n + b)).sup s = (Finset.range n).sup s := by
    rw [Running.sup_add, show (Finset.univ.sup fun r : Fin b => s (n + r.val)) = ⊥ from
      le_bot_iff.mp (Finset.sup_le fun r _ => (hs r.val r.isLt).le), max_eq_left bot_le]
  unfold attend
  rw [ht, Finset.sum_range_add, Finset.sum_range_add, Finset.sum_eq_zero (s := Finset.range b), Finset.sum_eq_zero (s := Finset.range b), add_zero, add_zero]
  · intro r hr; rw [hs r (Finset.mem_range.mp hr), exp2_bot_sub]
  · intro r hr; rw [hs r (Finset.mem_range.mp hr), exp2_bot_sub, zero_mul]

/-- Scaling by `ln 2` does not change which score is the largest. -/
theorem sup_ln2 (s : ℕ → EReal) (n : ℕ) :
    (Finset.range n).sup (fun k => s k * ((Real.log 2 : ℝ) : EReal)) = (Finset.range n).sup s * ((Real.log 2 : ℝ) : EReal) := by
  have hpos : (0 : ℝ) < Real.log 2 := Real.log_pos (by norm_num)
  refine (Finset.apply_sup_eq_sup_comp_of_linearOrder (fun x : EReal => x * ((Real.log 2 : ℝ) : EReal)) ?_ ?_).symm
  · intro x y h; exact mul_le_mul_of_nonneg_right h (EReal.coe_nonneg.mpr hpos.le)
  · exact EReal.bot_mul_coe_of_pos hpos

/-- A sum of terms none of which is `+∞` is not `+∞`. -/
theorem sum_ne_top {ι : Type} (t : Finset ι) (f : ι → EReal) (h : ∀ k ∈ t, f k ≠ ⊤) : ∑ k ∈ t, f k ≠ ⊤ := by
  classical
  induction t using Finset.induction_on with
  | empty => simp
  | insert a t ha ih =>
    rw [Finset.sum_insert ha]
    exact (EReal.add_lt_top (h a (Finset.mem_insert_self a t)) (ih fun k hk => h k (Finset.mem_insert_of_mem hk))).ne

/-- A sum of products of real numbers is a real number. -/
theorem sum_mul_real {ι : Type} (t : Finset ι) (f g : ι → EReal) (hf : ∀ k, f k ≠ ⊤ ∧ f k ≠ ⊥) (hg : ∀ k, g k ≠ ⊤ ∧ g k ≠ ⊥) :
    (∑ k ∈ t, f k * g k) ≠ ⊤ ∧ (∑ k ∈ t, f k * g k) ≠ ⊥ := by
  classical
  have h : ∃ r : ℝ, ∑ k ∈ t, f k * g k = (r : EReal) := by
    induction t using Finset.induction_on with
    | empty => exact ⟨0, by simp⟩
    | insert a t ha ih =>
      obtain ⟨r, hr⟩ := ih
      refine ⟨(f a).toReal * (g a).toReal + r, ?_⟩
      rw [Finset.sum_insert ha, hr, EReal.coe_add, EReal.coe_mul, EReal.coe_toReal (hf a).1 (hf a).2, EReal.coe_toReal (hg a).1 (hg a).2]
  obtain ⟨r, hr⟩ := h
  rw [hr]
  exact ⟨EReal.coe_ne_top _, EReal.coe_ne_bot _⟩

/-- The softmax by the ordinary exponential, every weight divided by the sum before it meets its value: attention's result
    again, when no score is `+∞` and some score is a real number. -/
theorem softmax_attend {D : Type} (s : ℕ → EReal) (v : ℕ → D → EReal) (n : ℕ) (d : D) (ht : ∀ k, s k ≠ ⊤) (hb : ∃ k, k < n ∧ s k ≠ ⊥) :
    ∑ k ∈ Finset.range n, Ideal.div
        (Ideal.exp (s k * ((Real.log 2 : ℝ) : EReal) - (Finset.range n).sup s * ((Real.log 2 : ℝ) : EReal)))
        (∑ j ∈ Finset.range n, Ideal.exp (s j * ((Real.log 2 : ℝ) : EReal) - (Finset.range n).sup s * ((Real.log 2 : ℝ) : EReal))) * v k d
      = attend s v n d := by
  obtain ⟨k₀, hk₀, hb₀⟩ := hb
  have hMt : (Finset.range n).sup s ≠ ⊤ := ((Finset.sup_lt_iff bot_lt_top).mpr fun k _ => lt_top_iff_ne_top.mpr (ht k)).ne
  have hle : s k₀ ≤ (Finset.range n).sup s := Finset.le_sup (f := s) (Finset.mem_range.mpr hk₀)
  have hMb : (Finset.range n).sup s ≠ ⊥ := fun e => hb₀ (le_bot_iff.mp (e ▸ hle))
  unfold attend
  simp only [exp_ln2 (ht _) hMt hMb]
  generalize (Finset.range n).sup s = M at hMt hMb
  have hpos : 0 < Ideal.exp2 (s k₀ - M) := by
    have ht₀ := ht k₀
    generalize s k₀ = a at ht₀ hb₀
    induction M with
    | bot => exact absurd rfl hMb
    | top => exact absurd rfl hMt
    | coe M =>
      induction a with
      | bot => exact absurd rfl hb₀
      | top => exact absurd rfl ht₀
      | coe a =>
        rw [← EReal.coe_sub]
        exact EReal.coe_pos.mpr (Real.rpow_pos_of_pos (by norm_num) _)
  have hS : 0 < ∑ j ∈ Finset.range n, Ideal.exp2 (s j - M) :=
    hpos.trans_le (Finset.single_le_sum (f := fun j => Ideal.exp2 (s j - M)) (fun j _ => exp2_nonneg _) (Finset.mem_range.mpr hk₀))
  generalize ∑ j ∈ Finset.range n, Ideal.exp2 (s j - M) = S at hS
  have hi0 : 0 ≤ S⁻¹ := EReal.inv_nonneg_of_nonneg hS.le
  have hi1 : S⁻¹ ≠ ⊤ := by
    induction S with
    | bot => exact absurd hS (not_lt.mpr bot_le)
    | top => rw [EReal.inv_top]; exact EReal.zero_ne_top
    | coe S => rw [← EReal.coe_inv]; exact EReal.coe_ne_top _
  have hdiv : ∀ x, Ideal.div x S = x * S⁻¹ := fun x => if_neg hS.ne'
  simp only [hdiv]
  rw [sum_mul_of_nonneg _ _ hi0 hi1]
  exact Finset.sum_congr rfl fun k _ => mul_right_comm _ _ _

/-- The score of key `k` for query `p` of batch `b` in head `g`: heads `2 j` and `2 j + 1` lie side by side in pair `j`. -/
def headScore (x0 x1 : FVec Ideal ⟨4, ![8, 4, 8192, 256]⟩ .bf16) (b g : Fin 8) (p : Fin 8192) (k : ℕ) : EReal :=
  ∑ d : Fin 128, x1 (ix4 b ⟨g.val / 2, by omega⟩ ⟨k % 8192, by omega⟩ ⟨128 * (g.val % 2) + d.val, by omega⟩)
    * x0 (ix4 b ⟨g.val / 2, by omega⟩ p ⟨128 * (g.val % 2) + d.val, by omega⟩)

/-- Column `d` of the value of key `k` of batch `b` in head `g`: the values lie transposed, a tile of 512 keys after the other. -/
def headValue (x2 : FVec Ideal ⟨4, ![8, 16, 1024, 512]⟩ .bf16) (b g : Fin 8) (k : ℕ) (d : Fin 128) : EReal :=
  x2 (ix4 b ⟨k / 512 % 16, by omega⟩ ⟨128 * g.val + d.val, by omega⟩ ⟨k % 512, by omega⟩)

/-- The scores with the later chunks of 64 positions masked. -/
def headMasked (x0 x1 : FVec Ideal ⟨4, ![8, 4, 8192, 256]⟩ .bf16) (b g : Fin 8) (p : Fin 8192) (k : ℕ) : EReal :=
  if k / 64 ≤ p.val / 64 then headScore x0 x1 b g p k else ⊥

/-- Attention's result: batch, position, and 64 columns for each head. -/
def attention (x0 x1 : FVec Ideal ⟨4, ![8, 4, 8192, 256]⟩ .bf16) (x2 : FVec Ideal ⟨4, ![8, 16, 1024, 512]⟩ .bf16) : FVec Ideal ⟨3, ![8, 8192, 512]⟩ .f32 := fun i =>
  attend (headMasked x0 x1 (i 0) ⟨(i 2).val / 64, by have := (i 2).isLt; change _ < 512 at this; omega⟩ (i 1))
    (headValue x2 (i 0) ⟨(i 2).val / 64, by have := (i 2).isLt; change _ < 512 at this; omega⟩) 8192 ⟨(i 2).val % 64, by omega⟩

/-- What the arguments must be: queries and keys real numbers, and the 64th column of every value a one. -/
structure Sound (x0 x1 : FVec Ideal ⟨4, ![8, 4, 8192, 256]⟩ .bf16) (x2 : FVec Ideal ⟨4, ![8, 16, 1024, 512]⟩ .bf16) : Prop where
  queries : ∀ i, x0 i ≠ ⊤ ∧ x0 i ≠ ⊥
  keys : ∀ i, x1 i ≠ ⊤ ∧ x1 i ≠ ⊥
  ones : ∀ (b : Fin 8) (t : Fin 16) (g : Fin 8) (r : Fin 512), x2 (ix4 b t ⟨128 * g.val + 64, by omega⟩ r) = 1

variable {x0 x1 : FVec Ideal ⟨4, ![8, 4, 8192, 256]⟩ .bf16} {x2 : FVec Ideal ⟨4, ![8, 16, 1024, 512]⟩ .bf16}

/-- Every score is then a real number. -/
theorem Sound.score (h : Sound x0 x1 x2) (b g : Fin 8) (p : Fin 8192) (k : ℕ) : headScore x0 x1 b g p k ≠ ⊤ ∧ headScore x0 x1 b g p k ≠ ⊥ :=
  sum_mul_real _ _ _ (fun _ => h.keys _) (fun _ => h.queries _)

/-- A masked score is never `+∞`. -/
theorem Sound.masked_ne_top (h : Sound x0 x1 x2) (b g : Fin 8) (p : Fin 8192) (k : ℕ) : headMasked x0 x1 b g p k ≠ ⊤ := by
  unfold headMasked; split
  · exact (h.score b g p k).1
  · exact bot_ne_top

/-- The query's own position is visible. -/
theorem Sound.own (h : Sound x0 x1 x2) (b g : Fin 8) (p : Fin 8192) : headMasked x0 x1 b g p p.val ≠ ⊥ := by
  unfold headMasked; rw [if_pos (le_refl _)]; exact (h.score b g p _).2

end Cert.AttnSpec

end
-- ==== Proof.AttnReference.lean ====
/- What the attention's reference computes: `attention` of the argument arrays. -/
module

public import proofs.«01_k».proof.Proof.AttnArray
public import proofs.«01_k».proof.Proof.Gen.AttnRefIdeal.Read
public import Idealize.ShloMosaic.Lib.KernelVsHost

@[expose] public section

noncomputable section

namespace Cert.AttnRefIdeal.Rows

open Cert.AttnRefIdeal Cert.AttnRefIdeal.Gen Cert.AttnRefIdeal.Read Cert.AttnSpec Idealize.ShloMosaic Idealize.ShloMosaic.TcCoe Idealize.ShloMosaic.ValueIdx

variable (x0 x1 : (⟨S8x4x8192x256, .bf16⟩ : BufTy).Contents (Elt Ideal)) (x2 : (⟨S8x16x1024x512, .bf16⟩ : BufTy).Contents (Elt Ideal))

/-- The heads split out of the pairs: where head `g`'s column `d` at position `p` lies. -/
theorem heads_index (b g : Fin 8) (p : Fin 8192) (d : Fin 128) :
    idx_main_v1 (idx_main_v2 (idx_main_v3 (ix4 b g p d))) = ix4 b ⟨g.val / 2, by omega⟩ p ⟨128 * (g.val % 2) + d.val, by omega⟩ := by
  have h3 : idx_main_v3 (ix4 b g p d) = ix5 b ⟨g.val / 2, by omega⟩ ⟨g.val % 2, by omega⟩ p d := funext fun a => Fin.ext (by
    match a with
    | ⟨0, _⟩ => show (((b.val * 8 + g.val) * 8192 + p.val) * 128 + d.val) / 8388608 = b.val; omega
    | ⟨1, _⟩ => show (((b.val * 8 + g.val) * 8192 + p.val) * 128 + d.val) / 2097152 % 4 = g.val / 2; omega
    | ⟨2, _⟩ => show (((b.val * 8 + g.val) * 8192 + p.val) * 128 + d.val) / 1048576 % 2 = g.val % 2; omega
    | ⟨3, _⟩ => show (((b.val * 8 + g.val) * 8192 + p.val) * 128 + d.val) / 128 % 8192 = p.val; omega
    | ⟨4, _⟩ => show (((b.val * 8 + g.val) * 8192 + p.val) * 128 + d.val) % 128 = d.val; omega)
  rw [h3]
  refine funext fun a => Fin.ext ?_
  match a with
  | ⟨0, _⟩ => show ((((b.val * 4 + g.val / 2) * 8192 + p.val) * 2 + g.val % 2) * 128 + d.val) / 8388608 = b.val; omega
  | ⟨1, _⟩ => show ((((b.val * 4 + g.val / 2) * 8192 + p.val) * 2 + g.val % 2) * 128 + d.val) / 2097152 % 4 = g.val / 2; omega
  | ⟨2, _⟩ => show ((((b.val * 4 + g.val / 2) * 8192 + p.val) * 2 + g.val % 2) * 128 + d.val) / 256 % 8192 = p.val; omega
  | ⟨3, _⟩ => show ((((b.val * 4 + g.val / 2) * 8192 + p.val) * 2 + g.val % 2) * 128 + d.val) % 256 = 128 * (g.val % 2) + d.val; omega

/-- The queries of a head. -/
theorem queries_apply (b g : Fin 8) (p : Fin 8192) (d : Fin 128) :
    val_main_v3 (F := Ideal) x0 (ix4 b g p d) = x0 (ix4 b ⟨g.val / 2, by omega⟩ p ⟨128 * (g.val % 2) + d.val, by omega⟩) := by
  rw [val_main_v3_apply, val_main_v2_apply, val_main_v1_apply, val_main_v0_apply, heads_index]; rfl

/-- The keys of a head. -/
theorem keys_apply (b g : Fin 8) (p : Fin 8192) (d : Fin 128) :
    val_main_v7 (F := Ideal) x1 (ix4 b g p d) = x1 (ix4 b ⟨g.val / 2, by omega⟩ p ⟨128 * (g.val % 2) + d.val, by omega⟩) := by
  rw [val_main_v7_apply, val_main_v6_apply, val_main_v5_apply, val_main_v4_apply]
  exact congrArg x1 (heads_index b g p d)

/-- Where a value's tile lies in the array's linear order. -/
theorem index_step (b g d t r : ℕ) (ht : t < 16) (hg : g < 8) (hd : d < 128) (hr : r < 512) :
    ((((b * 16 + t) * 8 + g) * 128 + d) * 512 + r) / 524288 % 16 = t % 16 := by
  rw [show ((((b * 16 + t) * 8 + g) * 128 + d) * 512 + r) / 524288 = b * 16 + t by omega]; omega

/-- The values of a head. -/
theorem values_apply (b g : Fin 8) (k : Fin 8192) (d : Fin 64) :
    val_main_v12 (F := Ideal) x2 (ix4 b g k d) = headValue x2 b g k.val ⟨d.val, by omega⟩ := by
  have h12 : idx_main_v12 (ix4 b g k d) = ix5 b g ⟨k.val / 512, by omega⟩ ⟨k.val % 512, by omega⟩ d := funext fun a => Fin.ext (by
    match a with
    | ⟨0, _⟩ => show (((b.val * 8 + g.val) * 8192 + k.val) * 64 + d.val) / 4194304 = b.val; omega
    | ⟨1, _⟩ => show (((b.val * 8 + g.val) * 8192 + k.val) * 64 + d.val) / 524288 % 8 = g.val; omega
    | ⟨2, _⟩ => show (((b.val * 8 + g.val) * 8192 + k.val) * 64 + d.val) / 32768 % 16 = k.val / 512; omega
    | ⟨3, _⟩ => show (((b.val * 8 + g.val) * 8192 + k.val) * 64 + d.val) / 64 % 512 = k.val % 512; omega
    | ⟨4, _⟩ => show (((b.val * 8 + g.val) * 8192 + k.val) * 64 + d.val) % 64 = d.val; omega)
  have h9 : idx_main_v9 (idx_main_v10 (idx_main_v11 (ix5 b g ⟨k.val / 512, by omega⟩ ⟨k.val % 512, by omega⟩ d)))
      = ix4 b ⟨k.val / 512 % 16, by omega⟩ ⟨128 * g.val + d.val, by omega⟩ ⟨k.val % 512, by omega⟩ := funext fun a => Fin.ext (by
    match a with
    | ⟨0, _⟩ => show ((((b.val * 16 + k.val / 512) * 8 + g.val) * 128 + d.val) * 512 + k.val % 512) / 8388608 = b.val; omega
    | ⟨1, _⟩ => show ((((b.val * 16 + k.val / 512) * 8 + g.val) * 128 + d.val) * 512 + k.val % 512) / 524288 % 16 = k.val / 512 % 16; rw [index_step b.val g.val d.val _ _ (by omega) (by omega) (by omega) (by omega)]
    | ⟨2, _⟩ => show ((((b.val * 16 + k.val / 512) * 8 + g.val) * 128 + d.val) * 512 + k.val % 512) / 512 % 1024 = 128 * g.val + d.val; omega
    | ⟨3, _⟩ => show ((((b.val * 16 + k.val / 512) * 8 + g.val) * 128 + d.val) * 512 + k.val % 512) % 512 = k.val % 512; omega)
  rw [val_main_v12_apply, h12, val_main_v11_apply, val_main_v10_apply, val_main_v9_apply, val_main_v8_apply, h9]; rfl

/-- The chunk of a position. -/
theorem chunk_apply (p : Fin 8192) : val_main_v19 (F := Ideal) (ix1 p) = BitVec.ofNat 32 (p.val / 64) := by
  rw [val_main_v19_apply, val_main_v18_apply, val_main_v13_apply, val_main_c_apply]
  exact (by decide +kernel : ∀ p : Fin 8192, IntOp.divsi .host (BitVec.ofNat 32 p.val) 64#32 = BitVec.ofNat 32 (p.val / 64)) p

/-- Chunks compared as words are compared as numbers. -/
theorem chunk_le : ∀ a b : Fin 128, IntOp.cmpi .sle (BitVec.ofNat 32 a.val) (BitVec.ofNat 32 b.val) = if a.val ≤ b.val then 1#1 else 0#1 := by
  decide +kernel

/-- The mask: a key is visible to the queries of its own chunk and of later ones. -/
theorem mask_apply (b g : Fin 8) (p k : Fin 8192) :
    val_main_call0_v1 (F := Ideal) (ix4 b g p k) = if k.val / 64 ≤ p.val / 64 then 1#1 else 0#1 := by
  rw [val_main_call0_v1_apply, val_main_v25_apply, val_main_v24_apply, val_main_v22_apply, val_main_v23_apply, val_main_v20_apply, val_main_v21_apply]
  have hk := chunk_apply k
  have hp := chunk_apply p
  have ik : idx_main_v20 (idx_main_v22 (idx_main_v25 (idx_main_call0_v1 (ix4 b g p k)))) = ix1 k := funext fun a => by match a with | ⟨0, _⟩ => rfl
  have ip : idx_main_v21 (idx_main_v23 (idx_main_v25 (idx_main_call0_v1 (ix4 b g p k)))) = ix1 p := funext fun a => by match a with | ⟨0, _⟩ => rfl
  rw [ik, ip, hk, hp]
  exact chunk_le ⟨k.val / 64, by omega⟩ ⟨p.val / 64, by omega⟩

/-- The constant that makes the scores natural. -/
theorem ln2_apply (i : S8x8x8192x8192.Idx) : val_main_v16 (F := Ideal) i = ((Real.log 2 : ℝ) : EReal) := by
  rw [val_main_v16_apply, val_main_v15_apply, val_main_cst_apply, Ideal.hostUnary_log_def]
  show Ideal.log (Ideal.ofBits .f32 0x40000000#32) = _
  rw [show Ideal.ofBits .f32 0x40000000#32 = ((2 : ℝ) : EReal) from by simp [Ideal.ofBits, Ideal.ieee, -EReal.coe_mul]; norm_num, Ideal.log_coe, if_neg (by norm_num)]

/-- The masked natural scores. -/
theorem scores_apply (b g : Fin 8) (p k : Fin 8192) :
    val_main_v26 (F := Ideal) x0 x1 (ix4 b g p k) = headMasked x0 x1 b g p k.val * ((Real.log 2 : ℝ) : EReal) := by
  have hs : val_main_v14 (F := Ideal) x0 x1 (ix4 b g p k) = headScore x0 x1 b g p k.val := by
    rw [val_main_v14_apply]
    refine Finset.sum_congr rfl fun d _ => ?_
    have il : lidx_main_v14 (ix4 b g p k) d = ix4 b g p d := funext fun a => by match a with | ⟨0, _⟩ => rfl | ⟨1, _⟩ => rfl | ⟨2, _⟩ => rfl | ⟨3, _⟩ => rfl
    have ir : ridx_main_v14 (ix4 b g p k) d = ix4 b g k d := funext fun a => by match a with | ⟨0, _⟩ => rfl | ⟨1, _⟩ => rfl | ⟨2, _⟩ => rfl | ⟨3, _⟩ => rfl
    rw [il, ir, queries_apply, keys_apply, mul_comm]
    have hk : k = ⟨k.val % 8192, by omega⟩ := Fin.ext (by show k.val = k.val % 8192; omega)
    exact congrArg (fun z => x1 (ix4 b _ z _) * _) hk
  have hb : val_main_call0_v2 (F := Ideal) (ix4 b g p k) = (⊥ : EReal) := by
    rw [val_main_call0_v2_apply, val_main_call0_v0_apply, val_main_cst_0_apply]
    show Ideal.ofBits .f32 0xFF800000#32 = ⊥
    simp [Ideal.ofBits, Ideal.ieee]
  rw [val_main_v26_apply, mask_apply, val_main_v17_apply, hs, hb, ln2_apply]
  unfold headMasked
  by_cases hv : k.val / 64 ≤ p.val / 64
  · rw [if_pos hv, if_pos hv]; rfl
  · rw [if_neg hv, if_neg hv]
    exact (EReal.bot_mul_coe_of_pos (Real.log_pos (by norm_num))).symm

/-- The largest entry along the last axis. -/
theorem max_apply (y : FVec Ideal S8x8x8192x8192 .f32) (s : ℕ → EReal) (b g : Fin 8) (p : Fin 8192) (hs : ∀ k : Fin 8192, y (ix4 b g p k) = s k.val) :
    Host.reduce FloatOps.maximumf y (val_main_cst_1 (F := Ideal)) reducesTo_S8x8x8192x8192_S8x8x8192_d3 h_S_ (ix3 b g p) = (Finset.range 8192).sup s := by
  unfold val_main_cst_1
  rw [hostReduce_maximumf_eq_multiReduction y 0xFF800000#32 _ _ (by decide) (by decide) (by decide), Ideal.multiReduction_maximumf_single]
  have hf : (y ∘ Shape.Reduces.lift (by decide : S8x8x8192x8192.Reduces [3] S8x8x8192) (ix3 b g p)) = fun k : Fin 8192 => s k.val := funext fun k => by
    refine Eq.trans (congrArg y (funext fun a => Fin.ext ?_)) (hs k)
    match a with
    | ⟨0, _⟩ => rfl
    | ⟨1, _⟩ => rfl
    | ⟨2, _⟩ => rfl
    | ⟨3, _⟩ => rfl
  rw [show FloatOps.ofBits (F := Ideal) .f32 0xFF800000#32 = (⊥ : EReal) from by show Ideal.ofBits .f32 0xFF800000#32 = _; simp [Ideal.ofBits, Ideal.ieee]]
  refine Eq.trans (congrArg (Finset.univ.fold max (⊥ : EReal)) hf) ?_
  show (Finset.univ.sup fun k : Fin 8192 => s k.val) = _
  refine le_antisymm (Finset.sup_le fun k _ => Finset.le_sup (f := s) (Finset.mem_range.mpr k.isLt)) (Finset.sup_le fun k hk => ?_)
  exact Finset.le_sup (f := fun k : Fin 8192 => s k.val) (Finset.mem_univ ⟨k, Finset.mem_range.mp hk⟩)

/-- The largest natural score of a query. -/
theorem top_apply (b g : Fin 8) (p : Fin 8192) :
    val_main_v29 (F := Ideal) x0 x1 (ix3 b g p) = (Finset.range 8192).sup (headMasked x0 x1 b g p) * ((Real.log 2 : ℝ) : EReal) := by
  rw [val_main_v29_apply, val_main_v28_apply, val_main_cst_2_apply]
  have h := max_apply (val_main_v26 (F := Ideal) x0 x1) (fun k => headMasked x0 x1 b g p k * ((Real.log 2 : ℝ) : EReal)) b g p (scores_apply x0 x1 b g p)
  rw [sup_ln2] at h
  refine Eq.trans (congrArg (fun z => max (Ideal.ofBits .f32 0xFF800000#32) z) h) ?_
  rw [show Ideal.ofBits .f32 0xFF800000#32 = (⊥ : EReal) from by simp [Ideal.ofBits, Ideal.ieee]]
  exact max_eq_right bot_le

/-- A weight before the division. -/
theorem weight_apply (b g : Fin 8) (p k : Fin 8192) :
    val_main_v33 (F := Ideal) x0 x1 (ix4 b g p k)
      = Ideal.exp (headMasked x0 x1 b g p k.val * ((Real.log 2 : ℝ) : EReal)
          - (Finset.range 8192).sup (headMasked x0 x1 b g p) * ((Real.log 2 : ℝ) : EReal)) := by
  have i : idx_main_v30 (idx_main_v31 (ix4 b g p k)) = ix3 b g p := funext fun a => by match a with | ⟨0, _⟩ => rfl | ⟨1, _⟩ => rfl | ⟨2, _⟩ => rfl
  rw [val_main_v33_apply, val_main_v32_apply, val_main_v31_apply, val_main_v30_apply, i, top_apply, scores_apply]; rfl

/-- The sum of a query's weights. -/
theorem total_apply (b g : Fin 8) (p : Fin 8192) :
    val_main_v34 (F := Ideal) x0 x1 (ix3 b g p)
      = ∑ k ∈ Finset.range 8192, Ideal.exp (headMasked x0 x1 b g p k * ((Real.log 2 : ℝ) : EReal)
          - (Finset.range 8192).sup (headMasked x0 x1 b g p) * ((Real.log 2 : ℝ) : EReal)) := by
  rw [val_main_v34_apply, val_main_cst_3_apply, Finset.sum_range]
  rw [show FloatOps.ofBits (F := Ideal) .f32 0x00000000#32 = (0 : EReal) from Ideal.ofBits_zero_f32, zero_add]
  refine Finset.sum_congr rfl fun k _ => ?_
  have i : idx_main_v34 (ix3 b g p) k = ix4 b g p k := funext fun a => by match a with | ⟨0, _⟩ => rfl | ⟨1, _⟩ => rfl | ⟨2, _⟩ => rfl | ⟨3, _⟩ => rfl
  rw [i, weight_apply]

/-- The result of a head. -/
theorem head_apply (h : Sound x0 x1 x2) (b g : Fin 8) (p : Fin 8192) (d : Fin 64) :
    val_main_v38 (F := Ideal) x0 x1 x2 (ix4 b g p d) = attend (headMasked x0 x1 b g p) (headValue x2 b g) 8192 ⟨d.val, by omega⟩ := by
  rw [val_main_v38_apply, ← softmax_attend _ _ _ _ (h.masked_ne_top b g p) ⟨p.val, p.isLt, h.own b g p⟩, Finset.sum_range]
  refine Finset.sum_congr rfl fun k _ => ?_
  have il : lidx_main_v38 (ix4 b g p d) k = ix4 b g p k := funext fun a => by match a with | ⟨0, _⟩ => rfl | ⟨1, _⟩ => rfl | ⟨2, _⟩ => rfl | ⟨3, _⟩ => rfl
  have ir : ridx_main_v38 (ix4 b g p d) k = ix4 b g k d := funext fun a => by match a with | ⟨0, _⟩ => rfl | ⟨1, _⟩ => rfl | ⟨2, _⟩ => rfl | ⟨3, _⟩ => rfl
  have i : idx_main_v35 (idx_main_v36 (ix4 b g p k)) = ix3 b g p := funext fun a => by match a with | ⟨0, _⟩ => rfl | ⟨1, _⟩ => rfl | ⟨2, _⟩ => rfl
  rw [il, ir, values_apply, val_main_v37_apply, val_main_v36_apply, val_main_v35_apply, i, weight_apply, total_apply]; rfl

/-- The reference's result. -/
theorem result_eq (h : Sound x0 x1 x2) : val_main_v40 (F := Ideal) x0 x1 x2 = attention x0 x1 x2 := by
  funext i
  obtain ⟨b, p, e, rfl⟩ : ∃ (b : Fin 8) (p : Fin 8192) (e : Fin 512), i = ix3 b p e := ⟨i 0, i 1, i 2, eq_ix3 i⟩
  have hi : idx_main_v39 (idx_main_v40 (ix3 b p e)) = ix4 b ⟨e.val / 64, by omega⟩ p ⟨e.val % 64, by omega⟩ := funext fun a => Fin.ext (by
    match a with
    | ⟨0, _⟩ => show ((b.val * 8192 + p.val) * 512 + e.val) / 4194304 = b.val; omega
    | ⟨1, _⟩ => show ((b.val * 8192 + p.val) * 512 + e.val) / 64 % 8 = e.val / 64; omega
    | ⟨2, _⟩ => show ((b.val * 8192 + p.val) * 512 + e.val) / 512 % 8192 = p.val; omega
    | ⟨3, _⟩ => show ((b.val * 8192 + p.val) * 512 + e.val) % 64 = e.val % 64; omega)
  rw [val_main_v40_apply, val_main_v39_apply, hi, head_apply x0 x1 x2 h]; rfl

end Cert.AttnRefIdeal.Rows

end
-- ==== Proof.AttnIdealValue.lean ====
/- The attention kernel: its result array equals the reference's, entry for entry. -/
module

public import proofs.«01_k».proof.Defs
public import proofs.«01_k».proof.Proof.AttnIdealFrame
public import proofs.«01_k».proof.Proof.AttnReference
public import proofs.«01_k».proof.Proof.Gen.AttnRefIdeal.Run
public import proofs.«01_k».proof.Proof.Gen.Pre_attn_inputs
public import Idealize.ShloMosaic.Lib.Pipeline.ValueKit.Geometry

@[expose] public section

noncomputable section

namespace Cert.AttnIdeal.Body

open Cert.AttnIdeal Cert.AttnIdeal.Gen Cert.AttnSpec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The blocks of a point: its batch, its pair of heads, and for the queries and the result its block of 512 positions. -/
theorem index_eq : ∀ t : Fin cfg0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, 0, (grid0.coords t 1).val, 0]
    ∧ win0_3.index t = ![(grid0.coords t 0).val, (grid0.coords t 2).val, (grid0.coords t 1).val] :=
  (by decide +kernel : ∀ t : Fin grid0.N, _)

/-- A point's batch, pair and block of positions. -/
theorem coords_lt (t : Fin cfg0.N) : (grid0.coords t 0).val < 8 ∧ (grid0.coords t 1).val < 4 ∧ (grid0.coords t 2).val < 16 :=
  ⟨(grid0.coords t 0).isLt, (grid0.coords t 1).isLt, (grid0.coords t 2).isLt⟩

/-- The queries of a point. -/
theorem queries_block (c : Dev nD) (t : Fin cfg0.N) (b : Fin 8) (j : Fin 4) (hb : b.val = (grid0.coords t 0).val) (hj : j.val = (grid0.coords t 1).val)
    (q : Fin 512) (e : Fin 256) (p : Fin 8192) (hp : p.val = 512 * (grid0.coords t 2).val + q.val) :
    iblk m c 0 t (ix4 0 0 q e) = m ((c : Thread nD τ).loc main_arg0) (ix4 b j p e) := by
  obtain ⟨e0, _, _, _⟩ := index_eq t
  rw [← congrFun (V_main_arg0 m c) (ix4 b j p e)]
  blk_simp [iblk]
  refine congrArg (V m c main_arg0) (funext fun a => Fin.ext ?_)
  match a with
  | ⟨0, _⟩ => blk_simp [e0]; exact hb.symm
  | ⟨1, _⟩ => blk_simp [e0]; exact hj.symm
  | ⟨2, _⟩ => blk_simp [e0]; show (grid0.coords t 2).val * 512 + q.val = p.val; omega
  | ⟨3, _⟩ => blk_simp [e0]

/-- The keys of a point. -/
theorem keys_block (c : Dev nD) (t : Fin cfg0.N) (b : Fin 8) (j : Fin 4) (hb : b.val = (grid0.coords t 0).val) (hj : j.val = (grid0.coords t 1).val)
    (k : Fin 8192) (e : Fin 256) :
    iblk m c 1 t (ix4 0 0 k e) = m ((c : Thread nD τ).loc main_arg1) (ix4 b j k e) := by
  obtain ⟨_, e1, _, _⟩ := index_eq t
  rw [← congrFun (V_main_arg1 m c) (ix4 b j k e)]
  blk_simp [iblk]
  refine congrArg (V m c main_arg1) (funext fun a => Fin.ext ?_)
  match a with
  | ⟨0, _⟩ => blk_simp [e1]; exact hb.symm
  | ⟨1, _⟩ => blk_simp [e1]; exact hj.symm
  | ⟨2, _⟩ => blk_simp [e1]
  | ⟨3, _⟩ => blk_simp [e1]

/-- The values of a point. -/
theorem values_block (c : Dev nD) (t : Fin cfg0.N) (b : Fin 8) (hb : b.val = (grid0.coords t 0).val) (n : Fin 16) (e : Fin 256) (r : Fin 512)
    (f : Fin 1024) (hf : f.val = 256 * (grid0.coords t 1).val + e.val) :
    iblk m c 2 t (ix4 0 n e r) = m ((c : Thread nD τ).loc main_arg2) (ix4 b n f r) := by
  obtain ⟨_, _, e2, _⟩ := index_eq t
  rw [← congrFun (V_main_arg2 m c) (ix4 b n f r)]
  blk_simp [iblk]
  refine congrArg (V m c main_arg2) (funext fun a => Fin.ext ?_)
  match a with
  | ⟨0, _⟩ => blk_simp [e2]; exact hb.symm
  | ⟨1, _⟩ => blk_simp [e2]
  | ⟨2, _⟩ => blk_simp [e2]; show (grid0.coords t 1).val * 256 + e.val = f.val; omega
  | ⟨3, _⟩ => blk_simp [e2]

/-- A score of a point is a score of the arrays. -/
theorem score_block (c : Dev nD) (t : Fin cfg0.N) (b g : Fin 8) (hb : b.val = (grid0.coords t 0).val) (h : Fin 2) (hg : g.val = 2 * (grid0.coords t 1).val + h.val)
    (q : Fin 512) (p : Fin 8192) (hp : p.val = 512 * (grid0.coords t 2).val + q.val) (k : ℕ) :
    score (iblk m c 0 t) (iblk m c 1 t) h q k
      = headScore (m ((c : Thread nD τ).loc main_arg0)) (m ((c : Thread nD τ).loc main_arg1)) b g p k := by
  unfold score headScore
  refine Finset.sum_congr rfl fun d _ => ?_
  rw [queries_block m c t b ⟨g.val / 2, by omega⟩ hb (by show g.val / 2 = _; omega) q _ p hp,
    keys_block m c t b ⟨g.val / 2, by omega⟩ hb (by show g.val / 2 = _; omega)]
  have he : (⟨128 * h.val + d.val, by omega⟩ : Fin 256) = ⟨128 * (g.val % 2) + d.val, by omega⟩ := Fin.ext (by
    show 128 * h.val + d.val = 128 * (g.val % 2) + d.val; omega)
  rw [he]

/-- A value of a point is a value of the arrays. -/
theorem value_block (c : Dev nD) (t : Fin cfg0.N) (b g : Fin 8) (hb : b.val = (grid0.coords t 0).val) (h : Fin 2) (hg : g.val = 2 * (grid0.coords t 1).val + h.val)
    (k : ℕ) (d : Fin 128) :
    value (iblk m c 2 t) h k d = headValue (m ((c : Thread nD τ).loc main_arg2)) b g k d := by
  unfold value headValue
  exact values_block m c t b hb _ _ _ _ (by show 128 * g.val + d.val = 256 * _ + (128 * h.val + d.val); omega)

/-- The blocks of sound arguments are fine. -/
theorem fine (c : Dev nD) (h : Sound (m ((c : Thread nD τ).loc main_arg0)) (m ((c : Thread nD τ).loc main_arg1)) (m ((c : Thread nD τ).loc main_arg2))) (t : Fin cfg0.N) :
    Fine (iblk m c 0 t) (iblk m c 1 t) (iblk m c 2 t) := by
  obtain ⟨h0, h1, h2⟩ := coords_lt t
  have hs : ∀ (a : Fin 2) (q : Fin 512) (k : ℕ), score (iblk m c 0 t) (iblk m c 1 t) a q k ≠ ⊤ ∧ score (iblk m c 0 t) (iblk m c 1 t) a q k ≠ ⊥ := fun a q k => by
    rw [score_block m c t ⟨_, h0⟩ ⟨2 * (grid0.coords t 1).val + a.val, by omega⟩ rfl a rfl q ⟨512 * (grid0.coords t 2).val + q.val, by omega⟩ rfl k]
    exact h.score _ _ _ _
  refine ⟨fun a q k => (hs a q k).1, fun a q k => (hs a q k).2, fun a k => ?_⟩
  rw [value_block m c t ⟨_, h0⟩ ⟨2 * (grid0.coords t 1).val + a.val, by omega⟩ rfl a rfl]
  exact h.ones _ _ _ _

/-- A point's result is its block of the array's. -/
theorem result_block (c : Dev nD) (t : Fin cfg0.N) (q : Fin 512) (e : Fin 128) (b : Fin 8) (p : Fin 8192) (f : Fin 512)
    (hb : b.val = (grid0.coords t 0).val) (hp : p.val = 512 * (grid0.coords t 2).val + q.val) (hf : f.val = 128 * (grid0.coords t 1).val + e.val) :
    result (iblk m c 0 t) (iblk m c 1 t) (iblk m c 2 t) (grid0.coords t 2).val (ix3 0 q e)
      = attention (m ((c : Thread nD τ).loc main_arg0)) (m ((c : Thread nD τ).loc main_arg1)) (m ((c : Thread nD τ).loc main_arg2)) (ix3 b p f) := by
  obtain ⟨l0, l1, l2⟩ := coords_lt t
  have hg : f.val / 64 = 2 * (grid0.coords t 1).val + e.val / 64 := by omega
  have hv : value (iblk m c 2 t) ⟨e.val / 64, by omega⟩ = headValue (m ((c : Thread nD τ).loc main_arg2)) b ⟨f.val / 64, by omega⟩ :=
    funext fun k => funext fun d => value_block m c t b _ hb _ hg k d
  have hm : masked (iblk m c 0 t) (iblk m c 1 t) (grid0.coords t 2).val ⟨e.val / 64, by omega⟩ q
      = headMasked (m ((c : Thread nD τ).loc main_arg0)) (m ((c : Thread nD τ).loc main_arg1)) b ⟨f.val / 64, by omega⟩ p := funext fun k => by
    unfold masked headMasked
    rw [score_block m c t b ⟨f.val / 64, by omega⟩ hb ⟨e.val / 64, by omega⟩ hg q p hp k, hp]
  show attend (masked (iblk m c 0 t) (iblk m c 1 t) (grid0.coords t 2).val ⟨e.val / 64, _⟩ q) (value (iblk m c 2 t) ⟨e.val / 64, _⟩)
      (512 * ((grid0.coords t 2).val + 1)) ⟨e.val % 64, _⟩
    = attend (headMasked _ _ b ⟨f.val / 64, _⟩ p) (headValue _ b ⟨f.val / 64, _⟩) 8192 ⟨f.val % 64, _⟩
  rw [hv, hm, attend_extend _ _ (512 * ((grid0.coords t 2).val + 1)) (8192 - 512 * ((grid0.coords t 2).val + 1)) (fun r _ => by
    unfold headMasked; rw [if_neg (by omega)])]
  rw [show 512 * ((grid0.coords t 2).val + 1) + (8192 - 512 * ((grid0.coords t 2).val + 1)) = 8192 by omega]
  exact congrArg _ (Fin.ext (by show e.val % 64 = f.val % 64; omega))

/-- The result array after the run. -/
theorem final (c : Dev nD) :
    (dats m 0 c).arrAt 3 cfg0.N
      = attention (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after_3]
  obtain ⟨_, _, _, e3⟩ := index_eq t
  have hy := eq_ix3 (n0 := 1) (n1 := 512) (n2 := 128) y
  have h0 : (((win0_3.blk t).view.emb y 0 : Fin 8) : Nat) = (grid0.coords t 0).val := by
    have hz : (y 0 : Nat) < 1 := (y 0).isLt
    blk_simp [e3]
  have h1 : (((win0_3.blk t).view.emb y 1 : Fin 8192) : Nat) = 512 * (grid0.coords t 2).val + (y 1 : Nat) := by blk_simp [e3]; omega
  have h2 : (((win0_3.blk t).view.emb y 2 : Fin 512) : Nat) = 128 * (grid0.coords t 1).val + (y 2 : Nat) := by blk_simp [e3]; omega
  have hz : y 0 = (0 : Fin 1) := Subsingleton.elim (α := Fin 1) _ _
  rw [hz] at hy
  refine (congrArg _ hy).trans ((result_block m c t (y 1) (y 2) _ _ _ h0 h1 h2).trans ?_)
  exact congrArg _ (eq_ix3 (n0 := 8) (n1 := 8192) (n2 := 512) _).symm

end Cert.AttnIdeal.Body

namespace Cert.Proof

open Cert.AttnSpec Idealize.ShloMosaic Idealize.ShloMosaic.TcCoe Idealize.ShloMosaic.ValueIdx Idealize.SL.Sem

/-- A number whose absolute value compares below `+∞` is a real number. -/
theorem real_of_abs_lt (x : EReal) (h : Ideal.cmp .olt (max x (-x)) (Ideal.ofBits .f32 0x7F800000#32) = 1#1) : x ≠ ⊤ ∧ x ≠ ⊥ := by
  rw [show Ideal.ofBits .f32 0x7F800000#32 = (⊤ : EReal) from by simp [Ideal.ofBits, Ideal.ieee]] at h
  constructor
  · rintro rfl; revert h; simp [Ideal.cmp]
  · rintro rfl; revert h; simp [Ideal.cmp]

/-- A number that compares equal to one is one. -/
theorem one_of_eq (x : EReal) (h : Ideal.cmp .oeq x (Ideal.ofBits .f32 0x3F800000#32) = 1#1) : x = 1 := by
  rw [show Ideal.ofBits .f32 0x3F800000#32 = (1 : EReal) from by simp [Ideal.ofBits, Ideal.ieee, -EReal.coe_mul]; norm_num] at h
  by_contra hx
  revert h; simp [Ideal.cmp, hx]

open Cert.Pre_attn_inputs Cert.Pre_attn_inputs.Facts in
/-- The precondition, entry for entry. -/
theorem sound (x0 x1 : FVec Ideal S8x4x8192x256 .bf16) (x2 : FVec Ideal S8x16x1024x512 .bf16)
    (h0 : (Cert.Pre_attn_inputs.fn (F := Ideal) x0 x1 x2).1 = fun _ => 1#1) (h1 : (Cert.Pre_attn_inputs.fn (F := Ideal) x0 x1 x2).2.1 = fun _ => 1#1)
    (h2 : (Cert.Pre_attn_inputs.fn (F := Ideal) x0 x1 x2).2.2 = fun _ => 1#1) : Sound x0 x1 x2 where
  queries i := real_of_abs_lt _ (congrFun h0 i)
  keys i := real_of_abs_lt _ (congrFun h1 i)
  ones b t g r := by
    have h := one_of_eq _ (congrFun h2 (ix4 b t g r))
    refine Eq.trans ?_ h
    rw [shapeCast_apply (s := S8x16x8x1x512) (t := S8x16x8x512) _ _ (ix4 b t g r) (ix5 b t g 0 r) (by
      rw [Shape.rowMajor_val_five, Shape.rowMajor_val_four]
      show (((b.val * 16 + t.val) * 8 + g.val) * 1 + 0) * 512 + r.val = ((b.val * 16 + t.val) * 8 + g.val) * 512 + r.val; omega)]
    beta_reduce
    rw [extractStridedSlice_apply (s := S8x16x8x128x512) (t := S8x16x8x1x512) ![0, 0, 0, 64, 0] _ _ (ix5 b t g 0 r) (ix5 b t g ⟨64, by omega⟩ r) (fun a => by
      match a with
      | ⟨0, _⟩ => exact (Nat.zero_add _).symm
      | ⟨1, _⟩ => exact (Nat.zero_add _).symm
      | ⟨2, _⟩ => exact (Nat.zero_add _).symm
      | ⟨3, _⟩ => rfl
      | ⟨4, _⟩ => exact (Nat.zero_add _).symm)]
    rw [shapeCast_apply (s := S8x16x1024x512) (t := S8x16x8x128x512) _ _ (ix5 b t g ⟨64, by omega⟩ r) (ix4 b t ⟨128 * g.val + 64, by omega⟩ r) (by
      rw [Shape.rowMajor_val_five, Shape.rowMajor_val_four]
      show ((b.val * 16 + t.val) * 1024 + (128 * g.val + 64)) * 512 + r.val = (((b.val * 16 + t.val) * 8 + g.val) * 128 + 64) * 512 + r.val; omega)]
    rfl

/-- The attention kernel computes the reference's result. -/
theorem attn_value : Cert.algebraic_AttnIdeal_AttnRefIdeal_pre_attn_inputs := by
  intro m ρ m' ρ' hpre hargs
  have hs : ∀ c : Dev Cert.AttnIdeal.nD, Sound (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2)) := fun c => sound _ _ _ (hpre c).1 (hpre c).2.1 (hpre c).2.2
  refine ⟨fun c => attention (m ((c.tc : Thread Cert.AttnIdeal.nD Cert.AttnIdeal.τ).loc Cert.AttnIdeal.main_arg0))
      (m ((c.tc : Thread Cert.AttnIdeal.nD Cert.AttnIdeal.τ).loc Cert.AttnIdeal.main_arg1))
      (m ((c.tc : Thread Cert.AttnIdeal.nD Cert.AttnIdeal.τ).loc Cert.AttnIdeal.main_arg2)), ?_, ?_⟩
  · exact (θ_run Cert.AttnIdeal.defs _ _).mono (fun r h c => ⟨(h c).1.trans (Cert.AttnIdeal.Body.final m c), (h c).2⟩)
      (Cert.AttnIdeal.Body.run_fine m ρ fun c => Cert.AttnIdeal.Body.fine m c (hs c))
  · refine (θ_run Cert.AttnRefIdeal.defs _ _).mono (fun r h c => ⟨(h c).1.trans ?_, (h c).2⟩) (Cert.AttnRefIdeal.Value.run m' ρ')
    obtain ⟨a0, a1, a2⟩ := hargs c
    rw [Cert.AttnRefIdeal.Read.val_main_v40_eq, a0, a1, a2]
    exact Cert.AttnRefIdeal.Rows.result_eq _ _ _ (hs c)

end Cert.Proof

end
-- ==== Proof.ProjSpec.lean ====
/- The arithmetic of one row of the input projection, over the extended reals: the cached latent, the cached rotated key and
   the state-space input. Both the kernel and the reference are read to the functions below, so that the two meet there. -/
module

public import proofs.«01_k».proof.Proof.PostSpec
public import proofs.«01_k».proof.Proof.AttnArray
public import Idealize.ShloMosaic.Lib.Pointwise.SelectCore

@[expose] public section

noncomputable section

namespace Cert.ProjSpec

open Idealize.ShloMosaic hiding ix2
open Idealize.ShloMosaic.ValueIdx Cert.PostSpec Cert.AttnSpec

/-- 256 as a float. -/
def c256 : EReal := Ideal.ofBits .f32 0x43800000#32

/-- Column `d` of the combined projection of a row: the normalised row times the column. -/
def project (x g : Fin 1024 → EReal) (w : Fin 1024 → Fin 1568 → EReal) (d : Fin 1568) : EReal :=
  ∑ k : Fin 1024, rms c1024 x g k * w k d

/-- The latent of a row: 256 columns of the projection, normalised. -/
def latent (x g : Fin 1024 → EReal) (w : Fin 1024 → Fin 1568 → EReal) (gl : Fin 256 → EReal) (d : Fin 256) : EReal :=
  rms c256 (fun e : Fin 256 => project x g w ⟨768 + e.val, by omega⟩) gl d

/-- The state-space input of a row: 512 columns of the projection. -/
def ssmInput (x g : Fin 1024 → EReal) (w : Fin 1024 → Fin 1568 → EReal) (d : Fin 512) : EReal :=
  project x g w ⟨1056 + d.val, by omega⟩

/-- The first half of the rotated key of a row, at the angles whose cosines and sines are `c` and `s`. -/
def keyFirst (x g : Fin 1024 → EReal) (w : Fin 1024 → Fin 1568 → EReal) (c s : Fin 16 → EReal) (d : Fin 16) : EReal :=
  project x g w ⟨1024 + d.val, by omega⟩ * c d - project x g w ⟨1040 + d.val, by omega⟩ * s d

/-- The second half of the rotated key. -/
def keySecond (x g : Fin 1024 → EReal) (w : Fin 1024 → Fin 1568 → EReal) (c s : Fin 16 → EReal) (d : Fin 16) : EReal :=
  project x g w ⟨1024 + d.val, by omega⟩ * s d + project x g w ⟨1040 + d.val, by omega⟩ * c d

/-- The rotated key of a row. -/
def key (x g : Fin 1024 → EReal) (w : Fin 1024 → Fin 1568 → EReal) (c s : Fin 16 → EReal) (d : Fin 32) : EReal :=
  if h : d.val < 16 then keyFirst x g w c s ⟨d.val, h⟩ else keySecond x g w c s ⟨d.val - 16, by omega⟩

/-- 1024 as a float is the number 1024. -/
theorem c1024_eq : c1024 = ((1024 : ℝ) : EReal) := by
  unfold c1024
  simp [Ideal.ofBits, Ideal.ieee, -EReal.coe_mul]; norm_num

/-- The constant added under the root is a positive number. -/
theorem eps_pos : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A square is not negative. -/
theorem square_nonneg (x : EReal) : 0 ≤ x * x := by
  induction x with
  | bot => simp
  | top => simp
  | coe r => rw [← EReal.coe_mul]; exact EReal.coe_nonneg.mpr (mul_self_nonneg r)

/-- A number whose square is not `+∞` is a real number. -/
theorem real_of_square (x : EReal) (h : x * x ≠ ⊤) : ∃ r : ℝ, x = (r : EReal) := by
  induction x with
  | bot => exact absurd (by simp) h
  | top => exact absurd (by simp) h
  | coe r => exact ⟨r, rfl⟩

/-- A normalised row is real wherever its weight is, whatever the row: a row with an infinite entry is normalised to zero. -/
theorem rms_real (x g : Fin 1024 → EReal) (k : Fin 1024) (hg : g k ≠ ⊤ ∧ g k ≠ ⊥) : rms c1024 x g k ≠ ⊤ ∧ rms c1024 x g k ≠ ⊥ := by
  obtain ⟨e, he, hE⟩ := eps_pos
  have hS : 0 ≤ ∑ j : Fin 1024, x j * x j := Finset.sum_nonneg fun j _ => square_nonneg (x j)
  have hk : x k * x k ≤ ∑ j : Fin 1024, x j * x j :=
    Finset.single_le_sum (f := fun j => x j * x j) (fun j _ => square_nonneg (x j)) (Finset.mem_univ k)
  have hd (S : EReal) : Ideal.div S c1024 = S * (((1024 : ℝ)⁻¹ : ℝ) : EReal) := by
    rw [c1024_eq]
    unfold Ideal.div
    rw [if_neg (by exact_mod_cast (by norm_num : (1024 : ℝ) ≠ 0)), EReal.coe_inv]
  obtain ⟨y, hy⟩ : ∃ y : ℝ, g k = (y : EReal) := ⟨_, (EReal.coe_toReal hg.1 hg.2).symm⟩
  unfold rms
  rw [hd, hE, hy]
  generalize (∑ j : Fin 1024, x j * x j) = S at hS hk ⊢
  induction S with
  | bot => exact absurd hS (by simp)
  | top =>
    rw [EReal.top_mul_coe_of_pos (by norm_num), EReal.top_add_coe, Ideal.rsqrt_top, mul_zero, zero_mul]
    exact ⟨EReal.zero_ne_top, EReal.zero_ne_bot⟩
  | coe s =>
    obtain ⟨r, hr⟩ := real_of_square (x k) (ne_top_of_le_ne_top (EReal.coe_ne_top s) hk)
    have hs : 0 ≤ s := EReal.coe_nonneg.mp hS
    have hp : 0 < s * (1024 : ℝ)⁻¹ + e := by positivity
    rw [hr, ← EReal.coe_mul, ← EReal.coe_add, Ideal.rsqrt_coe, if_neg (not_lt.mpr hp.le), if_neg hp.ne', ← EReal.coe_mul, ← EReal.coe_mul]
    exact ⟨EReal.coe_ne_top _, EReal.coe_ne_bot _⟩

/-- Negated weights give the negated sum, when the numbers are real. -/
theorem sum_mul_neg {ι : Type} (t : Finset ι) (f g : ι → EReal) (hf : ∀ k, f k ≠ ⊤ ∧ f k ≠ ⊥) (hg : ∀ k, g k ≠ ⊤ ∧ g k ≠ ⊥) :
    ∑ k ∈ t, f k * -g k = -∑ k ∈ t, f k * g k := by
  classical
  induction t using Finset.induction_on with
  | empty => simp
  | insert a t ha ih =>
    have h := sum_mul_real {a} f g hf hg
    rw [Finset.sum_singleton] at h
    rw [Finset.sum_insert ha, Finset.sum_insert ha, ih, EReal.neg_add (.inl h.2) (.inl h.1), mul_neg, sub_eq_add_neg]

/-- The first half of the rotated key, by negated weights: what the kernel adds is what the reference subtracts. -/
theorem keyFirst_eq (x g : Fin 1024 → EReal) (w : Fin 1024 → Fin 1568 → EReal) (c s : Fin 16 → EReal) (d : Fin 16)
    (hg : ∀ k, g k ≠ ⊤ ∧ g k ≠ ⊥) (hw : ∀ k, w k ⟨1040 + d.val, by omega⟩ ≠ ⊤ ∧ w k ⟨1040 + d.val, by omega⟩ ≠ ⊥) :
    project x g w ⟨1024 + d.val, by omega⟩ * c d + (∑ k : Fin 1024, rms c1024 x g k * -w k ⟨1040 + d.val, by omega⟩) * s d
      = keyFirst x g w c s d := by
  rw [sum_mul_neg _ _ _ (fun k => rms_real x g k (hg k)) hw]
  unfold keyFirst
  rw [sub_eq_add_neg, EReal.neg_mul]
  rfl

section Concatenation

variable {α : Type}

/-- Past its first part, a concatenation reads the rest. -/
theorem concatenateAt_tail {t : Shape} (a : Fin t.rank) (j : t.Idx) (p : (s : Shape) × (s.Idx → α)) (l : List ((s : Shape) × (s.Idx → α)))
    (hl : l ≠ []) (hs : ∀ s ∈ (p :: l).map (·.1), s.FitsOff t a) (c : Nat) (hc : c < (axisSizes t a (p :: l)).sum)
    (hge : p.1.size (a.cast (hs p.1 List.mem_cons_self).rank_eq.symm) ≤ c) :
    ∃ hc', concatenateAt t a j (p :: l) hs c hc
      = concatenateAt t a j l (fun s h => hs s (List.mem_cons_of_mem _ h)) (c - p.1.size (a.cast (hs p.1 List.mem_cons_self).rank_eq.symm)) hc' := by
  cases l with
  | nil => exact absurd rfl hl
  | cons q xs =>
    refine ⟨?_, ?_⟩
    · rw [axisSizes_cons t a p (q :: xs) (hs p.1 List.mem_cons_self), List.sum_cons] at hc; omega
    · rw [concatenateAt, dif_neg (by omega)]

/-- A part of a concatenation along the columns, read at an entry: `pre` are the parts before it. -/
theorem concatenateAt_part {m N n : Nat} (x : (⟨2, ![m, n]⟩ : Shape).Idx → α) (post : List ((s : Shape) × (s.Idx → α))) (r : Fin m) (d : Fin n)
    (j : (⟨2, ![m, N]⟩ : Shape).Idx) (hj : (j 0).val = r.val) :
    ∀ (pre : List ((s : Shape) × (s.Idx → α))) (hs : ∀ s ∈ (pre ++ ⟨⟨2, ![m, n]⟩, x⟩ :: post).map (·.1), s.FitsOff ⟨2, ![m, N]⟩ 1) (c : Nat)
      (hc : c < (axisSizes ⟨2, ![m, N]⟩ 1 (pre ++ ⟨⟨2, ![m, n]⟩, x⟩ :: post)).sum), c = (axisSizes ⟨2, ![m, N]⟩ 1 pre).sum + d.val →
      concatenateAt ⟨2, ![m, N]⟩ 1 j (pre ++ ⟨⟨2, ![m, n]⟩, x⟩ :: post) hs c hc = x (ix2 r d)
  | [], hs, c, hc, h => by
    have hc0 : c = d.val := by simpa [axisSizes] using h
    subst hc0
    have e : ∀ (H : ∀ b : Fin 2, (if b.val = 1 then d.val else (j (b.cast rfl)).val) < (⟨2, ![m, n]⟩ : Shape).size b),
        x (Shape.Idx.norm fun b => ⟨if b.val = 1 then d.val else (j (b.cast rfl)).val, H b⟩) = x (ix2 r d) := fun H => by
      rw [Shape.Idx.norm_def]
      refine congrArg x (funext fun b => Fin.ext ?_)
      match b with
      | ⟨0, _⟩ => exact hj
      | ⟨1, _⟩ => rfl
    cases post with
    | nil => exact (concatenateAt_singleton (t := ⟨2, ![m, N]⟩) (s := ⟨2, ![m, n]⟩) 1 j x _ _ _).trans (e _)
    | cons q xs =>
      exact (concatenateAt_cons (t := ⟨2, ![m, N]⟩) (s := ⟨2, ![m, n]⟩) 1 j x q xs _ _ _).trans
        ((dif_pos (show d.val < n from d.isLt)).trans (e _))
  | p :: pre, hs, c, hc, h => by
    have hp := hs p.1 List.mem_cons_self
    rw [axisSizes_cons _ _ p pre hp, List.sum_cons] at h
    obtain ⟨hc', e⟩ := concatenateAt_tail (t := ⟨2, ![m, N]⟩) 1 j p (pre ++ ⟨⟨2, ![m, n]⟩, x⟩ :: post) (by simp) hs c hc (by omega)
    refine Eq.trans e (concatenateAt_part x post r d j hj pre _ _ _ (by omega))

/-- A part of a concatenation along the columns, read at an entry: the parts before it, `pre`, have `o` columns. -/
theorem concatenate_part {m N n : Nat} (pre post : List ((s : Shape) × (s.Idx → α))) (x : (⟨2, ![m, n]⟩ : Shape).Idx → α)
    (h : Shape.Concatenates ((pre ++ ⟨⟨2, ![m, n]⟩, x⟩ :: post).map (·.1)) ⟨2, ![m, N]⟩ 1) (r : Fin m) (d : Fin n) (o : Nat)
    (ho : (axisSizes ⟨2, ![m, N]⟩ 1 pre).sum = o) (hN : o + d.val < N) :
    concatenate ⟨2, ![m, N]⟩ 1 (pre ++ ⟨⟨2, ![m, n]⟩, x⟩ :: post) h (ix2 r ⟨o + d.val, hN⟩) = x (ix2 r d) :=
  (concatenate_apply _ _ _ _ _).trans (concatenateAt_part x post r d _ rfl pre _ _ _ (by rw [ho]; rfl))

end Concatenation

end Cert.ProjSpec

end
-- ==== Proof.ProjKernel.lean ====
/- What the kernel of the input projection leaves in the blocks of its latent, rotated-key and state-space results: row by
   row, from the rows of its input blocks and the weights as it receives them. -/
module

public import proofs.«01_k».proof.Proof.ProjSpec
public import proofs.«01_k».proof.Proof.Gen.ProjIdeal.Value

@[expose] public section

noncomputable section

namespace Cert.ProjIdeal.Rows

open Idealize.ShloMosaic hiding ix1 ix2 ix3
open Cert.ProjIdeal Cert.ProjIdeal.Gen Cert.PostSpec Cert.ProjSpec Idealize.ShloMosaic.TcCoe Idealize.ShloMosaic.ValueIdx Idealize.SL.Sem

theorem zeros : (![0, 0] : Fin 2 → Nat) = fun _ => 0 := funext fun a => by fin_cases a <;> rfl

/-- The projection with the kernel's rearranged matrix: column `d` of the product of a normalised row. -/
def wide (x g : Fin 1024 → EReal) (w : Fin 1024 → Fin 1792 → EReal) (d : Fin 1792) : EReal := ∑ k : Fin 1024, rms c1024 x g k * w k d

/-- The projected rows, read at an entry. -/
theorem pay4_apply (v0 : Vec Ideal S1024x1024 .f32) (v1 : Vec Ideal S1x1024 .f32) (v16 : Vec Ideal S1024x1792 .bf16) (r : Fin 1024) (d : Fin 1792) :
    k0_pay4 (F := Ideal) v0 v1 v16 (ix2 r d) = wide (fun k => v0 (ix2 r k)) (fun k => v1 (ix2 0 k)) (fun k e => v16 (ix2 k e)) d := by
  unfold k0_pay4
  simp only [shapeCast_self]
  show FloatOps.matmul (F := Ideal) (DotDims.plain 1024 1024 1792) none _ (v16 : FVec Ideal S1024x1792 .bf16) (constant S1024x1792 .f32 0x00000000#32) (ix2 r d) = _
  rw [product_apply]
  exact Finset.sum_congr rfl fun k _ => congrArg (· * _) (rms_apply v0 _ v1 c1024 _ _ r (factor_apply v0 _ _ _ _ _ r) k)

section Loads

variable (x0 : Vec Ideal S1024x1024 .f32) (x1 x2 x3 x4 x5 : Vec Ideal S1024x128 .f32) (x6 : Vec Ideal S1x1024 .f32) (x7 : Vec Ideal S1024x1792 .bf16)
  (x8 : Vec Ideal S1x768 .f32) (x9 : Vec Ideal S768x1024 .bf16) (x10 : Vec Ideal S1x256 .f32) (x11 : Vec Ideal S256x1024 .bf16) (x12 : Vec Ideal S1024x256 .bf16)
  (r : Fin 1024)

/-- The projected rows of the input blocks. -/
theorem pay40_apply (d : Fin 1792) :
    k0_pay40 (F := Ideal) x0 x1 x2 x3 x4 x5 x6 x7 x8 x9 x10 x11 x12 (ix2 r d)
      = wide (fun k => x0 (ix2 r k)) (fun k => x6 (ix2 0 k)) (fun k e => x7 (ix2 k e)) d := by
  unfold k0_pay40
  have l0 : View.ld x0 r0_0 = x0 := View.ld_unit_zero zeros _ x0
  have l6 : View.ld x6 r0_1 = x6 := View.ld_unit_zero zeros _ x6
  have l7 : View.ld x7 r0_2 = x7 := View.ld_unit_zero zeros _ x7
  rw [l0, l6, l7]
  exact pay4_apply _ _ _ r d

/-- The block of state-space inputs. -/
theorem input_apply (d : Fin 512) :
    out0_16 (F := Ideal) x0 x1 x2 x3 x4 x5 x6 x7 x8 x9 x10 x11 x12 (ix2 r d)
      = wide (fun k => x0 (ix2 r k)) (fun k => x6 (ix2 0 k)) (fun k e => x7 (ix2 k e)) ⟨1024 + d.val, by omega⟩ := by
  unfold out0_16
  rw [View.canon_unit_zero zeros]
  have h := pay40_apply x0 x1 x2 x3 x4 x5 x6 x7 x8 x9 x10 x11 x12 r
  unfold k0_pay40 at h
  unfold k0_pay5
  generalize k0_pay4 (View.ld x0 r0_0) (View.ld x6 r0_1) (View.ld x7 r0_2) = v18 at h ⊢
  rw [← h]
  exact extractStridedSlice_apply _ _ _ _ (ix2 r ⟨1024 + d.val, by omega⟩) fun a => match a with | ⟨0, _⟩ => (Nat.zero_add _).symm | ⟨1, _⟩ => rfl

/-- The block of latents. -/
theorem latent_apply (d : Fin 256) :
    out0_14 (F := Ideal) x0 x1 x2 x3 x4 x5 x6 x7 x8 x9 x10 x11 x12 (ix2 r d)
      = rms c256 (fun e => wide (fun k => x0 (ix2 r k)) (fun k => x6 (ix2 0 k)) (fun k e => x7 (ix2 k e)) ⟨768 + e.val, by omega⟩) (fun k => x10 (ix2 0 k)) d := by
  unfold out0_14
  rw [View.canon_unit_zero zeros]
  have l10 : View.ld x10 r0_15 = x10 := View.ld_unit_zero zeros _ x10
  rw [l10]
  have h := pay40_apply x0 x1 x2 x3 x4 x5 x6 x7 x8 x9 x10 x11 x12 r
  generalize k0_pay40 x0 x1 x2 x3 x4 x5 x6 x7 x8 x9 x10 x11 x12 = v18 at h ⊢
  unfold k0_pay23
  simp only [shapeCast_self]
  refine (rms_apply _ _ x10 c256 _ _ r (factor_apply _ _ _ _ _ _ r) d).trans ?_
  refine congrArg (fun f => rms c256 f _ d) (funext fun e => ?_)
  rw [← h]
  exact extractStridedSlice_apply _ _ _ _ (ix2 r ⟨768 + e.val, by omega⟩) fun a => match a with | ⟨0, _⟩ => (Nat.zero_add _).symm | ⟨1, _⟩ => rfl

/-- The block of rotated keys. -/
theorem key_apply (d : Fin 32) :
    out0_15 (F := Ideal) x0 x1 x2 x3 x4 x5 x6 x7 x8 x9 x10 x11 x12 (ix2 r d)
      = wide (fun k => x0 (ix2 r k)) (fun k => x6 (ix2 0 k)) (fun k e => x7 (ix2 k e)) ⟨1536 + d.val, by omega⟩ * x4 (ix2 r ⟨d.val, by omega⟩)
        + wide (fun k => x0 (ix2 r k)) (fun k => x6 (ix2 0 k)) (fun k e => x7 (ix2 k e)) ⟨1664 + d.val, by omega⟩ * x5 (ix2 r ⟨d.val, by omega⟩) := by
  unfold out0_15
  rw [View.canon_unit_zero zeros]
  have l4 : View.ld x4 r0_6 = x4 := View.ld_unit_zero zeros _ x4
  have l5 : View.ld x5 r0_6 = x5 := View.ld_unit_zero zeros _ x5
  rw [l4, l5]
  unfold k0_pay50
  have h := pay40_apply x0 x1 x2 x3 x4 x5 x6 x7 x8 x9 x10 x11 x12 r
  generalize k0_pay40 x0 x1 x2 x3 x4 x5 x6 x7 x8 x9 x10 x11 x12 = v18 at h ⊢
  unfold k0_pay26
  refine (extractStridedSlice_apply _ _ _ _ (ix2 r ⟨d.val, by omega⟩) fun a => match a with | ⟨0, _⟩ => (Nat.zero_add _).symm | ⟨1, _⟩ => (Nat.zero_add _).symm).trans ?_
  unfold k0_pay25 k0_pay24
  simp only [shapeCast_self]
  rw [← h, ← h]
  refine congrArg₂ (· + ·) (congrArg (· * _) ?_) (congrArg (· * _) ?_)
  · exact extractStridedSlice_apply _ _ _ _ (ix2 r ⟨1536 + d.val, by omega⟩) fun a => match a with | ⟨0, _⟩ => (Nat.zero_add _).symm | ⟨1, _⟩ => rfl
  · exact extractStridedSlice_apply _ _ _ _ (ix2 r ⟨1664 + d.val, by omega⟩) fun a => match a with | ⟨0, _⟩ => (Nat.zero_add _).symm | ⟨1, _⟩ => rfl

end Loads

end Cert.ProjIdeal.Rows

end
-- ==== Proof.ProjReference.lean ====
/- What the reference of the input projection computes: row by row the latent, the rotated key and the state-space input of
   Proof/ProjSpec.lean. -/
module

public import proofs.«01_k».proof.Proof.ProjSpec
public import proofs.«01_k».proof.Proof.Gen.ProjRefIdeal.Read

@[expose] public section

noncomputable section

namespace Cert.ProjRefIdeal.Rows

open Idealize.ShloMosaic hiding ix1 ix2 ix3
open Cert.ProjRefIdeal Cert.ProjRefIdeal.Read Cert.PostSpec Cert.ProjSpec Idealize.ShloMosaic.TcCoe Idealize.ShloMosaic.ValueIdx

/-- The cosine of position `p`'s angle at frequency `j`. -/
def cosine (p : Fin 8192) (j : Fin 16) : EReal := val_main_v47 (F := Ideal) (ix2 p j)

/-- The sine of position `p`'s angle at frequency `j`. -/
def sine (p : Fin 8192) (j : Fin 16) : EReal := val_main_v49 (F := Ideal) (ix2 p j)

variable (x0 : (⟨S65536x1024, .f32⟩ : BufTy).Contents (Elt Ideal)) (x1 : (⟨S1024, .f32⟩ : BufTy).Contents (Elt Ideal))
  (x2 : (⟨S1024x1568, .f32⟩ : BufTy).Contents (Elt Ideal)) (x5 : (⟨S256, .f32⟩ : BufTy).Contents (Elt Ideal))

/-- Column `d` of the projection of row `r` of the arguments. -/
def column (r : Fin 65536) (d : Fin 1568) : EReal := project (fun k => x0 (ix2 r k)) (fun k => x1 (ix1 k)) (fun k e => x2 (ix2 k e)) d

/-- The reference's normalised rows. -/
theorem v12_apply (r : Fin 65536) (d : Fin 1024) :
    val_main_v12 (F := Ideal) x0 x1 (ix2 r d) = rms c1024 (fun k => x0 (ix2 r k)) (fun k => x1 (ix1 k)) d := by
  rw [val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + _) _ + _) * _ = _
  rw [Ideal.ofBits_zero_f32, zero_add]
  have e (k : Fin 1024) : (idx_main_v1 (idx_main_v2 (idx_main_v8 (ix2 r d))) k : S65536x1024.Idx) = ix2 r k := Shape.idx_ext₂ rfl rfl
  have e' : (idx_main_v10 (idx_main_v11 (ix2 r d)) : S1024.Idx) = ix1 d := funext fun a => Fin.ext (by match a with | ⟨0, _⟩ => rfl)
  simp only [e, e']
  rfl

/-- The reference's projected rows. -/
theorem v13_apply (r : Fin 65536) (d : Fin 1568) : val_main_v13 (F := Ideal) x0 x1 x2 (ix2 r d) = column x0 x1 x2 r d := by
  rw [val_main_v13_apply]
  have e (k : Fin 1024) : (lidx_main_v13 (ix2 r d) k : S65536x1024.Idx) = ix2 r k := Shape.idx_ext₂ rfl rfl
  have e' (k : Fin 1024) : (ridx_main_v13 (ix2 r d) k : S1024x1568.Idx) = ix2 k d := Shape.idx_ext₂ rfl rfl
  simp only [e, e', v12_apply]
  rfl

/-- The reference's state-space input. -/
theorem v17_apply (r : Fin 65536) (d : Fin 512) : val_main_v17 (F := Ideal) x0 x1 x2 (ix2 r d) = column x0 x1 x2 r ⟨1056 + d.val, by omega⟩ := by
  rw [val_main_v17_apply, ← v13_apply]
  exact congrArg _ (Shape.idx_ext₂ rfl rfl)

/-- The columns the reference's latent is made of. -/
theorem v15_apply (r : Fin 65536) (d : Fin 256) : val_main_v15 (F := Ideal) x0 x1 x2 (ix2 r d) = column x0 x1 x2 r ⟨768 + d.val, by omega⟩ := by
  rw [val_main_v15_apply, ← v13_apply]
  exact congrArg _ (Shape.idx_ext₂ rfl rfl)

/-- The reference's latent. -/
theorem v30_apply (r : Fin 65536) (d : Fin 256) :
    val_main_v30 (F := Ideal) x0 x1 x2 x5 (ix2 r d)
      = latent (fun k => x0 (ix2 r k)) (fun k => x1 (ix1 k)) (fun k e => x2 (ix2 k e)) (fun k => x5 (ix1 k)) d := by
  rw [val_main_v30_apply, val_main_v27_apply, val_main_v26_apply, val_main_v25_apply, val_main_v24_apply, val_main_v22_apply,
    val_main_v20_apply, val_main_v19_apply, val_main_v29_apply, val_main_v28_apply]
  show _ * Ideal.rsqrt (Ideal.div (Ideal.ofBits .f32 0x00000000#32 + _) _ + _) * _ = _
  rw [Ideal.ofBits_zero_f32, zero_add]
  have e (k : Fin 256) : (idx_main_v19 (idx_main_v20 (idx_main_v26 (ix2 r d))) k : S65536x256.Idx) = ix2 r k := Shape.idx_ext₂ rfl rfl
  have e' : (idx_main_v28 (idx_main_v29 (ix2 r d)) : S256.Idx) = ix1 d := funext fun a => Fin.ext (by match a with | ⟨0, _⟩ => rfl)
  simp only [e, e', val_main_v18_apply, v15_apply]
  rfl

/-- The columns the reference rotates, by sequence and position. -/
theorem v31_apply (b : Fin 8) (p : Fin 8192) (d : Fin 32) :
    val_main_v31 (F := Ideal) x0 x1 x2 (ix3 b p d) = column x0 x1 x2 ⟨b.val * 8192 + p.val, by omega⟩ ⟨1024 + d.val, by omega⟩ := by
  rw [val_main_v31_apply, val_main_v16_apply, ← v13_apply]
  refine congrArg _ (Shape.idx_ext₂ ?_ ?_)
  · show ((b.val * 8192 + p.val) * 32 + d.val) / 32 = b.val * 8192 + p.val; omega
  · show 1024 + ((b.val * 8192 + p.val) * 32 + d.val) % 32 = 1024 + d.val; omega

/-- The first half of the reference's rotated keys. -/
theorem v57_apply (b : Fin 8) (p : Fin 8192) (d : Fin 16) :
    val_main_v57 (F := Ideal) x0 x1 x2 (ix3 b p d)
      = column x0 x1 x2 ⟨b.val * 8192 + p.val, by omega⟩ ⟨1024 + d.val, by omega⟩ * cosine p d
        - column x0 x1 x2 ⟨b.val * 8192 + p.val, by omega⟩ ⟨1040 + d.val, by omega⟩ * sine p d := by
  rw [val_main_v57_apply, val_main_v54_apply, val_main_v56_apply, val_main_v51_apply, val_main_v52_apply, val_main_v53_apply,
    val_main_v55_apply, val_main_v48_apply, val_main_v50_apply]
  have e1 : (idx_main_v51 (ix3 b p d) : S8x8192x32.Idx) = ix3 b p ⟨d.val, by omega⟩ :=
    funext fun a => Fin.ext (by match a with | ⟨0, _⟩ => rfl | ⟨1, _⟩ => rfl | ⟨2, _⟩ => rfl)
  have e2 : (idx_main_v52 (ix3 b p d) : S8x8192x32.Idx) = ix3 b p ⟨16 + d.val, by omega⟩ :=
    funext fun a => Fin.ext (by match a with | ⟨0, _⟩ => rfl | ⟨1, _⟩ => rfl | ⟨2, _⟩ => rfl)
  have e3 : (idx_main_v48 (idx_main_v53 (ix3 b p d)) : S8192x16.Idx) = ix2 p d := Shape.idx_ext₂ rfl rfl
  have e4 : (idx_main_v50 (idx_main_v55 (ix3 b p d)) : S8192x16.Idx) = ix2 p d := Shape.idx_ext₂ rfl rfl
  rw [e1, e2, e3, e4, v31_apply, v31_apply]
  have e5 : (⟨1024 + (16 + d.val), by omega⟩ : Fin 1568) = ⟨1040 + d.val, by omega⟩ := Fin.ext (by show 1024 + (16 + d.val) = 1040 + d.val; omega)
  rw [e5]
  rfl

/-- The second half of the reference's rotated keys. -/
theorem v62_apply (b : Fin 8) (p : Fin 8192) (d : Fin 16) :
    val_main_v62 (F := Ideal) x0 x1 x2 (ix3 b p d)
      = column x0 x1 x2 ⟨b.val * 8192 + p.val, by omega⟩ ⟨1024 + d.val, by omega⟩ * sine p d
        + column x0 x1 x2 ⟨b.val * 8192 + p.val, by omega⟩ ⟨1040 + d.val, by omega⟩ * cosine p d := by
  rw [val_main_v62_apply, val_main_v59_apply, val_main_v61_apply, val_main_v51_apply, val_main_v52_apply, val_main_v58_apply,
    val_main_v60_apply, val_main_v48_apply, val_main_v50_apply]
  have e1 : (idx_main_v51 (ix3 b p d) : S8x8192x32.Idx) = ix3 b p ⟨d.val, by omega⟩ :=
    funext fun a => Fin.ext (by match a with | ⟨0, _⟩ => rfl | ⟨1, _⟩ => rfl | ⟨2, _⟩ => rfl)
  have e2 : (idx_main_v52 (ix3 b p d) : S8x8192x32.Idx) = ix3 b p ⟨16 + d.val, by omega⟩ :=
    funext fun a => Fin.ext (by match a with | ⟨0, _⟩ => rfl | ⟨1, _⟩ => rfl | ⟨2, _⟩ => rfl)
  have e3 : (idx_main_v48 (idx_main_v60 (ix3 b p d)) : S8192x16.Idx) = ix2 p d := Shape.idx_ext₂ rfl rfl
  have e4 : (idx_main_v50 (idx_main_v58 (ix3 b p d)) : S8192x16.Idx) = ix2 p d := Shape.idx_ext₂ rfl rfl
  rw [e1, e2, e3, e4, v31_apply, v31_apply]
  have e5 : (⟨1024 + (16 + d.val), by omega⟩ : Fin 1568) = ⟨1040 + d.val, by omega⟩ := Fin.ext (by show 1024 + (16 + d.val) = 1040 + d.val; omega)
  rw [e5]
  rfl

/-- The reference's rotated keys, row by row: row `r` is at position `r` modulo the sequence length. -/
theorem v64_apply (r : Fin 65536) (d : Fin 32) :
    val_main_v64 (F := Ideal) x0 x1 x2 (ix2 r d)
      = key (fun k => x0 (ix2 r k)) (fun k => x1 (ix1 k)) (fun k e => x2 (ix2 k e)) (cosine ⟨r.val % 8192, by omega⟩) (sine ⟨r.val % 8192, by omega⟩) d := by
  rw [val_main_v64_apply]
  have e : (idx_main_v64 (ix2 r d) : S8x8192x32.Idx) = ix3 (⟨r.val / 8192, by omega⟩ : Fin 8) (⟨r.val % 8192, by omega⟩ : Fin 8192) d :=
    funext fun a => Fin.ext (by
      match a with
      | ⟨0, _⟩ => show (r.val * 32 + d.val) / 262144 = r.val / 8192; omega
      | ⟨1, _⟩ => show (r.val * 32 + d.val) / 32 % 8192 = r.val % 8192; omega
      | ⟨2, _⟩ => show (r.val * 32 + d.val) % 32 = d.val; omega)
  have hr : (⟨r.val / 8192 * 8192 + r.val % 8192, by omega⟩ : Fin 65536) = r := Fin.ext (by show r.val / 8192 * 8192 + r.val % 8192 = r.val; omega)
  rw [e]
  unfold key
  by_cases h : d.val < 16
  · rw [dif_pos h]
    refine (concatenate_pair_apply_left (t := S8x8192x32) (s₁ := S8x8192x16) (s₂ := S8x8192x16) 2 _ (val_main_v62 (F := Ideal) x0 x1 x2) _ _ rfl
      (ix3 (⟨r.val / 8192, by omega⟩ : Fin 8) (⟨r.val % 8192, by omega⟩ : Fin 8192) (⟨d.val, h⟩ : Fin 16))
      fun b => match b with | ⟨0, _⟩ => rfl | ⟨1, _⟩ => rfl | ⟨2, _⟩ => rfl).trans ?_
    rw [v57_apply]
    simp only [hr]
    rfl
  · rw [dif_neg h]
    refine (concatenate_pair_apply_right (t := S8x8192x32) (s₁ := S8x8192x16) (s₂ := S8x8192x16) 2 (val_main_v57 (F := Ideal) x0 x1 x2) _ _ _ rfl rfl
      (ix3 (⟨r.val / 8192, by omega⟩ : Fin 8) (⟨r.val % 8192, by omega⟩ : Fin 8192) (⟨d.val - 16, by omega⟩ : Fin 16))
      (fun b => match b with | ⟨0, _⟩ => fun _ => rfl | ⟨1, _⟩ => fun _ => rfl | ⟨2, _⟩ => fun h => absurd rfl h)
      (by show d.val - 16 + 16 = d.val; omega)).trans ?_
    rw [v62_apply]
    simp only [hr]
    rfl

end Cert.ProjRefIdeal.Rows

end
-- ==== Proof.ProjArray.lean ====
/- The weights and the tables the input projection's kernel receives, as functions of the arguments. -/
module

public import proofs.«01_k».proof.Proof.ProjKernel
public import proofs.«01_k».proof.Proof.ProjReference

@[expose] public section

set_option maxRecDepth 65536

noncomputable section

namespace Cert.ProjIdeal.Rows

open Idealize.ShloMosaic hiding ix1 ix2 ix3 ix4
open Cert.ProjIdeal Cert.ProjIdeal.Gen Cert.PostSpec Cert.ProjSpec Idealize.ShloMosaic.TcCoe Idealize.ShloMosaic.ValueIdx Idealize.SL.Sem

/-- The parts of the kernel's matrix: the columns of the projection matrix in the order the kernel reads them, those of the key
    once as they are and once with their halves swapped and the second half negated. -/
def parts (w : FVec Ideal S1024x1568 .f32) : List ((s : Shape) × (s.Idx → EReal)) :=
    [⟨S1024x768, extractStridedSlice S1024x768 ![0, 0] w slices_S1024x1568_S1024x768_0_0⟩,
      ⟨S1024x256, extractStridedSlice S1024x256 ![0, 768] w slices_S1024x1568_S1024x256_0_768⟩,
      ⟨S1024x512, extractStridedSlice S1024x512 ![0, 1056] w slices_S1024x1568_S1024x512_0_1056⟩,
      ⟨S1024x32, extractStridedSlice S1024x32 ![0, 1024] w slices_S1024x1568_S1024x32_0_1024⟩,
      ⟨S1024x96, broadcastInDim S1024x96 ![] bcast_S_S1024x96 (constant (F := Ideal) S_ .f32 0x00000000#32)⟩,
      ⟨S1024x16, Host.negf (extractStridedSlice S1024x16 ![0, 16] (extractStridedSlice S1024x32 ![0, 1024] w slices_S1024x1568_S1024x32_0_1024) slices_S1024x32_S1024x16_0_16)⟩,
      ⟨S1024x16, extractStridedSlice S1024x16 ![0, 0] (extractStridedSlice S1024x32 ![0, 1024] w slices_S1024x1568_S1024x32_0_1024) slices_S1024x32_S1024x16_0_0⟩,
      ⟨S1024x96, broadcastInDim S1024x96 ![] bcast_S_S1024x96 (constant (F := Ideal) S_ .f32 0x00000000#32)⟩]

/-- The parts side by side. -/
def matrix (w : FVec Ideal S1024x1568 .f32) : FVec Ideal S1024x1792 .f32 :=
  concatenate S1024x1792 1 (parts w)
    concatenates_S1024x768_S1024x256_S1024x512_S1024x32_S1024x96_S1024x16_S1024x16_S1024x96_S1024x1792_d1

/-- A table of the kernel: sixteen columns written twice, then zeros. -/
def table (a : FVec Ideal S8192x16 .f32) : FVec Ideal S8192x128 .f32 :=
  concatenate S8192x128 1
    [⟨S8192x32, shapeCast S8192x32 (broadcastInDim S1x8192x2x16 ![0, 1, 2, 3] bcast_S1x8192x1x16_S1x8192x2x16_0_1_2_3
        (shapeCast S1x8192x1x16 a shapeCasts_S8192x16_S1x8192x1x16)) shapeCasts_S1x8192x2x16_S8192x32⟩,
      ⟨S8192x96, broadcastInDim S8192x96 ![] bcast_S_S8192x96 (constant (F := Ideal) S_ .f32 0x00000000#32)⟩]
    concatenates_S8192x32_S8192x96_S8192x128_d1

/-- The latent's columns of the kernel's matrix. -/
theorem matrix_latent (w : FVec Ideal S1024x1568 .f32) (k : Fin 1024) (d : Fin 256) :
    matrix w (ix2 k ⟨768 + d.val, by omega⟩) = w (ix2 k ⟨768 + d.val, by omega⟩) :=
  (concatenate_part (m := 1024) (N := 1792) (n := 256) ((parts w).take 1) ((parts w).drop 2) _
    concatenates_S1024x768_S1024x256_S1024x512_S1024x32_S1024x96_S1024x16_S1024x16_S1024x96_S1024x1792_d1 k d 768 rfl (by omega)).trans
    (extractStridedSlice_apply _ _ _ _ (ix2 k ⟨768 + d.val, by omega⟩) fun a => match a with | ⟨0, _⟩ => (Nat.zero_add _).symm | ⟨1, _⟩ => rfl)

/-- The state-space input's columns of the kernel's matrix. -/
theorem matrix_input (w : FVec Ideal S1024x1568 .f32) (k : Fin 1024) (d : Fin 512) :
    matrix w (ix2 k ⟨1024 + d.val, by omega⟩) = w (ix2 k ⟨1056 + d.val, by omega⟩) :=
  (concatenate_part (m := 1024) (N := 1792) (n := 512) ((parts w).take 2) ((parts w).drop 3) _
    concatenates_S1024x768_S1024x256_S1024x512_S1024x32_S1024x96_S1024x16_S1024x16_S1024x96_S1024x1792_d1 k d 1024 rfl (by omega)).trans
    (extractStridedSlice_apply _ _ _ _ (ix2 k ⟨1056 + d.val, by omega⟩) fun a => match a with | ⟨0, _⟩ => (Nat.zero_add _).symm | ⟨1, _⟩ => rfl)

/-- The key's columns of the projection matrix. -/
theorem slice_key (w : FVec Ideal S1024x1568 .f32) (k : Fin 1024) (d : Fin 32) :
    extractStridedSlice S1024x32 ![0, 1024] w slices_S1024x1568_S1024x32_0_1024 (ix2 k d) = w (ix2 k ⟨1024 + d.val, by omega⟩) :=
  extractStridedSlice_apply _ _ _ _ (ix2 k ⟨1024 + d.val, by omega⟩) fun a => match a with | ⟨0, _⟩ => (Nat.zero_add _).symm | ⟨1, _⟩ => rfl

/-- The key's columns of the kernel's matrix, as they are. -/
theorem matrix_key (w : FVec Ideal S1024x1568 .f32) (k : Fin 1024) (d : Fin 32) :
    matrix w (ix2 k ⟨1536 + d.val, by omega⟩) = w (ix2 k ⟨1024 + d.val, by omega⟩) :=
  (concatenate_part (m := 1024) (N := 1792) (n := 32) ((parts w).take 3) ((parts w).drop 4) _
    concatenates_S1024x768_S1024x256_S1024x512_S1024x32_S1024x96_S1024x16_S1024x16_S1024x96_S1024x1792_d1 k d 1536 rfl (by omega)).trans
    (slice_key w k d)

/-- The second half of the key's columns, negated in the kernel's matrix. -/
theorem matrix_negated (w : FVec Ideal S1024x1568 .f32) (k : Fin 1024) (d : Fin 16) :
    matrix w (ix2 k ⟨1664 + d.val, by omega⟩) = -w (ix2 k ⟨1040 + d.val, by omega⟩) := by
  refine (concatenate_part (m := 1024) (N := 1792) (n := 16) ((parts w).take 5) ((parts w).drop 6) _
    concatenates_S1024x768_S1024x256_S1024x512_S1024x32_S1024x96_S1024x16_S1024x16_S1024x96_S1024x1792_d1 k d 1664 rfl (by omega)).trans ?_
  refine congrArg (fun x : EReal => -x) ?_
  refine (extractStridedSlice_apply _ _ _ _ (ix2 k ⟨16 + d.val, by omega⟩) fun a => match a with | ⟨0, _⟩ => (Nat.zero_add _).symm | ⟨1, _⟩ => rfl).trans ?_
  refine (slice_key w k ⟨16 + d.val, by omega⟩).trans (congrArg w (Shape.idx_ext₂ rfl ?_))
  show 1024 + (16 + d.val) = 1040 + d.val; omega

/-- The first half of the key's columns, a second time in the kernel's matrix. -/
theorem matrix_swapped (w : FVec Ideal S1024x1568 .f32) (k : Fin 1024) (d : Fin 16) :
    matrix w (ix2 k ⟨1680 + d.val, by omega⟩) = w (ix2 k ⟨1024 + d.val, by omega⟩) := by
  refine (concatenate_part (m := 1024) (N := 1792) (n := 16) ((parts w).take 6) ((parts w).drop 7) _
    concatenates_S1024x768_S1024x256_S1024x512_S1024x32_S1024x96_S1024x16_S1024x16_S1024x96_S1024x1792_d1 k d 1680 rfl (by omega)).trans ?_
  refine (extractStridedSlice_apply _ _ _ _ (ix2 k ⟨d.val, by omega⟩) fun a => match a with | ⟨0, _⟩ => (Nat.zero_add _).symm | ⟨1, _⟩ => (Nat.zero_add _).symm).trans ?_
  exact slice_key w k ⟨d.val, by omega⟩

/-- Sixteen columns written twice and followed by others, read at one of the first thirty-two: the column modulo sixteen. -/
theorem twice_apply {n : Nat} (a : FVec Ideal (⟨2, ![n, 16]⟩ : Shape) .f32) (z : FVec Ideal (⟨2, ![n, 96]⟩ : Shape) .f32)
    (h1 : (⟨2, ![n, 16]⟩ : Shape).ShapeCasts ⟨4, ![1, n, 1, 16]⟩)
    (h2 : (⟨4, ![1, n, 1, 16]⟩ : Shape).BroadcastsInDim ⟨4, ![1, n, 2, 16]⟩ (![0, 1, 2, 3] : Fin 4 → Fin 4))
    (h3 : (⟨4, ![1, n, 2, 16]⟩ : Shape).ShapeCasts ⟨2, ![n, 32]⟩)
    (h4 : Shape.Concatenates [(⟨2, ![n, 32]⟩ : Shape), ⟨2, ![n, 96]⟩] ⟨2, ![n, 128]⟩ 1) (p : Fin n) (d : Fin 32) :
    concatenate ⟨2, ![n, 128]⟩ 1 [⟨⟨2, ![n, 32]⟩, shapeCast ⟨2, ![n, 32]⟩ (broadcastInDim ⟨4, ![1, n, 2, 16]⟩ ![0, 1, 2, 3] h2
        (shapeCast ⟨4, ![1, n, 1, 16]⟩ a h1)) h3⟩, ⟨⟨2, ![n, 96]⟩, z⟩] h4 (ix2 p ⟨d.val, by omega⟩)
      = a (ix2 p ⟨d.val % 16, by omega⟩) := by
  refine (concatenate_pair_apply_left (t := ⟨2, ![n, 128]⟩) (s₁ := ⟨2, ![n, 32]⟩) (s₂ := ⟨2, ![n, 96]⟩) 1 _ _ _ _ rfl (ix2 p d)
    fun b => match b with | ⟨0, _⟩ => rfl | ⟨1, _⟩ => rfl).trans ?_
  rw [shapeCast_apply (s := ⟨4, ![1, n, 2, 16]⟩) (t := ⟨2, ![n, 32]⟩) _ _ (ix2 p d)
    (ix4 (0 : Fin 1) p (⟨d.val / 16, by omega⟩ : Fin 2) (⟨d.val % 16, by omega⟩ : Fin 16)) (by
      rw [Shape.rowMajor_val_four, Shape.rowMajor_val_two]
      show ((0 * n + p.val) * 2 + d.val / 16) * 16 + d.val % 16 = p.val * 32 + d.val; omega)]
  rw [broadcastInDim_apply (s := ⟨4, ![1, n, 1, 16]⟩) (t := ⟨4, ![1, n, 2, 16]⟩) _ _ _ _ (ix4 (0 : Fin 1) p (0 : Fin 1) (⟨d.val % 16, by omega⟩ : Fin 16))
    (fun b => match b with
      | ⟨0, _⟩ => rfl
      | ⟨1, _⟩ => by
        show p.val = if n = 1 then 0 else p.val
        split <;> omega
      | ⟨2, _⟩ => rfl
      | ⟨3, _⟩ => rfl)]
  exact shapeCast_apply (s := ⟨2, ![n, 16]⟩) (t := ⟨4, ![1, n, 1, 16]⟩) _ _ _ (ix2 p ⟨d.val % 16, by omega⟩) (by
    rw [Shape.rowMajor_val_four, Shape.rowMajor_val_two]
    show p.val * 16 + d.val % 16 = ((0 * n + p.val) * 1 + 0) * 16 + d.val % 16; omega)

/-- A table read at one of the key's columns: its column modulo the half of the key. -/
theorem table_apply (a : FVec Ideal S8192x16 .f32) (p : Fin 8192) (d : Fin 32) :
    table a (ix2 p ⟨d.val, by omega⟩) = a (ix2 p ⟨d.val % 16, by omega⟩) :=
  twice_apply a _ _ _ _ _ p d

variable (m : (ℓ : Loc nD τ sig) → Buf (Elt Ideal) ℓ)

/-- The normalisation weights, as the kernel receives them. -/
theorem V_v0 (c : Dev nD) (k : Fin 1024) : (V m c main_v0 : FVec Ideal S1x1024 .f32) (ix2 0 k) = m ((c : Thread nD τ).loc main_arg1) (ix1 k) := by
  have h : (V m c main_v0 : FVec Ideal S1x1024 .f32) = broadcastInDim S1x1024 ![1] bcast_S1024_S1x1024_1 (m ((c : Thread nD τ).loc main_arg1)) := by
    unfold V; after_results_simp
  rw [h]
  exact broadcastInDim_apply _ _ _ _ (ix1 k) fun a => match a with | ⟨0, _⟩ => rfl

/-- The latent's normalisation weights, as the kernel receives them. -/
theorem V_v20 (c : Dev nD) (k : Fin 256) : (V m c main_v20 : FVec Ideal S1x256 .f32) (ix2 0 k) = m ((c : Thread nD τ).loc main_arg5) (ix1 k) := by
  have h : (V m c main_v20 : FVec Ideal S1x256 .f32) = broadcastInDim S1x256 ![1] bcast_S256_S1x256_1 (m ((c : Thread nD τ).loc main_arg5)) := by
    unfold V; after_results_simp
  rw [h]
  exact broadcastInDim_apply _ _ _ _ (ix1 k) fun a => match a with | ⟨0, _⟩ => rfl

/-- The matrix, as the kernel receives it. -/
theorem V_v10 (c : Dev nD) : (V m c main_v10 : FVec Ideal S1024x1792 .bf16) = matrix (m ((c : Thread nD τ).loc main_arg2)) := by
  unfold V; after_results_simp; rfl

/-- The table of cosines, as the kernel receives it. -/
theorem V_v70 (c : Dev nD) : (V m c main_v70 : FVec Ideal S8192x128 .f32) = table (Cert.ProjRefIdeal.Read.val_main_v47 (F := Ideal)) := by
  unfold V; after_results_simp; rfl

/-- The table of sines, as the kernel receives it. -/
theorem V_v71 (c : Dev nD) : (V m c main_v71 : FVec Ideal S8192x128 .f32) = table (Cert.ProjRefIdeal.Read.val_main_v49 (F := Ideal)) := by
  unfold V; after_results_simp; rfl

end Cert.ProjIdeal.Rows

end
-- ==== Proof.ProjValue.lean ====
/- The input projection: the kernel's latents, rotated keys and state-space inputs equal the reference's, entry for entry. -/
module

public import proofs.«01_k».proof.Defs
public import proofs.«01_k».proof.Proof.ProjArray
public import proofs.«01_k».proof.Proof.AttnIdealValue
public import proofs.«01_k».proof.Proof.Gen.Pre_proj_inputs
public import proofs.«01_k».proof.Proof.Gen.ProjRefIdeal.Run
public import Idealize.ShloMosaic.Lib.Pipeline.ValueKit.Geometry

@[expose] public section

set_option maxRecDepth 65536

noncomputable section

namespace Cert.ProjIdeal.Rows

open Idealize.ShloMosaic hiding ix1 ix2 ix3 ix4 eq_ix2
open Cert.ProjIdeal Cert.ProjIdeal.Gen Cert.PostSpec Cert.ProjSpec Idealize.ShloMosaic.TcCoe Idealize.ShloMosaic.ValueIdx Idealize.SL.Sem
open Idealize.ShloMosaic.Pipeline (Dat)
open Cert.ProjRefIdeal.Rows (cosine sine)

/-- A number that is neither infinity. -/
abbrev IsReal (x : EReal) : Prop := x ≠ ⊤ ∧ x ≠ ⊥

/-- What the kernel's columns give is the rotated key, when the weights that are negated and their factors are finite. -/
theorem key_eq (x g : Fin 1024 → EReal) (w : FVec Ideal S1024x1568 .f32) (c s : Fin 16 → EReal) (d : Fin 32) (hg : ∀ k, g k ≠ ⊤ ∧ g k ≠ ⊥)
    (hw : ∀ k (e : Fin 16), w (ix2 k ⟨1040 + e.val, by omega⟩) ≠ ⊤ ∧ w (ix2 k ⟨1040 + e.val, by omega⟩) ≠ ⊥) :
    wide x g (fun k e => matrix w (ix2 k e)) ⟨1536 + d.val, by omega⟩ * c ⟨d.val % 16, by omega⟩
        + wide x g (fun k e => matrix w (ix2 k e)) ⟨1664 + d.val, by omega⟩ * s ⟨d.val % 16, by omega⟩
      = key x g (fun k e => w (ix2 k e)) c s d := by
  have h0 : wide x g (fun k e => matrix w (ix2 k e)) ⟨1536 + d.val, by omega⟩ = project x g (fun k e => w (ix2 k e)) ⟨1024 + d.val, by omega⟩ :=
    Finset.sum_congr rfl fun k _ => congrArg (_ * ·) (matrix_key w k d)
  rw [h0]
  unfold key
  by_cases h : d.val < 16
  · have hd : (⟨d.val % 16, by omega⟩ : Fin 16) = ⟨d.val, h⟩ := Fin.ext (Nat.mod_eq_of_lt h)
    have h1 : wide x g (fun k e => matrix w (ix2 k e)) ⟨1664 + d.val, by omega⟩ = ∑ k : Fin 1024, rms c1024 x g k * -w (ix2 k ⟨1040 + d.val, by omega⟩) :=
      Finset.sum_congr rfl fun k _ => congrArg (_ * ·) (matrix_negated w k ⟨d.val, h⟩)
    rw [dif_pos h, hd, h1]
    exact keyFirst_eq x g (fun k e => w (ix2 k e)) c s ⟨d.val, h⟩ hg (fun k => hw k ⟨d.val, h⟩)
  · have hd : (⟨d.val % 16, by omega⟩ : Fin 16) = ⟨d.val - 16, by omega⟩ := Fin.ext (by show d.val % 16 = d.val - 16; omega)
    have e0 : (⟨1024 + d.val, by omega⟩ : Fin 1568) = ⟨1040 + (d.val - 16), by omega⟩ := Fin.ext (by show 1024 + d.val = 1040 + (d.val - 16); omega)
    have e1 : (⟨1664 + d.val, by omega⟩ : Fin 1792) = ⟨1680 + (d.val - 16), by omega⟩ := Fin.ext (by show 1664 + d.val = 1680 + (d.val - 16); omega)
    have h1 : wide x g (fun k e => matrix w (ix2 k e)) ⟨1680 + (d.val - 16), by omega⟩ = project x g (fun k e => w (ix2 k e)) ⟨1024 + (d.val - 16), by omega⟩ :=
      Finset.sum_congr rfl fun k _ => congrArg (_ * ·) (matrix_swapped w k ⟨d.val - 16, by omega⟩)
    rw [dif_neg h, hd, e0, e1, h1, add_comm]
    rfl

/-- A column of the kernel's matrix that is one of the projection matrix gives that column of the projection. -/
theorem wide_eq (x x' g g' : Fin 1024 → EReal) (w : Fin 1024 → Fin 1792 → EReal) (w' : Fin 1024 → Fin 1568 → EReal) (d : Fin 1792) (d' : Fin 1568)
    (hx : ∀ k, x k = x' k) (hg : ∀ k, g k = g' k) (hw : ∀ k, w k d = w' k d') : wide x g w d = project x' g' w' d' := by
  rw [funext hx, funext hg]
  exact Finset.sum_congr rfl fun k _ => congrArg (_ * ·) (hw k)

variable (m : (ℓ : Loc nD τ sig) → Buf (Elt Ideal) ℓ)

/-- The latents, from the arguments' rows. -/
def latents (c : Dev nD) : FVec Ideal S65536x256 .f32 := fun i =>
  latent (fun k => m ((c : Thread nD τ).loc main_arg0) (ix2 (i 0) k)) (fun k => m ((c : Thread nD τ).loc main_arg1) (ix1 k))
    (fun k e => m ((c : Thread nD τ).loc main_arg2) (ix2 k e)) (fun k => m ((c : Thread nD τ).loc main_arg5) (ix1 k)) (i 1)

/-- The position of a row in its sequence. -/
def position (r : Fin 65536) : Fin 8192 := ⟨r.val % 8192, by omega⟩

/-- The rotated keys, from the arguments' rows. -/
def keys (c : Dev nD) : FVec Ideal S65536x32 .f32 := fun i =>
  key (fun k => m ((c : Thread nD τ).loc main_arg0) (ix2 (i 0) k)) (fun k => m ((c : Thread nD τ).loc main_arg1) (ix1 k))
    (fun k e => m ((c : Thread nD τ).loc main_arg2) (ix2 k e)) (cosine (position (i 0))) (sine (position (i 0))) (i 1)

/-- The state-space inputs, from the arguments' rows. -/
def inputs (c : Dev nD) : FVec Ideal S65536x512 .f32 := fun i =>
  ssmInput (fun k => m ((c : Thread nD τ).loc main_arg0) (ix2 (i 0) k)) (fun k => m ((c : Thread nD τ).loc main_arg1) (ix1 k))
    (fun k e => m ((c : Thread nD τ).loc main_arg2) (ix2 k e)) (i 1)

/-- Point `t` takes block `t` of the rows, and of the tables the block of its positions. -/
theorem index_rows : ∀ t : Fin cfg0.N, win0_0.index t = ![t.val, 0] ∧ win0_4.index t = ![t.val % 8, 0] ∧ win0_5.index t = ![t.val % 8, 0]
    ∧ win0_14.index t = ![t.val, 0] ∧ win0_15.index t = ![t.val, 0] ∧ win0_16.index t = ![t.val, 0] :=
  (by decide +kernel : ∀ t : Fin grid0.N, _)

/-- Every point takes the whole weights. -/
theorem index_weights : ∀ t : Fin cfg0.N, win0_6.index t = ![0, 0] ∧ win0_7.index t = ![0, 0] ∧ win0_10.index t = ![0, 0] :=
  (by decide +kernel : ∀ t : Fin grid0.N, _)

/-- A block of rows read at an entry: row `t · 1024 + r` of the array. -/
theorem rows_apply (c : Dev nD) (t : Fin cfg0.N) (r : Fin 1024) (R : Fin 65536) (hR : R.val = t.val * 1024 + r.val) (k : Fin 1024) :
    iblk m c 0 t (ix2 r k) = m ((c : Thread nD τ).loc main_arg0) (ix2 R k) := by
  have e := (index_rows t).1
  have h := congrFun (V_main_arg0 m c) (ix2 R k)
  rw [← h]
  blk_simp [iblk]
  refine congrArg (V m c main_arg0) (Shape.idx_ext₂ ?_ ?_)
  · blk_simp [e]; exact hR.symm
  · blk_simp [e]

/-- A block of the tables read at an entry: the row of the position. -/
theorem tables_apply (c : Dev nD) (t : Fin cfg0.N) (r : Fin 1024) (p : Fin 8192) (hp : p.val = t.val % 8 * 1024 + r.val) (d : Fin 128) :
    iblk m c 4 t (ix2 r d) = table (Cert.ProjRefIdeal.Read.val_main_v47 (F := Ideal)) (ix2 p d)
    ∧ iblk m c 5 t (ix2 r d) = table (Cert.ProjRefIdeal.Read.val_main_v49 (F := Ideal)) (ix2 p d) := by
  obtain ⟨_, e4, e5, _⟩ := index_rows t
  rw [← V_v70 m c, ← V_v71 m c]
  constructor
  · blk_simp [iblk]
    refine congrArg (V m c main_v70) (Shape.idx_ext₂ ?_ ?_)
    · blk_simp [e4]; exact hp.symm
    · blk_simp [e4]
  · blk_simp [iblk]
    refine congrArg (V m c main_v71) (Shape.idx_ext₂ ?_ ?_)
    · blk_simp [e5]; exact hp.symm
    · blk_simp [e5]

/-- The weights' blocks are the weights. -/
theorem weights_eq (c : Dev nD) (t : Fin cfg0.N) :
    iblk m c 6 t = V m c main_v0 ∧ iblk m c 7 t = V m c main_v10 ∧ iblk m c 10 t = V m c main_v20 := by
  obtain ⟨e6, e7, e10⟩ := index_weights t
  refine ⟨?_, ?_, ?_⟩
  · funext x
    blk_simp [iblk]
    exact congrArg (V m c main_v0) (Shape.idx_ext₂ (by blk_simp [e6]) (by blk_simp [e6]))
  · funext x
    blk_simp [iblk]
    exact congrArg (V m c main_v10) (Shape.idx_ext₂ (by blk_simp [e7]) (by blk_simp [e7]))
  · funext x
    blk_simp [iblk]
    exact congrArg (V m c main_v20) (Shape.idx_ext₂ (by blk_simp [e10]) (by blk_simp [e10]))

/-- The array of latents after the run. -/
theorem final_latents (c : Dev nD) : (dats m 0 c).arrAt 14 cfg0.N = latents m c := by
  refine (dats m 0 c).arrAt_eq_of_covers 14 _ (by decide +kernel) fun t hf y => ?_
  blk_simp
  rw [after0_14]
  obtain ⟨e6, e7, e10⟩ := weights_eq m c t
  rw [e6, e7, e10, V_v10]
  have e := (index_rows t).2.2.2.1
  have hy := eq_ix2 (n0 := 1024) (n1 := 256) y
  have h0 : (((win0_14.blk t).view.emb y 0 : Fin _) : Nat) = t.val * 1024 + (y 0 : Nat) := by blk_simp [e]
  have h1 : ((win0_14.blk t).view.emb y 1 : Fin 256) = y 1 := Fin.ext (by blk_simp [e])
  have hr := rows_apply m c t (y 0) ((win0_14.blk t).view.emb y 0) h0
  refine (congrArg _ hy).trans ((latent_apply _ _ _ _ _ _ _ _ _ _ _ _ _ (y 0) (y 1)).trans ?_)
  unfold latents latent
  rw [h1]
  refine congrArg₂ (fun f g => rms c256 f g (y 1)) (funext fun d => ?_) (funext (V_v20 m c))
  exact wide_eq _ _ _ _ _ _ _ _ hr (V_v0 m c) fun k => matrix_latent _ k d

/-- The array of state-space inputs after the run. -/
theorem final_inputs (c : Dev nD) : (dats m 0 c).arrAt 16 cfg0.N = inputs m c := by
  refine (dats m 0 c).arrAt_eq_of_covers 16 _ (by decide +kernel) fun t hf y => ?_
  blk_simp
  rw [after0_16]
  obtain ⟨e6, e7, e10⟩ := weights_eq m c t
  rw [e6, e7, e10, V_v10]
  have e := (index_rows t).2.2.2.2.2
  have hy := eq_ix2 (n0 := 1024) (n1 := 512) y
  have h0 : (((win0_16.blk t).view.emb y 0 : Fin _) : Nat) = t.val * 1024 + (y 0 : Nat) := by blk_simp [e]
  have h1 : ((win0_16.blk t).view.emb y 1 : Fin 512) = y 1 := Fin.ext (by blk_simp [e])
  have hr := rows_apply m c t (y 0) ((win0_16.blk t).view.emb y 0) h0
  refine (congrArg _ hy).trans ((input_apply _ _ _ _ _ _ _ _ _ _ _ _ _ (y 0) (y 1)).trans ?_)
  unfold inputs ssmInput
  rw [h1]
  exact wide_eq _ _ _ _ _ _ _ _ hr (V_v0 m c) fun k => matrix_input _ k (y 1)

/-- The array of rotated keys after the run, when the weights that are negated and their factors are finite. -/
theorem final_keys (c : Dev nD) (hg : ∀ k, IsReal (m ((c : Thread nD τ).loc main_arg1) (ix1 k)))
    (hw : ∀ k (e : Fin 16), IsReal (m ((c : Thread nD τ).loc main_arg2) (ix2 k ⟨1040 + e.val, by omega⟩))) :
    (dats m 0 c).arrAt 15 cfg0.N = keys m c := by
  refine (dats m 0 c).arrAt_eq_of_covers 15 _ (by decide +kernel) fun t hf y => ?_
  blk_simp
  rw [after0_15]
  obtain ⟨e6, e7, e10⟩ := weights_eq m c t
  rw [e6, e7, e10, V_v10]
  have e := (index_rows t).2.2.2.2.1
  have hy := eq_ix2 (n0 := 1024) (n1 := 32) y
  have h0 : (((win0_15.blk t).view.emb y 0 : Fin _) : Nat) = t.val * 1024 + (y 0 : Nat) := by blk_simp [e]
  have h1 : ((win0_15.blk t).view.emb y 1 : Fin 32) = y 1 := Fin.ext (by blk_simp [e])
  have hr := rows_apply m c t (y 0) ((win0_15.blk t).view.emb y 0) h0
  have hp : (position ((win0_15.blk t).view.emb y 0)).val = t.val % 8 * 1024 + (y 0 : Nat) := by
    have hlt : (y 0 : Nat) < 1024 := (y 0).isLt
    show (((win0_15.blk t).view.emb y 0 : Fin _) : Nat) % 8192 = _
    rw [h0]; omega
  have ht := tables_apply m c t (y 0) _ hp
  refine (congrArg _ hy).trans ((key_apply _ _ _ _ _ _ _ _ _ _ _ _ _ (y 0) (y 1)).trans ?_)
  rw [(ht _).1, (ht _).2]
  unfold keys
  rw [h1, funext hr, funext (V_v0 m c)]
  exact (congrArg₂ (· + ·) (congrArg (_ * ·) (table_apply _ _ (y 1))) (congrArg (_ * ·) (table_apply _ _ (y 1)))).trans
    (key_eq _ _ _ (cosine _) (sine _) (y 1) hg hw)

end Cert.ProjIdeal.Rows

namespace Cert.Proof

open Idealize.ShloMosaic hiding ix1 ix2 ix3 ix4 eq_ix2
open Idealize.ShloMosaic.TcCoe Idealize.ShloMosaic.ValueIdx Idealize.SL.Sem

/-- The stated condition says that the normalisation weights are finite. -/
theorem proj_weights (x0 : FVec Ideal Cert.Pre_proj_inputs.S65536x1024 .f32) (x1 : FVec Ideal Cert.Pre_proj_inputs.S1024 .f32)
    (x2 : FVec Ideal Cert.Pre_proj_inputs.S1024x1568 .f32) (x3 : FVec Ideal Cert.Pre_proj_inputs.S768 .f32)
    (x4 : FVec Ideal Cert.Pre_proj_inputs.S768x768 .f32) (x5 : FVec Ideal Cert.Pre_proj_inputs.S256 .f32)
    (x6 : FVec Ideal Cert.Pre_proj_inputs.S256x1024 .f32)
    (h : (Cert.Pre_proj_inputs.fn (F := Ideal) x0 x1 x2 x3 x4 x5 x6).1 = fun _ => 1#1) (k : Fin 1024) : (x1 (ix1 k) : EReal) ≠ ⊤ ∧ (x1 (ix1 k) : EReal) ≠ ⊥ :=
  real_of_abs_lt _ (congrFun h (ix1 k))

/-- The stated condition says that the negated columns of the matrix are finite. -/
theorem proj_columns (x0 : FVec Ideal Cert.Pre_proj_inputs.S65536x1024 .f32) (x1 : FVec Ideal Cert.Pre_proj_inputs.S1024 .f32)
    (x2 : FVec Ideal Cert.Pre_proj_inputs.S1024x1568 .f32) (x3 : FVec Ideal Cert.Pre_proj_inputs.S768 .f32)
    (x4 : FVec Ideal Cert.Pre_proj_inputs.S768x768 .f32) (x5 : FVec Ideal Cert.Pre_proj_inputs.S256 .f32)
    (x6 : FVec Ideal Cert.Pre_proj_inputs.S256x1024 .f32)
    (h : (Cert.Pre_proj_inputs.fn (F := Ideal) x0 x1 x2 x3 x4 x5 x6).2 = fun _ => 1#1) (k : Fin 1024) (e : Fin 16) :
    (x2 (ix2 k ⟨1040 + e.val, by omega⟩) : EReal) ≠ ⊤ ∧ (x2 (ix2 k ⟨1040 + e.val, by omega⟩) : EReal) ≠ ⊥ := by
  have h' := real_of_abs_lt _ (congrFun h (ix2 k e))
  beta_reduce at h'
  rw [extractStridedSlice_apply (s := Cert.Pre_proj_inputs.S1024x1568) (t := Cert.Pre_proj_inputs.S1024x16) ![0, 1040] x2 _ (ix2 k e)
    (ix2 k ⟨1040 + e.val, by omega⟩) (fun a => match a with | ⟨0, _⟩ => (Nat.zero_add _).symm | ⟨1, _⟩ => rfl)] at h'
  exact h'

/-- The kernel of the input projection computes the reference's latents, rotated keys and state-space inputs. -/
theorem proj_value : Cert.algebraic_ProjIdeal_ProjRefIdeal_pre_proj_inputs := by
  intro m ρ m' ρ' hpre hargs
  refine ⟨fun c => Cert.ProjIdeal.Rows.latents m c, fun c => Cert.ProjIdeal.Rows.keys m c, fun c => Cert.ProjIdeal.Rows.inputs m c, ?_, ?_⟩
  · refine (θ_run Cert.ProjIdeal.defs _ _).mono (fun r h c => ?_) (Cert.ProjIdeal.Value.run_blocks m ρ)
    obtain ⟨_, h1, h2, h3, _, _, hk⟩ := h c
    exact ⟨h1.trans (Cert.ProjIdeal.Rows.final_latents m c),
      h2.trans (Cert.ProjIdeal.Rows.final_keys m c (proj_weights _ _ _ _ _ _ _ (hpre c).1) (proj_columns _ _ _ _ _ _ _ (hpre c).2)),
      h3.trans (Cert.ProjIdeal.Rows.final_inputs m c), hk⟩
  · refine (θ_run Cert.ProjRefIdeal.defs _ _).mono (fun r h c => ?_) (Cert.ProjRefIdeal.Value.run m' ρ')
    obtain ⟨h1, h2, h3, hk⟩ := h c
    obtain ⟨a0, a1, a2, a3, a4, a5, a6⟩ := hargs c
    refine ⟨h1.trans ?_, h2.trans ?_, h3.trans ?_, hk⟩
    · rw [Cert.ProjRefIdeal.Read.val_main_v30_eq, a0, a1, a2, a5]
      funext i
      exact (congrArg _ (eq_ix2 (n0 := 65536) (n1 := 256) i)).trans (Cert.ProjRefIdeal.Rows.v30_apply _ _ _ _ (i 0) (i 1))
    · rw [Cert.ProjRefIdeal.Read.val_main_v64_eq, a0, a1, a2]
      funext i
      exact (congrArg _ (eq_ix2 (n0 := 65536) (n1 := 32) i)).trans (Cert.ProjRefIdeal.Rows.v64_apply _ _ _ (i 0) (i 1))
    · rw [Cert.ProjRefIdeal.Read.val_main_v17_eq, a0, a1, a2]
      funext i
      exact (congrArg _ (eq_ix2 (n0 := 65536) (n1 := 512) i)).trans (Cert.ProjRefIdeal.Rows.v17_apply _ _ _ (i 0) (i 1))

end Cert.Proof

end
-- ==== Proof.ProjSampleReference.lean ====
/- What the reference of the sample's input projection computes: row by row the latent, the rotated key and the state-space
   input of Proof/ProjSpec.lean, the angles being those of the sample's sixty-four positions. -/
module

public import proofs.«01_k».proof.Proof.ProjSpec
public import proofs.«01_k».proof.Proof.Gen.ProjSampleRefIdeal.Read

@[expose] public section

noncomputable section

namespace Cert.ProjSampleRefIdeal.Rows

open Idealize.ShloMosaic hiding ix1 ix2 ix3
open Cert.ProjSampleRefIdeal Cert.ProjSampleRefIdeal.Read Cert.PostSpec Cert.ProjSpec Idealize.ShloMosaic.TcCoe Idealize.ShloMosaic.ValueIdx

/-- The cosine of the angle of the sample's `p`-th position at frequency `j`. -/
def cosine (p : Fin 64) (j : Fin 16) : EReal := val_main_v49 (F := Ideal) (ix2 p j)

/-- The sine of the angle of the sample's `p`-th position at frequency `j`. -/
def sine (p : Fin 64) (j : Fin 16) : EReal := val_main_v51 (F := Ideal) (ix2 p j)

variable (x0 : (⟨S2048x1024, .f32⟩ : BufTy).Contents (Elt Ideal)) (x1 : (⟨S1024, .f32⟩ : BufTy).Contents (Elt Ideal))
  (x2 : (⟨S1024x1568, .f32⟩ : BufTy).Contents (Elt Ideal)) (x5 : (⟨S256, .f32⟩ : BufTy).Contents (Elt Ideal))

/-- Column `d` of the projection of row `r` of the sample. -/
def column (r : Fin 2048) (d : Fin 1568) : EReal := project (fun k => x0 (ix2 r k)) (fun k => x1 (ix1 k)) (fun k e => x2 (ix2 k e)) d

/-- The reference's projected rows. -/
theorem projected_apply (r : Fin 2048) (d : Fin 1568) : val_main_v13 (F := Ideal) x0 x1 x2 (ix2 r d) = column x0 x1 x2 r d := by
  rw [val_main_v13_apply]
  unfold column project
  refine Finset.sum_congr rfl fun k _ => congrArg₂ (· * ·) ?_ (congrArg x2 (Shape.idx_ext₂ rfl rfl))
  have e0 : (lidx_main_v13 (ix2 r d) k : S2048x1024.Idx) = ix2 r k := Shape.idx_ext₂ rfl rfl
  rw [e0, val_main_v12_apply, val_main_v9_apply, val_main_v8_apply, val_main_v7_apply, val_main_v6_apply, val_main_v4_apply,
    val_main_v2_apply, val_main_v1_apply, val_main_v11_apply, val_main_v10_apply]
  show x0 _ * Ideal.rsqrt (Ideal.div (Ideal.ofBits .f32 0x00000000#32 + _) _ + _) * _ = _
  rw [Ideal.ofBits_zero_f32, zero_add]
  have e (j : Fin 1024) : (idx_main_v1 (idx_main_v2 (idx_main_v8 (ix2 r k))) j : S2048x1024.Idx) = ix2 r j := Shape.idx_ext₂ rfl rfl
  have e' : (idx_main_v10 (idx_main_v11 (ix2 r k)) : S1024.Idx) = ix1 k := funext fun a => Fin.ext (by match a with | ⟨0, _⟩ => rfl)
  simp only [e, e']
  rfl

/-- The reference's state-space input. -/
theorem input_apply (r : Fin 2048) (d : Fin 512) : val_main_v17 (F := Ideal) x0 x1 x2 (ix2 r d) = column x0 x1 x2 r ⟨1056 + d.val, by omega⟩ := by
  rw [val_main_v17_apply, ← projected_apply]
  exact congrArg _ (Shape.idx_ext₂ rfl rfl)

/-- The reference's latent. -/
theorem latent_apply (r : Fin 2048) (d : Fin 256) :
    val_main_v30 (F := Ideal) x0 x1 x2 x5 (ix2 r d)
      = latent (fun k => x0 (ix2 r k)) (fun k => x1 (ix1 k)) (fun k e => x2 (ix2 k e)) (fun k => x5 (ix1 k)) d := by
  have hc (d : Fin 256) : val_main_v15 (F := Ideal) x0 x1 x2 (ix2 r d) = column x0 x1 x2 r ⟨768 + d.val, by omega⟩ := by
    rw [val_main_v15_apply, ← projected_apply]
    exact congrArg _ (Shape.idx_ext₂ rfl rfl)
  rw [val_main_v30_apply, val_main_v27_apply, val_main_v26_apply, val_main_v25_apply, val_main_v24_apply, val_main_v22_apply,
    val_main_v20_apply, val_main_v19_apply, val_main_v29_apply, val_main_v28_apply]
  show _ * Ideal.rsqrt (Ideal.div (Ideal.ofBits .f32 0x00000000#32 + _) _ + _) * _ = _
  rw [Ideal.ofBits_zero_f32, zero_add]
  have e (k : Fin 256) : (idx_main_v19 (idx_main_v20 (idx_main_v26 (ix2 r d))) k : S2048x256.Idx) = ix2 r k := Shape.idx_ext₂ rfl rfl
  have e' : (idx_main_v28 (idx_main_v29 (ix2 r d)) : S256.Idx) = ix1 d := funext fun a => Fin.ext (by match a with | ⟨0, _⟩ => rfl)
  simp only [e, e', val_main_v18_apply, hc]
  rfl

variable (r : Fin 2048) (d : Fin 16)

/-- The sequence of a row. -/
def sequence : Fin 32 := ⟨r.val / 64, by omega⟩

/-- The position of a row in its sequence. -/
def position : Fin 64 := ⟨r.val % 64, by omega⟩

/-- The columns the reference rotates, at the sequence and the position of a row. -/
theorem rotated_apply (e : Fin 32) :
    val_main_v31 (F := Ideal) x0 x1 x2 (ix3 (sequence r) (position r) e) = column x0 x1 x2 r ⟨1024 + e.val, by omega⟩ := by
  rw [val_main_v31_apply, val_main_v16_apply, ← projected_apply]
  refine congrArg _ (Shape.idx_ext₂ ?_ ?_)
  · show ((r.val / 64 * 64 + r.val % 64) * 32 + e.val) / 32 = r.val; omega
  · show 1024 + ((r.val / 64 * 64 + r.val % 64) * 32 + e.val) % 32 = 1024 + e.val; omega

/-- The first half of the columns the reference rotates. -/
theorem first_apply : val_main_v53 (F := Ideal) x0 x1 x2 (ix3 (sequence r) (position r) d) = column x0 x1 x2 r ⟨1024 + d.val, by omega⟩ := by
  rw [val_main_v53_apply, ← rotated_apply x0 x1 x2 r ⟨d.val, by omega⟩]
  exact congrArg _ (funext fun a => Fin.ext (by match a with | ⟨0, _⟩ => rfl | ⟨1, _⟩ => rfl | ⟨2, _⟩ => rfl))

/-- The second half of the columns the reference rotates. -/
theorem second_apply : val_main_v54 (F := Ideal) x0 x1 x2 (ix3 (sequence r) (position r) d) = column x0 x1 x2 r ⟨1040 + d.val, by omega⟩ := by
  have e : (⟨1040 + d.val, by omega⟩ : Fin 1568) = ⟨1024 + (16 + d.val), by omega⟩ := Fin.ext (by show 1040 + d.val = 1024 + (16 + d.val); omega)
  rw [val_main_v54_apply, e, ← rotated_apply x0 x1 x2 r ⟨16 + d.val, by omega⟩]
  exact congrArg _ (funext fun a => Fin.ext (by match a with | ⟨0, _⟩ => rfl | ⟨1, _⟩ => rfl | ⟨2, _⟩ => rfl))

/-- The reference's rotated keys, row by row: row `r` is at position `r` modulo sixty-four. -/
theorem key_apply (e : Fin 32) :
    val_main_v66 (F := Ideal) x0 x1 x2 (ix2 r e)
      = key (fun k => x0 (ix2 r k)) (fun k => x1 (ix1 k)) (fun k e => x2 (ix2 k e)) (cosine (position r)) (sine (position r)) e := by
  rw [val_main_v66_apply]
  have hi : (idx_main_v66 (ix2 r e) : S32x64x32.Idx) = ix3 (sequence r) (position r) e :=
    funext fun a => Fin.ext (by
      match a with
      | ⟨0, _⟩ => show (r.val * 32 + e.val) / 2048 = r.val / 64; omega
      | ⟨1, _⟩ => show (r.val * 32 + e.val) / 32 % 64 = r.val % 64; omega
      | ⟨2, _⟩ => show (r.val * 32 + e.val) % 32 = e.val; omega)
  rw [hi]
  unfold key
  by_cases h : e.val < 16
  · rw [dif_pos h]
    refine (concatenate_pair_apply_left (t := S32x64x32) (s₁ := S32x64x16) (s₂ := S32x64x16) 2 _ (val_main_v64 (F := Ideal) x0 x1 x2) _ _ rfl
      (ix3 (sequence r) (position r) (⟨e.val, h⟩ : Fin 16)) fun b => match b with | ⟨0, _⟩ => rfl | ⟨1, _⟩ => rfl | ⟨2, _⟩ => rfl).trans ?_
    rw [val_main_v59_apply, val_main_v56_apply, val_main_v58_apply, first_apply, second_apply, val_main_v55_apply, val_main_v57_apply,
      val_main_v50_apply, val_main_v52_apply]
    refine congrArg₂ (· - ·) (congrArg (_ * ·) ?_) (congrArg (_ * ·) ?_) <;> exact congrArg _ (Shape.idx_ext₂ rfl rfl)
  · rw [dif_neg h]
    refine (concatenate_pair_apply_right (t := S32x64x32) (s₁ := S32x64x16) (s₂ := S32x64x16) 2 (val_main_v59 (F := Ideal) x0 x1 x2) _ _ _ rfl rfl
      (ix3 (sequence r) (position r) (⟨e.val - 16, by omega⟩ : Fin 16))
      (fun b => match b with | ⟨0, _⟩ => fun _ => rfl | ⟨1, _⟩ => fun _ => rfl | ⟨2, _⟩ => fun h => absurd rfl h)
      (by show e.val - 16 + 16 = e.val; omega)).trans ?_
    rw [val_main_v64_apply, val_main_v61_apply, val_main_v63_apply, first_apply, second_apply, val_main_v60_apply, val_main_v62_apply,
      val_main_v50_apply, val_main_v52_apply]
    refine congrArg₂ (· + ·) (congrArg (_ * ·) ?_) (congrArg (_ * ·) ?_) <;> exact congrArg _ (Shape.idx_ext₂ rfl rfl)

end Cert.ProjSampleRefIdeal.Rows

end
-- ==== Proof.ProjSampleValue.lean ====
/- The sample's input projection: the kernel's latents, rotated keys and state-space inputs equal the reference's, entry for
   entry. Its body is the one of the longer call, so what a block holds is read from Proof/ProjKernel.lean. -/
module

public import proofs.«01_k».proof.Defs
public import proofs.«01_k».proof.Proof.ProjValue
public import proofs.«01_k».proof.Proof.ProjSampleReference
public import proofs.«01_k».proof.Proof.Gen.ProjSampleIdeal.Value
public import proofs.«01_k».proof.Proof.Gen.Pre_proj_sample_inputs
public import proofs.«01_k».proof.Proof.Gen.ProjSampleRefIdeal.Run
public import Idealize.ShloMosaic.Lib.Pipeline.ValueKit.Geometry

@[expose] public section

set_option maxRecDepth 65536

noncomputable section

namespace Cert.ProjSampleIdeal.Rows

open Idealize.ShloMosaic hiding ix1 ix2 ix3 ix4 eq_ix2
open Cert.ProjSampleIdeal Cert.ProjSampleIdeal.Gen Cert.PostSpec Cert.ProjSpec Idealize.ShloMosaic.TcCoe Idealize.ShloMosaic.ValueIdx Idealize.SL.Sem
open Idealize.ShloMosaic.Pipeline (Dat)
open Cert.ProjIdeal.Rows (IsReal matrix wide wide_eq twice_apply)
open Cert.ProjSampleRefIdeal.Rows (cosine sine position)

/-- A table of the sample's sixty-four positions: sixteen columns written twice, then zeros. -/
def table (a : FVec Ideal S64x16 .f32) : FVec Ideal S64x128 .f32 :=
  concatenate S64x128 1
    [⟨S64x32, shapeCast S64x32 (broadcastInDim S1x64x2x16 ![0, 1, 2, 3] bcast_S1x64x1x16_S1x64x2x16_0_1_2_3
        (shapeCast S1x64x1x16 a shapeCasts_S64x16_S1x64x1x16)) shapeCasts_S1x64x2x16_S64x32⟩,
      ⟨S64x96, broadcastInDim S64x96 ![] bcast_S_S64x96 (constant (F := Ideal) S_ .f32 0x00000000#32)⟩]
    concatenates_S64x32_S64x96_S64x128_d1

/-- The table the kernel receives: that of the positions, sixteen times. -/
def tiled (a : FVec Ideal S64x16 .f32) : FVec Ideal S1024x128 .f32 :=
  shapeCast S1024x128 (broadcastInDim S16x64x1x128 ![0, 1, 2, 3] bcast_S1x64x1x128_S16x64x1x128_0_1_2_3
    (shapeCast S1x64x1x128 (table a) shapeCasts_S64x128_S1x64x1x128)) shapeCasts_S16x64x1x128_S1024x128

/-- The kernel's table read at one of the key's columns: the position is the row modulo sixty-four. -/
theorem tiled_apply (a : FVec Ideal S64x16 .f32) (r : Fin 1024) (d : Fin 32) :
    tiled a (ix2 r ⟨d.val, by omega⟩) = a (ix2 ⟨r.val % 64, by omega⟩ ⟨d.val % 16, by omega⟩) := by
  unfold tiled
  rw [shapeCast_apply (s := S16x64x1x128) (t := S1024x128) _ _ (ix2 r ⟨d.val, by omega⟩)
    (ix4 (⟨r.val / 64, by omega⟩ : Fin 16) (⟨r.val % 64, by omega⟩ : Fin 64) (0 : Fin 1) (⟨d.val, by omega⟩ : Fin 128)) (by
      rw [Shape.rowMajor_val_four, Shape.rowMajor_val_two]
      show ((r.val / 64 * 64 + r.val % 64) * 1 + 0) * 128 + d.val = r.val * 128 + d.val; omega)]
  rw [broadcastInDim_apply (s := S1x64x1x128) (t := S16x64x1x128) _ _ _ _ (ix4 (0 : Fin 1) (⟨r.val % 64, by omega⟩ : Fin 64) (0 : Fin 1) (⟨d.val, by omega⟩ : Fin 128))
    (fun b => match b with | ⟨0, _⟩ => rfl | ⟨1, _⟩ => rfl | ⟨2, _⟩ => rfl | ⟨3, _⟩ => rfl)]
  rw [shapeCast_apply (s := S64x128) (t := S1x64x1x128) _ _ _ (ix2 (⟨r.val % 64, by omega⟩ : Fin 64) (⟨d.val, by omega⟩ : Fin 128)) (by
    rw [Shape.rowMajor_val_four, Shape.rowMajor_val_two]
    show r.val % 64 * 128 + d.val = ((0 * 64 + r.val % 64) * 1 + 0) * 128 + d.val; omega)]
  exact twice_apply a _ _ _ _ _ (⟨r.val % 64, by omega⟩ : Fin 64) d

section Body

variable (x0 : Vec Ideal S1024x1024 .f32) (x1 x2 x3 x4 x5 : Vec Ideal S1024x128 .f32) (x6 : Vec Ideal S1x1024 .f32) (x7 : Vec Ideal S1024x1792 .bf16)
  (x8 : Vec Ideal S1x768 .f32) (x9 : Vec Ideal S768x1024 .bf16) (x10 : Vec Ideal S1x256 .f32) (x11 : Vec Ideal S256x1024 .bf16) (x12 : Vec Ideal S1024x256 .bf16)

/-- The block of latents is the longer call's. -/
theorem latent_same : out0_14 (F := Ideal) x0 x1 x2 x3 x4 x5 x6 x7 x8 x9 x10 x11 x12
    = Cert.ProjIdeal.Gen.out0_14 (F := Ideal) x0 x1 x2 x3 x4 x5 x6 x7 x8 x9 x10 x11 x12 := rfl

/-- The block of rotated keys is the longer call's. -/
theorem key_same : out0_15 (F := Ideal) x0 x1 x2 x3 x4 x5 x6 x7 x8 x9 x10 x11 x12
    = Cert.ProjIdeal.Gen.out0_15 (F := Ideal) x0 x1 x2 x3 x4 x5 x6 x7 x8 x9 x10 x11 x12 := rfl

/-- The block of state-space inputs is the longer call's. -/
theorem input_same : out0_16 (F := Ideal) x0 x1 x2 x3 x4 x5 x6 x7 x8 x9 x10 x11 x12
    = Cert.ProjIdeal.Gen.out0_16 (F := Ideal) x0 x1 x2 x3 x4 x5 x6 x7 x8 x9 x10 x11 x12 := rfl

end Body

variable (m : (ℓ : Loc nD τ sig) → Buf (Elt Ideal) ℓ)

/-- The normalisation weights, as the kernel receives them. -/
theorem V_v0 (c : Dev nD) (k : Fin 1024) : (V m c main_v0 : FVec Ideal S1x1024 .f32) (ix2 0 k) = m ((c : Thread nD τ).loc main_arg1) (ix1 k) := by
  have h : (V m c main_v0 : FVec Ideal S1x1024 .f32) = broadcastInDim S1x1024 ![1] bcast_S1024_S1x1024_1 (m ((c : Thread nD τ).loc main_arg1)) := by
    unfold V; after_results_simp
  rw [h]
  exact broadcastInDim_apply _ _ _ _ (ix1 k) fun a => match a with | ⟨0, _⟩ => rfl

/-- The latent's normalisation weights, as the kernel receives them. -/
theorem V_v20 (c : Dev nD) (k : Fin 256) : (V m c main_v20 : FVec Ideal S1x256 .f32) (ix2 0 k) = m ((c : Thread nD τ).loc main_arg5) (ix1 k) := by
  have h : (V m c main_v20 : FVec Ideal S1x256 .f32) = broadcastInDim S1x256 ![1] bcast_S256_S1x256_1 (m ((c : Thread nD τ).loc main_arg5)) := by
    unfold V; after_results_simp
  rw [h]
  exact broadcastInDim_apply _ _ _ _ (ix1 k) fun a => match a with | ⟨0, _⟩ => rfl

/-- The matrix, as the kernel receives it: arranged as in the longer call. -/
theorem V_v10 (c : Dev nD) : (V m c main_v10 : FVec Ideal S1024x1792 .bf16) = matrix (m ((c : Thread nD τ).loc main_arg2)) := by
  unfold V; after_results_simp; rfl

/-- The table of cosines, as the kernel receives it. -/
theorem V_v85 (c : Dev nD) : (V m c main_v85 : FVec Ideal S1024x128 .f32) = tiled (Cert.ProjSampleRefIdeal.Read.val_main_v49 (F := Ideal)) := by
  unfold V; after_results_simp; rfl

/-- The table of sines, as the kernel receives it. -/
theorem V_v88 (c : Dev nD) : (V m c main_v88 : FVec Ideal S1024x128 .f32) = tiled (Cert.ProjSampleRefIdeal.Read.val_main_v51 (F := Ideal)) := by
  unfold V; after_results_simp; rfl

/-- The latents, from the sample's rows. -/
def latents (c : Dev nD) : FVec Ideal S2048x256 .f32 := fun i =>
  latent (fun k => m ((c : Thread nD τ).loc main_arg0) (ix2 (i 0) k)) (fun k => m ((c : Thread nD τ).loc main_arg1) (ix1 k))
    (fun k e => m ((c : Thread nD τ).loc main_arg2) (ix2 k e)) (fun k => m ((c : Thread nD τ).loc main_arg5) (ix1 k)) (i 1)

/-- The rotated keys, from the sample's rows. -/
def keys (c : Dev nD) : FVec Ideal S2048x32 .f32 := fun i =>
  key (fun k => m ((c : Thread nD τ).loc main_arg0) (ix2 (i 0) k)) (fun k => m ((c : Thread nD τ).loc main_arg1) (ix1 k))
    (fun k e => m ((c : Thread nD τ).loc main_arg2) (ix2 k e)) (cosine (position (i 0))) (sine (position (i 0))) (i 1)

/-- The state-space inputs, from the sample's rows. -/
def inputs (c : Dev nD) : FVec Ideal S2048x512 .f32 := fun i =>
  ssmInput (fun k => m ((c : Thread nD τ).loc main_arg0) (ix2 (i 0) k)) (fun k => m ((c : Thread nD τ).loc main_arg1) (ix1 k))
    (fun k e => m ((c : Thread nD τ).loc main_arg2) (ix2 k e)) (i 1)

/-- Point `t` takes block `t` of the rows. -/
theorem index_rows : ∀ t : Fin cfg0.N, win0_0.index t = ![t.val, 0] ∧ win0_14.index t = ![t.val, 0] ∧ win0_15.index t = ![t.val, 0]
    ∧ win0_16.index t = ![t.val, 0] :=
  (by decide +kernel : ∀ t : Fin grid0.N, _)

/-- Every point takes the whole tables and the whole weights. -/
theorem index_whole : ∀ t : Fin cfg0.N, win0_4.index t = ![0, 0] ∧ win0_5.index t = ![0, 0] ∧ win0_6.index t = ![0, 0] ∧ win0_7.index t = ![0, 0]
    ∧ win0_10.index t = ![0, 0] :=
  (by decide +kernel : ∀ t : Fin grid0.N, _)

/-- A block of rows read at an entry: row `t · 1024 + r` of the array. -/
theorem rows_apply (c : Dev nD) (t : Fin cfg0.N) (r : Fin 1024) (R : Fin 2048) (hR : R.val = t.val * 1024 + r.val) (k : Fin 1024) :
    iblk m c 0 t (ix2 r k) = m ((c : Thread nD τ).loc main_arg0) (ix2 R k) := by
  have e := (index_rows t).1
  have h := congrFun (V_main_arg0 m c) (ix2 R k)
  rw [← h]
  blk_simp [iblk]
  refine congrArg (V m c main_arg0) (Shape.idx_ext₂ ?_ ?_)
  · blk_simp [e]; exact hR.symm
  · blk_simp [e]

/-- The tables' blocks are the tables. -/
theorem tables_eq (c : Dev nD) (t : Fin cfg0.N) : iblk m c 4 t = V m c main_v85 ∧ iblk m c 5 t = V m c main_v88 := by
  obtain ⟨e4, e5, _⟩ := index_whole t
  constructor <;> funext x <;> blk_simp [iblk]
  · exact congrArg (V m c main_v85) (Shape.idx_ext₂ (by blk_simp [e4]) (by blk_simp [e4]))
  · exact congrArg (V m c main_v88) (Shape.idx_ext₂ (by blk_simp [e5]) (by blk_simp [e5]))

/-- The weights' blocks are the weights. -/
theorem weights_eq (c : Dev nD) (t : Fin cfg0.N) :
    iblk m c 6 t = V m c main_v0 ∧ iblk m c 7 t = V m c main_v10 ∧ iblk m c 10 t = V m c main_v20 := by
  obtain ⟨_, _, e6, e7, e10⟩ := index_whole t
  refine ⟨?_, ?_, ?_⟩ <;> funext x <;> blk_simp [iblk]
  · exact congrArg (V m c main_v0) (Shape.idx_ext₂ (by blk_simp [e6]) (by blk_simp [e6]))
  · exact congrArg (V m c main_v10) (Shape.idx_ext₂ (by blk_simp [e7]) (by blk_simp [e7]))
  · exact congrArg (V m c main_v20) (Shape.idx_ext₂ (by blk_simp [e10]) (by blk_simp [e10]))

/-- The array of latents after the run. -/
theorem final_latents (c : Dev nD) : (dats m 0 c).arrAt 14 cfg0.N = latents m c := by
  refine (dats m 0 c).arrAt_eq_of_covers 14 _ (by decide +kernel) fun t hf y => ?_
  blk_simp
  rw [after0_14, latent_same]
  obtain ⟨e6, e7, e10⟩ := weights_eq m c t
  rw [e6, e7, e10, V_v10]
  have e := (index_rows t).2.1
  have hy := eq_ix2 (n0 := 1024) (n1 := 256) y
  have h0 : (((win0_14.blk t).view.emb y 0 : Fin _) : Nat) = t.val * 1024 + (y 0 : Nat) := by blk_simp [e]
  have h1 : ((win0_14.blk t).view.emb y 1 : Fin 256) = y 1 := Fin.ext (by blk_simp [e])
  have hr := rows_apply m c t (y 0) ((win0_14.blk t).view.emb y 0) h0
  refine (congrArg _ hy).trans ((Cert.ProjIdeal.Rows.latent_apply _ _ _ _ _ _ _ _ _ _ _ _ _ (y 0) (y 1)).trans ?_)
  unfold latents latent
  rw [h1]
  refine congrArg₂ (fun f g => rms c256 f g (y 1)) (funext fun d => ?_) (funext (V_v20 m c))
  exact wide_eq _ _ _ _ _ _ _ _ hr (V_v0 m c) fun k => Cert.ProjIdeal.Rows.matrix_latent _ k d

/-- The array of state-space inputs after the run. -/
theorem final_inputs (c : Dev nD) : (dats m 0 c).arrAt 16 cfg0.N = inputs m c := by
  refine (dats m 0 c).arrAt_eq_of_covers 16 _ (by decide +kernel) fun t hf y => ?_
  blk_simp
  rw [after0_16, input_same]
  obtain ⟨e6, e7, _⟩ := weights_eq m c t
  rw [e6, e7, V_v10]
  have e := (index_rows t).2.2.2
  have hy := eq_ix2 (n0 := 1024) (n1 := 512) y
  have h0 : (((win0_16.blk t).view.emb y 0 : Fin _) : Nat) = t.val * 1024 + (y 0 : Nat) := by blk_simp [e]
  have h1 : ((win0_16.blk t).view.emb y 1 : Fin 512) = y 1 := Fin.ext (by blk_simp [e])
  have hr := rows_apply m c t (y 0) ((win0_16.blk t).view.emb y 0) h0
  refine (congrArg _ hy).trans ((Cert.ProjIdeal.Rows.input_apply _ _ _ _ _ _ _ _ _ _ _ _ _ (y 0) (y 1)).trans ?_)
  unfold inputs ssmInput
  rw [h1]
  exact wide_eq _ _ _ _ _ _ _ _ hr (V_v0 m c) fun k => Cert.ProjIdeal.Rows.matrix_input _ k (y 1)

/-- The array of rotated keys after the run, when the weights that are negated and their factors are finite. -/
theorem final_keys (c : Dev nD) (hg : ∀ k, IsReal (m ((c : Thread nD τ).loc main_arg1) (ix1 k)))
    (hw : ∀ k (e : Fin 16), IsReal (m ((c : Thread nD τ).loc main_arg2) (ix2 k ⟨1040 + e.val, by omega⟩))) :
    (dats m 0 c).arrAt 15 cfg0.N = keys m c := by
  refine (dats m 0 c).arrAt_eq_of_covers 15 _ (by decide +kernel) fun t hf y => ?_
  blk_simp
  rw [after0_15, key_same]
  obtain ⟨e4, e5⟩ := tables_eq m c t
  obtain ⟨e6, e7, _⟩ := weights_eq m c t
  rw [e4, e5, e6, e7, V_v10, V_v85, V_v88]
  have e := (index_rows t).2.2.1
  have hy := eq_ix2 (n0 := 1024) (n1 := 32) y
  have h0 : (((win0_15.blk t).view.emb y 0 : Fin _) : Nat) = t.val * 1024 + (y 0 : Nat) := by blk_simp [e]
  have h1 : ((win0_15.blk t).view.emb y 1 : Fin 32) = y 1 := Fin.ext (by blk_simp [e])
  have hr := rows_apply m c t (y 0) ((win0_15.blk t).view.emb y 0) h0
  have hlt : (y 0 : Nat) < 1024 := (y 0).isLt
  have hp : position ((win0_15.blk t).view.emb y 0) = ⟨(y 0 : Nat) % 64, by omega⟩ := Fin.ext (by
    show (((win0_15.blk t).view.emb y 0 : Fin _) : Nat) % 64 = (y 0 : Nat) % 64
    rw [h0]; omega)
  refine (congrArg _ hy).trans ((Cert.ProjIdeal.Rows.key_apply _ _ _ _ _ _ _ _ _ _ _ _ _ (y 0) (y 1)).trans ?_)
  unfold keys
  rw [h1, hp, funext hr, funext (V_v0 m c)]
  exact (congrArg₂ (· + ·) (congrArg (_ * ·) (tiled_apply _ _ (y 1))) (congrArg (_ * ·) (tiled_apply _ _ (y 1)))).trans
    (Cert.ProjIdeal.Rows.key_eq _ _ _ (cosine _) (sine _) (y 1) hg hw)

end Cert.ProjSampleIdeal.Rows

namespace Cert.Proof

open Idealize.ShloMosaic hiding ix1 ix2 ix3 ix4 eq_ix2
open Idealize.ShloMosaic.TcCoe Idealize.ShloMosaic.ValueIdx Idealize.SL.Sem

/-- The stated condition says that the normalisation weights and the negated columns of the matrix are finite: it is that of
    the longer call, on the arguments they share. -/
theorem proj_sample_finite (x0 : FVec Ideal Cert.Pre_proj_sample_inputs.S2048x1024 .f32) (x1 : FVec Ideal Cert.Pre_proj_sample_inputs.S1024 .f32)
    (x2 : FVec Ideal Cert.Pre_proj_sample_inputs.S1024x1568 .f32) (x3 : FVec Ideal Cert.Pre_proj_sample_inputs.S768 .f32)
    (x4 : FVec Ideal Cert.Pre_proj_sample_inputs.S768x768 .f32) (x5 : FVec Ideal Cert.Pre_proj_sample_inputs.S256 .f32)
    (x6 : FVec Ideal Cert.Pre_proj_sample_inputs.S256x1024 .f32)
    (h : (Cert.Pre_proj_sample_inputs.fn (F := Ideal) x0 x1 x2 x3 x4 x5 x6).1 = (fun _ => 1#1)
      ∧ (Cert.Pre_proj_sample_inputs.fn (F := Ideal) x0 x1 x2 x3 x4 x5 x6).2 = fun _ => 1#1) :
    (∀ k : Fin 1024, (x1 (ix1 k) : EReal) ≠ ⊤ ∧ (x1 (ix1 k) : EReal) ≠ ⊥)
    ∧ ∀ (k : Fin 1024) (e : Fin 16), (x2 (ix2 k ⟨1040 + e.val, by omega⟩) : EReal) ≠ ⊤ ∧ (x2 (ix2 k ⟨1040 + e.val, by omega⟩) : EReal) ≠ ⊥ :=
  ⟨proj_weights (fun _ => (0 : EReal)) x1 x2 x3 x4 x5 x6 h.1, proj_columns (fun _ => (0 : EReal)) x1 x2 x3 x4 x5 x6 h.2⟩

/-- The kernel of the sample's input projection computes the reference's latents, rotated keys and state-space inputs. -/
theorem proj_sample_value : Cert.algebraic_ProjSampleIdeal_ProjSampleRefIdeal_pre_proj_sample_inputs := by
  intro m ρ m' ρ' hpre hargs
  refine ⟨fun c => Cert.ProjSampleIdeal.Rows.latents m c, fun c => Cert.ProjSampleIdeal.Rows.keys m c, fun c => Cert.ProjSampleIdeal.Rows.inputs m c, ?_, ?_⟩
  · refine (θ_run Cert.ProjSampleIdeal.defs _ _).mono (fun r h c => ?_) (Cert.ProjSampleIdeal.Value.run_blocks m ρ)
    obtain ⟨_, h1, h2, h3, hk⟩ := h c
    have hf := proj_sample_finite _ _ _ _ _ _ _ (hpre c)
    exact ⟨h1.trans (Cert.ProjSampleIdeal.Rows.final_latents m c), h2.trans (Cert.ProjSampleIdeal.Rows.final_keys m c hf.1 hf.2),
      h3.trans (Cert.ProjSampleIdeal.Rows.final_inputs m c), hk⟩
  · refine (θ_run Cert.ProjSampleRefIdeal.defs _ _).mono (fun r h c => ?_) (Cert.ProjSampleRefIdeal.Value.run m' ρ')
    obtain ⟨h1, h2, h3, hk⟩ := h c
    obtain ⟨a0, a1, a2, a3, a4, a5, a6⟩ := hargs c
    refine ⟨h1.trans ?_, h2.trans ?_, h3.trans ?_, hk⟩
    · rw [Cert.ProjSampleRefIdeal.Read.val_main_v30_eq, a0, a1, a2, a5]
      funext i
      exact (congrArg _ (eq_ix2 (n0 := 2048) (n1 := 256) i)).trans (Cert.ProjSampleRefIdeal.Rows.latent_apply _ _ _ _ (i 0) (i 1))
    · rw [Cert.ProjSampleRefIdeal.Read.val_main_v66_eq, a0, a1, a2]
      funext i
      exact (congrArg _ (eq_ix2 (n0 := 2048) (n1 := 32) i)).trans (Cert.ProjSampleRefIdeal.Rows.key_apply _ _ _ (i 0) (i 1))
    · rw [Cert.ProjSampleRefIdeal.Read.val_main_v17_eq, a0, a1, a2]
      funext i
      exact (congrArg _ (eq_ix2 (n0 := 2048) (n1 := 512) i)).trans (Cert.ProjSampleRefIdeal.Rows.input_apply _ _ _ (i 0) (i 1))

end Cert.Proof

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_attn_inputs
public import proofs.«01_k».proof.Proof.Gen.AttnRefIdeal.Run
public import proofs.«01_k».proof.Proof.Gen.AttnRefIdeal.Read
public import proofs.«01_k».proof.Proof.Gen.Post.Frame
public import proofs.«01_k».proof.Proof.PostValue
public import proofs.«01_k».proof.Proof.AttnBody
public import proofs.«01_k».proof.Proof.AttnIdealFrame
public import proofs.«01_k».proof.Proof.AttnIdealValue
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Pre_proj_inputs
public import proofs.«01_k».proof.Proof.ProjValue
public import proofs.«01_k».proof.Proof.Gen.ProjSample.Frame
public import proofs.«01_k».proof.Proof.Gen.ProjSampleIdeal.Frame
public import proofs.«01_k».proof.Proof.Gen.ProjSampleIdeal.Value
public import proofs.«01_k».proof.Proof.Gen.ProjSampleRefIdeal.Run
public import proofs.«01_k».proof.Proof.Gen.ProjSampleRefIdeal.Read
public import proofs.«01_k».proof.Proof.Gen.Pre_proj_sample_inputs
public import proofs.«01_k».proof.Proof.ProjSampleValue
public import Idealize.ShloMosaic.Lib.Quiescent

@[expose] public section

noncomputable section

namespace Cert.Proof

open Idealize.ShloMosaic Idealize.SL.Sem

/-- The reference of the last call runs, keeps its arguments, and has no semaphore. -/
theorem post_reference_frame : Cert.quiescent_PostRefIdeal := fun m ρ _ =>
  (θ_run Cert.PostRefIdeal.defs _ _).mono (fun r h => ⟨fun c => (h c).2, sem_eq_zero_of_no_sems (by decide) r.2⟩)
    (Cert.PostRefIdeal.Value.run m ρ)

/-- The reference of the attention runs, keeps its arguments, and has no semaphore. -/
theorem attn_reference_frame : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run m ρ)

/-- The reference of the input projection runs, keeps its arguments, and has no semaphore. -/
theorem proj_reference_frame : Cert.quiescent_ProjRefIdeal := fun m ρ _ =>
  (θ_run Cert.ProjRefIdeal.defs _ _).mono (fun r h => ⟨fun c => (h c).2.2.2, sem_eq_zero_of_no_sems (by decide) r.2⟩)
    (Cert.ProjRefIdeal.Value.run m ρ)

/-- The reference of the sample's input projection runs, keeps its arguments, and has no semaphore. -/
theorem proj_sample_reference_frame : Cert.quiescent_ProjSampleRefIdeal := fun m ρ _ =>
  (θ_run Cert.ProjSampleRefIdeal.defs _ _).mono (fun r h => ⟨fun c => (h c).2.2.2, sem_eq_zero_of_no_sems (by decide) r.2⟩)
    (Cert.ProjSampleRefIdeal.Value.run m ρ)

/-- Everything the certificate claims. -/
theorem claim : Cert.Claim :=
  ⟨Cert.Attn.Gen.facts, Cert.AttnIdeal.Gen.facts, Cert.AttnRefIdeal.Gen.facts, Cert.Post.Gen.facts, Cert.PostIdeal.Gen.facts, Cert.PostRefIdeal.Gen.facts,
    Cert.Proj.Gen.facts, Cert.ProjIdeal.Gen.facts, Cert.ProjRefIdeal.Gen.facts, Cert.ProjSample.Gen.facts, Cert.ProjSampleIdeal.Gen.facts, Cert.ProjSampleRefIdeal.Gen.facts,
    Cert.Pre_attn_inputs.Gen.facts, Cert.Pre_proj_inputs.Gen.facts, Cert.Pre_proj_sample_inputs.Gen.facts,
    fun m ρ _ => Cert.Attn.Body.frame m ρ, fun m ρ _ => Cert.AttnIdeal.Body.frame m ρ, fun m ρ _ => Cert.AttnIdeal.Body.frame m ρ,
    attn_reference_frame, fun m ρ _ => attn_reference_frame m ρ trivial,
    fun m ρ _ => Cert.Post.Gen.frame m ρ, fun m ρ _ => Cert.PostIdeal.Gen.frame m ρ, post_reference_frame,
    fun m ρ _ => Cert.Proj.Gen.frame m ρ, fun m ρ _ => Cert.ProjIdeal.Gen.frame m ρ, fun m ρ _ => Cert.ProjIdeal.Gen.frame m ρ,
    proj_reference_frame, fun m ρ _ => proj_reference_frame m ρ trivial,
    fun m ρ _ => Cert.ProjSample.Gen.frame m ρ, fun m ρ _ => Cert.ProjSampleIdeal.Gen.frame m ρ, fun m ρ _ => Cert.ProjSampleIdeal.Gen.frame m ρ,
    proj_sample_reference_frame, fun m ρ _ => proj_sample_reference_frame m ρ trivial,
    IdealRules.named_const.statement Cert.AttnIdeal.κ "mask" .f32 0xF149F2CA#32 ⊥ rfl, attn_value, trivial, post_value, trivial, proj_value, trivial, proj_sample_value⟩

end Cert.Proof

end
